-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale" .f32 0x3DB504F3#32 (((Real.sqrt 128)⁻¹ : ℝ) : EReal)
  ∧ IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 2048, 8, 128]⟩ ⟨4, ![1, 2048, 32, 128]⟩ 2 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 8, 128]⟩ ⟨4, ![1, 2048, 32, 128]⟩ 2 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x2048x1024 : Shape := ⟨3, ![1, 2048, 1024]⟩
abbrev S1024x4096 : Shape := ⟨2, ![1024, 4096]⟩
abbrev S1x2048x8x128 : Shape := ⟨4, ![1, 2048, 8, 128]⟩
abbrev S4096x1024 : Shape := ⟨2, ![4096, 1024]⟩
abbrev S_ : Shape := ⟨0, ![]⟩

class Facts : Prop where
  bcast_S_S1x2048x1024 : S_.BroadcastsInDim S1x2048x1024 (![] : Fin 0 → Fin S1x2048x1024.rank)
  bcast_S_S1024x4096 : S_.BroadcastsInDim S1024x4096 (![] : Fin 0 → Fin S1024x4096.rank)
  bcast_S_S1x2048x8x128 : S_.BroadcastsInDim S1x2048x8x128 (![] : Fin 0 → Fin S1x2048x8x128.rank)

variable [Facts]

def fn {F : FTy → Type} [FloatOps F] (main_arg0 : FVec F S1x2048x1024 .f32) (main_arg1 : FVec F S1024x4096 .f32) (main_arg2 : FVec F S1x2048x8x128 .f32) (main_arg3 : FVec F S1x2048x8x128 .f32) (main_arg4 : FVec F S4096x1024 .f32) : IVec S1x2048x1024 1 × IVec S1024x4096 1 × IVec S1x2048x8x128 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1024x4096 .f32 := Host.absf main_arg1
  let main_cst_0 : FVec F S_ .f32 := constant S_ .f32 0x7F800000#32
  let main_v4 : FVec F S1024x4096 .f32 := broadcastInDim S1024x4096 ![] bcast_S_S1024x4096 main_cst_0
  let main_v5 : IVec S1024x4096 1 := cmpf .olt main_v3 main_v4
  let main_v6 : FVec F S1x2048x8x128 .f32 := Host.absf main_arg2
  let main_cst_1 : FVec F S_ .f32 := constant S_ .f32 0x7F800000#32
  let main_v7 : FVec F S1x2048x8x128 .f32 := broadcastInDim S1x2048x8x128 ![] bcast_S_S1x2048x8x128 main_cst_1
  let main_v8 : IVec S1x2048x8x128 1 := cmpf .olt main_v6 main_v7
  (main_v2, main_v5, main_v8)
-- ==== Pre_finite_ReferenceIdeal.lean ====
abbrev S1x2048x1024 : Shape := ⟨3, ![1, 2048, 1024]⟩
abbrev S1024x4096 : Shape := ⟨2, ![1024, 4096]⟩
abbrev S1x2048x32x128 : Shape := ⟨4, ![1, 2048, 32, 128]⟩
abbrev S4096x1024 : Shape := ⟨2, ![4096, 1024]⟩
abbrev S_ : Shape := ⟨0, ![]⟩

class Facts : Prop where
  bcast_S_S1x2048x1024 : S_.BroadcastsInDim S1x2048x1024 (![] : Fin 0 → Fin S1x2048x1024.rank)
  bcast_S_S1024x4096 : S_.BroadcastsInDim S1024x4096 (![] : Fin 0 → Fin S1024x4096.rank)
  bcast_S_S1x2048x32x128 : S_.BroadcastsInDim S1x2048x32x128 (![] : Fin 0 → Fin S1x2048x32x128.rank)

variable [Facts]

def fn {F : FTy → Type} [FloatOps F] (main_arg0 : FVec F S1x2048x1024 .f32) (main_arg1 : FVec F S1024x4096 .f32) (main_arg2 : FVec F S1x2048x32x128 .f32) (main_arg3 : FVec F S1x2048x32x128 .f32) (main_arg4 : FVec F S4096x1024 .f32) : IVec S1x2048x1024 1 × IVec S1024x4096 1 × IVec S1x2048x32x128 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1024x4096 .f32 := Host.absf main_arg1
  let main_cst_0 : FVec F S_ .f32 := constant S_ .f32 0x7F800000#32
  let main_v4 : FVec F S1024x4096 .f32 := broadcastInDim S1024x4096 ![] bcast_S_S1024x4096 main_cst_0
  let main_v5 : IVec S1024x4096 1 := cmpf .olt main_v3 main_v4
  let main_v6 : FVec F S1x2048x32x128 .f32 := Host.absf main_arg2
  let main_cst_1 : FVec F S_ .f32 := constant S_ .f32 0x7F800000#32
  let main_v7 : FVec F S1x2048x32x128 .f32 := broadcastInDim S1x2048x32x128 ![] bcast_S_S1x2048x32x128 main_cst_1
  let main_v8 : IVec S1x2048x32x128 1 := cmpf .olt main_v6 main_v7
  (main_v2, main_v5, main_v8)
-- ==== Kernel.lean ====
abbrev S1x2048x1024 : Shape := ⟨3, ![1, 2048, 1024]⟩
abbrev S1024x4096 : Shape := ⟨2, ![1024, 4096]⟩
abbrev S1x2048x8x128 : Shape := ⟨4, ![1, 2048, 8, 128]⟩
abbrev S4096x1024 : Shape := ⟨2, ![4096, 1024]⟩
abbrev S2048x1024 : Shape := ⟨2, ![2048, 1024]⟩
abbrev S1024x1024 : Shape := ⟨2, ![1024, 1024]⟩
abbrev S3x256x1024 : Shape := ⟨3, ![3, 256, 1024]⟩
abbrev S3 : Shape := ⟨1, ![3]⟩
abbrev S16 : Shape := ⟨1, ![16]⟩
abbrev S9 : Shape := ⟨1, ![9]⟩
abbrev S1 : Shape := ⟨1, ![1]⟩
abbrev S_ : Shape := ⟨0, ![]⟩
abbrev S2048x128 : Shape := ⟨2, ![2048, 128]⟩
abbrev S1x2048x1x128 : Shape := ⟨4, ![1, 2048, 1, 128]⟩
abbrev S256x1024 : Shape := ⟨2, ![256, 1024]⟩
abbrev S256x512 : Shape := ⟨2, ![256, 512]⟩
abbrev S512x128 : Shape := ⟨2, ![512, 128]⟩
abbrev S256x128 : Shape := ⟨2, ![256, 128]⟩
abbrev S256 : Shape := ⟨1, ![256]⟩
abbrev S256x1 : Shape := ⟨2, ![256, 1]⟩
abbrev S1x256x1024 : Shape := ⟨3, ![1, 256, 1024]⟩
abbrev S128x1024 : Shape := ⟨2, ![128, 1024]⟩

abbrev nBuf : Space → Nat
  | .hbm => 6
  | .vmem => 8
  | .smem => 0
  | _ => 0

abbrev bufTy : (tb : Table) → Fin (tcTables nBuf tb) → BufTy
  | .hbm, ⟨0, _⟩ => ⟨S1x2048x1024, .f32⟩
  | .hbm, ⟨1, _⟩ => ⟨S1024x4096, .f32⟩
  | .hbm, ⟨2, _⟩ => ⟨S1x2048x8x128, .f32⟩
  | .hbm, ⟨3, _⟩ => ⟨S1x2048x8x128, .f32⟩
  | .hbm, ⟨4, _⟩ => ⟨S4096x1024, .f32⟩
  | .hbm, ⟨5, _⟩ => ⟨S2048x1024, .f32⟩
  | .local _ .vmem, ⟨0, _⟩ => ⟨S2048x1024, .f32⟩
  | .local _ .vmem, ⟨1, _⟩ => ⟨S2048x1024, .f32⟩
  | .local _ .vmem, ⟨2, _⟩ => ⟨S1024x1024, .f32⟩
  | .local _ .vmem, ⟨3, _⟩ => ⟨S1024x1024, .f32⟩
  | .local _ .vmem, ⟨4, _⟩ => ⟨S2048x1024, .f32⟩
  | .local _ .vmem, ⟨5, _⟩ => ⟨S2048x1024, .f32⟩
  | .local _ .vmem, ⟨6, _⟩ => ⟨S3x256x1024, .f32⟩
  | .local _ .vmem, ⟨7, _⟩ => ⟨S3x256x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 1 56 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v29 : BitVec 32 := Scalar.muli v2 c1024_i32
  ![0, v29.toNat]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_16 : BitVec 32 := 1024#32
  let v30 : BitVec 32 := Scalar.muli v2 c1024_i32_16
  let c0_i32_20 : BitVec 32 := 0#32
  ![v30.toNat, 0]
def k0_dev1 (d0 : Dev nD) : Nat :=
  let c0_i32_116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_115 : BitVec 32 := 1#32
  let v118 : BitVec 32 := Scalar.muli v13 c1_i32_115
  let v119 : BitVec 32 := Scalar.addi c0_i32_116 v118
  v119.toNat
def k0_dev2 (d0 : Dev nD) : Nat :=
  let c0_i32_119 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_118 : BitVec 32 := 1#32
  let v120 : BitVec 32 := Scalar.muli v24 c1_i32_118
  let v121 : BitVec 32 := Scalar.addi c0_i32_119 v120
  v121.toNat
def k0_mult1 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_244 : BitVec 32 := 4#32
  let c0_i32_245 : BitVec 32 := 0#32
  let v214 : BitVec 1 := Scalar.cmpi .eq c4_i32_244 c0_i32_245
  let c1_i32_246 : BitVec 32 := 1#32
  let v215 : BitVec 32 := Scalar.select v214 c1_i32_246 c4_i32_244
  let v216 : BitVec 32 := Scalar.remsi v2 v215
  let c0_i32_248 : BitVec 32 := 0#32
  let v218 : BitVec 1 := Scalar.cmpi .slt v216 c0_i32_248
  let c0_i32_249 : BitVec 32 := 0#32
  let v219 : BitVec 1 := Scalar.cmpi .slt v215 c0_i32_249
  let v220 : BitVec 1 := Scalar.xori v218 v219
  let c0_i32_247 : BitVec 32 := 0#32
  let v217 : BitVec 1 := Scalar.cmpi .ne v216 c0_i32_247
  let v221 : BitVec 1 := Scalar.andi v220 v217
  let v222 : BitVec 32 := Scalar.addi v216 v215
  let v223 : BitVec 32 := Scalar.select v221 v222 v216
  let c256_i32_250 : BitVec 32 := 256#32
  let v224 : BitVec 32 := Scalar.muli v223 c256_i32_250
  v224
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_244 : BitVec 32 := 4#32
  let c0_i32_245 : BitVec 32 := 0#32
  let v214 : BitVec 1 := Scalar.cmpi .eq c4_i32_244 c0_i32_245
  let c1_i32_246 : BitVec 32 := 1#32
  let v215 : BitVec 32 := Scalar.select v214 c1_i32_246 c4_i32_244
  let v216 : BitVec 32 := Scalar.remsi v2 v215
  let c0_i32_248 : BitVec 32 := 0#32
  let v218 : BitVec 1 := Scalar.cmpi .slt v216 c0_i32_248
  let c0_i32_249 : BitVec 32 := 0#32
  let v219 : BitVec 1 := Scalar.cmpi .slt v215 c0_i32_249
  let v220 : BitVec 1 := Scalar.xori v218 v219
  let c0_i32_247 : BitVec 32 := 0#32
  let v217 : BitVec 1 := Scalar.cmpi .ne v216 c0_i32_247
  let v221 : BitVec 1 := Scalar.andi v220 v217
  let v222 : BitVec 32 := Scalar.addi v216 v215
  let v223 : BitVec 32 := Scalar.select v221 v222 v216
  let c256_i32_250 : BitVec 32 := 256#32
  let v224 : BitVec 32 := Scalar.muli v223 c256_i32_250
  let v225 : BitVec 32 := v224
  let v226 : Index := Scalar.indexCast v225
  let c0_251 : Index := 0#32
  ![v226.toNat, 0]
def k0_mult2 (d0 : Dev nD) : BitVec 32 :=
  let c1536_i32 : BitVec 32 := 1536#32
  let c0_i32_253 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_244 : BitVec 32 := 4#32
  let c0_i32_245 : BitVec 32 := 0#32
  let v214 : BitVec 1 := Scalar.cmpi .eq c4_i32_244 c0_i32_245
  let c1_i32_246 : BitVec 32 := 1#32
  let v215 : BitVec 32 := Scalar.select v214 c1_i32_246 c4_i32_244
  let v216 : BitVec 32 := Scalar.remsi v2 v215
  let c0_i32_248 : BitVec 32 := 0#32
  let v218 : BitVec 1 := Scalar.cmpi .slt v216 c0_i32_248
  let c0_i32_249 : BitVec 32 := 0#32
  let v219 : BitVec 1 := Scalar.cmpi .slt v215 c0_i32_249
  let v220 : BitVec 1 := Scalar.xori v218 v219
  let c0_i32_247 : BitVec 32 := 0#32
  let v217 : BitVec 1 := Scalar.cmpi .ne v216 c0_i32_247
  let v221 : BitVec 1 := Scalar.andi v220 v217
  let v222 : BitVec 32 := Scalar.addi v216 v215
  let v223 : BitVec 32 := Scalar.select v221 v222 v216
  let c256_i32_250 : BitVec 32 := 256#32
  let v224 : BitVec 32 := Scalar.muli v223 c256_i32_250
  let v225 : BitVec 32 := v224
  let c128_i32_252 : BitVec 32 := 128#32
  let v229 : BitVec 32 := Scalar.subi v225 c128_i32_252
  let v230 : BitVec 32 := Scalar.maxsi c0_i32_253 v229
  let v231 : BitVec 32 := Scalar.minsi c1536_i32 v230
  v231
def k0_off4 (d0 : Dev nD) : Fin 2 → Nat :=
  let c1536_i32 : BitVec 32 := 1536#32
  let c0_i32_253 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_244 : BitVec 32 := 4#32
  let c0_i32_245 : BitVec 32 := 0#32
  let v214 : BitVec 1 := Scalar.cmpi .eq c4_i32_244 c0_i32_245
  let c1_i32_246 : BitVec 32 := 1#32
  let v215 : BitVec 32 := Scalar.select v214 c1_i32_246 c4_i32_244
  let v216 : BitVec 32 := Scalar.remsi v2 v215
  let c0_i32_248 : BitVec 32 := 0#32
  let v218 : BitVec 1 := Scalar.cmpi .slt v216 c0_i32_248
  let c0_i32_249 : BitVec 32 := 0#32
  let v219 : BitVec 1 := Scalar.cmpi .slt v215 c0_i32_249
  let v220 : BitVec 1 := Scalar.xori v218 v219
  let c0_i32_247 : BitVec 32 := 0#32
  let v217 : BitVec 1 := Scalar.cmpi .ne v216 c0_i32_247
  let v221 : BitVec 1 := Scalar.andi v220 v217
  let v222 : BitVec 32 := Scalar.addi v216 v215
  let v223 : BitVec 32 := Scalar.select v221 v222 v216
  let c256_i32_250 : BitVec 32 := 256#32
  let v224 : BitVec 32 := Scalar.muli v223 c256_i32_250
  let v225 : BitVec 32 := v224
  let c128_i32_252 : BitVec 32 := 128#32
  let v229 : BitVec 32 := Scalar.subi v225 c128_i32_252
  let v230 : BitVec 32 := Scalar.maxsi c0_i32_253 v229
  let v231 : BitVec 32 := Scalar.minsi c1536_i32 v230
  let v232 : BitVec 32 := v231
  let v243 : Index := Scalar.indexCast v232
  let c0_255 : Index := 0#32
  ![v243.toNat, 0]
def k0_off5 (d0 : Dev nD) : Fin 2 → Nat :=
  let c1536_i32 : BitVec 32 := 1536#32
  let c0_i32_253 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_244 : BitVec 32 := 4#32
  let c0_i32_245 : BitVec 32 := 0#32
  let v214 : BitVec 1 := Scalar.cmpi .eq c4_i32_244 c0_i32_245
  let c1_i32_246 : BitVec 32 := 1#32
  let v215 : BitVec 32 := Scalar.select v214 c1_i32_246 c4_i32_244
  let v216 : BitVec 32 := Scalar.remsi v2 v215
  let c0_i32_248 : BitVec 32 := 0#32
  let v218 : BitVec 1 := Scalar.cmpi .slt v216 c0_i32_248
  let c0_i32_249 : BitVec 32 := 0#32
  let v219 : BitVec 1 := Scalar.cmpi .slt v215 c0_i32_249
  let v220 : BitVec 1 := Scalar.xori v218 v219
  let c0_i32_247 : BitVec 32 := 0#32
  let v217 : BitVec 1 := Scalar.cmpi .ne v216 c0_i32_247
  let v221 : BitVec 1 := Scalar.andi v220 v217
  let v222 : BitVec 32 := Scalar.addi v216 v215
  let v223 : BitVec 32 := Scalar.select v221 v222 v216
  let c256_i32_250 : BitVec 32 := 256#32
  let v224 : BitVec 32 := Scalar.muli v223 c256_i32_250
  let v225 : BitVec 32 := v224
  let c128_i32_252 : BitVec 32 := 128#32
  let v229 : BitVec 32 := Scalar.subi v225 c128_i32_252
  let v230 : BitVec 32 := Scalar.maxsi c0_i32_253 v229
  let v231 : BitVec 32 := Scalar.minsi c1536_i32 v230
  let v232 : BitVec 32 := v231
  let v263 : Index := Scalar.indexCast v232
  let c128 : Index := 128#32
  ![v263.toNat, 128]
def k0_off6 (d0 : Dev nD) : Fin 2 → Nat :=
  let c1536_i32 : BitVec 32 := 1536#32
  let c0_i32_253 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_244 : BitVec 32 := 4#32
  let c0_i32_245 : BitVec 32 := 0#32
  let v214 : BitVec 1 := Scalar.cmpi .eq c4_i32_244 c0_i32_245
  let c1_i32_246 : BitVec 32 := 1#32
  let v215 : BitVec 32 := Scalar.select v214 c1_i32_246 c4_i32_244
  let v216 : BitVec 32 := Scalar.remsi v2 v215
  let c0_i32_248 : BitVec 32 := 0#32
  let v218 : BitVec 1 := Scalar.cmpi .slt v216 c0_i32_248
  let c0_i32_249 : BitVec 32 := 0#32
  let v219 : BitVec 1 := Scalar.cmpi .slt v215 c0_i32_249
  let v220 : BitVec 1 := Scalar.xori v218 v219
  let c0_i32_247 : BitVec 32 := 0#32
  let v217 : BitVec 1 := Scalar.cmpi .ne v216 c0_i32_247
  let v221 : BitVec 1 := Scalar.andi v220 v217
  let v222 : BitVec 32 := Scalar.addi v216 v215
  let v223 : BitVec 32 := Scalar.select v221 v222 v216
  let c256_i32_250 : BitVec 32 := 256#32
  let v224 : BitVec 32 := Scalar.muli v223 c256_i32_250
  let v225 : BitVec 32 := v224
  let c128_i32_252 : BitVec 32 := 128#32
  let v229 : BitVec 32 := Scalar.subi v225 c128_i32_252
  let v230 : BitVec 32 := Scalar.maxsi c0_i32_253 v229
  let v231 : BitVec 32 := Scalar.minsi c1536_i32 v230
  let v232 : BitVec 32 := v231
  let v283 : Index := Scalar.indexCast v232
  let c256 : Index := 256#32
  ![v283.toNat, 256]
def k0_off7 (d0 : Dev nD) : Fin 2 → Nat :=
  let c1536_i32 : BitVec 32 := 1536#32
  let c0_i32_253 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_244 : BitVec 32 := 4#32
  let c0_i32_245 : BitVec 32 := 0#32
  let v214 : BitVec 1 := Scalar.cmpi .eq c4_i32_244 c0_i32_245
  let c1_i32_246 : BitVec 32 := 1#32
  let v215 : BitVec 32 := Scalar.select v214 c1_i32_246 c4_i32_244
  let v216 : BitVec 32 := Scalar.remsi v2 v215
  let c0_i32_248 : BitVec 32 := 0#32
  let v218 : BitVec 1 := Scalar.cmpi .slt v216 c0_i32_248
  let c0_i32_249 : BitVec 32 := 0#32
  let v219 : BitVec 1 := Scalar.cmpi .slt v215 c0_i32_249
  let v220 : BitVec 1 := Scalar.xori v218 v219
  let c0_i32_247 : BitVec 32 := 0#32
  let v217 : BitVec 1 := Scalar.cmpi .ne v216 c0_i32_247
  let v221 : BitVec 1 := Scalar.andi v220 v217
  let v222 : BitVec 32 := Scalar.addi v216 v215
  let v223 : BitVec 32 := Scalar.select v221 v222 v216
  let c256_i32_250 : BitVec 32 := 256#32
  let v224 : BitVec 32 := Scalar.muli v223 c256_i32_250
  let v225 : BitVec 32 := v224
  let c128_i32_252 : BitVec 32 := 128#32
  let v229 : BitVec 32 := Scalar.subi v225 c128_i32_252
  let v230 : BitVec 32 := Scalar.maxsi c0_i32_253 v229
  let v231 : BitVec 32 := Scalar.minsi c1536_i32 v230
  let v232 : BitVec 32 := v231
  let v303 : Index := Scalar.indexCast v232
  let c384 : Index := 384#32
  ![v303.toNat, 384]
def k0_off8 (d0 : Dev nD) : Fin 2 → Nat :=
  let c1536_i32 : BitVec 32 := 1536#32
  let c0_i32_253 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_244 : BitVec 32 := 4#32
  let c0_i32_245 : BitVec 32 := 0#32
  let v214 : BitVec 1 := Scalar.cmpi .eq c4_i32_244 c0_i32_245
  let c1_i32_246 : BitVec 32 := 1#32
  let v215 : BitVec 32 := Scalar.select v214 c1_i32_246 c4_i32_244
  let v216 : BitVec 32 := Scalar.remsi v2 v215
  let c0_i32_248 : BitVec 32 := 0#32
  let v218 : BitVec 1 := Scalar.cmpi .slt v216 c0_i32_248
  let c0_i32_249 : BitVec 32 := 0#32
  let v219 : BitVec 1 := Scalar.cmpi .slt v215 c0_i32_249
  let v220 : BitVec 1 := Scalar.xori v218 v219
  let c0_i32_247 : BitVec 32 := 0#32
  let v217 : BitVec 1 := Scalar.cmpi .ne v216 c0_i32_247
  let v221 : BitVec 1 := Scalar.andi v220 v217
  let v222 : BitVec 32 := Scalar.addi v216 v215
  let v223 : BitVec 32 := Scalar.select v221 v222 v216
  let c256_i32_250 : BitVec 32 := 256#32
  let v224 : BitVec 32 := Scalar.muli v223 c256_i32_250
  let v225 : BitVec 32 := v224
  let c128_i32_252 : BitVec 32 := 128#32
  let v229 : BitVec 32 := Scalar.subi v225 c128_i32_252
  let v230 : BitVec 32 := Scalar.maxsi c0_i32_253 v229
  let v231 : BitVec 32 := Scalar.minsi c1536_i32 v230
  let v232 : BitVec 32 := v231
  let v323 : Index := Scalar.indexCast v232
  let c512 : Index := 512#32
  ![v323.toNat, 512]
def k0_off9 (d0 : Dev nD) : Fin 2 → Nat :=
  let c1536_i32 : BitVec 32 := 1536#32
  let c0_i32_253 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_244 : BitVec 32 := 4#32
  let c0_i32_245 : BitVec 32 := 0#32
  let v214 : BitVec 1 := Scalar.cmpi .eq c4_i32_244 c0_i32_245
  let c1_i32_246 : BitVec 32 := 1#32
  let v215 : BitVec 32 := Scalar.select v214 c1_i32_246 c4_i32_244
  let v216 : BitVec 32 := Scalar.remsi v2 v215
  let c0_i32_248 : BitVec 32 := 0#32
  let v218 : BitVec 1 := Scalar.cmpi .slt v216 c0_i32_248
  let c0_i32_249 : BitVec 32 := 0#32
  let v219 : BitVec 1 := Scalar.cmpi .slt v215 c0_i32_249
  let v220 : BitVec 1 := Scalar.xori v218 v219
  let c0_i32_247 : BitVec 32 := 0#32
  let v217 : BitVec 1 := Scalar.cmpi .ne v216 c0_i32_247
  let v221 : BitVec 1 := Scalar.andi v220 v217
  let v222 : BitVec 32 := Scalar.addi v216 v215
  let v223 : BitVec 32 := Scalar.select v221 v222 v216
  let c256_i32_250 : BitVec 32 := 256#32
  let v224 : BitVec 32 := Scalar.muli v223 c256_i32_250
  let v225 : BitVec 32 := v224
  let c128_i32_252 : BitVec 32 := 128#32
  let v229 : BitVec 32 := Scalar.subi v225 c128_i32_252
  let v230 : BitVec 32 := Scalar.maxsi c0_i32_253 v229
  let v231 : BitVec 32 := Scalar.minsi c1536_i32 v230
  let v232 : BitVec 32 := v231
  let v343 : Index := Scalar.indexCast v232
  let c640 : Index := 640#32
  ![v343.toNat, 640]
def k0_off10 (d0 : Dev nD) : Fin 2 → Nat :=
  let c1536_i32 : BitVec 32 := 1536#32
  let c0_i32_253 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_244 : BitVec 32 := 4#32
  let c0_i32_245 : BitVec 32 := 0#32
  let v214 : BitVec 1 := Scalar.cmpi .eq c4_i32_244 c0_i32_245
  let c1_i32_246 : BitVec 32 := 1#32
  let v215 : BitVec 32 := Scalar.select v214 c1_i32_246 c4_i32_244
  let v216 : BitVec 32 := Scalar.remsi v2 v215
  let c0_i32_248 : BitVec 32 := 0#32
  let v218 : BitVec 1 := Scalar.cmpi .slt v216 c0_i32_248
  let c0_i32_249 : BitVec 32 := 0#32
  let v219 : BitVec 1 := Scalar.cmpi .slt v215 c0_i32_249
  let v220 : BitVec 1 := Scalar.xori v218 v219
  let c0_i32_247 : BitVec 32 := 0#32
  let v217 : BitVec 1 := Scalar.cmpi .ne v216 c0_i32_247
  let v221 : BitVec 1 := Scalar.andi v220 v217
  let v222 : BitVec 32 := Scalar.addi v216 v215
  let v223 : BitVec 32 := Scalar.select v221 v222 v216
  let c256_i32_250 : BitVec 32 := 256#32
  let v224 : BitVec 32 := Scalar.muli v223 c256_i32_250
  let v225 : BitVec 32 := v224
  let c128_i32_252 : BitVec 32 := 128#32
  let v229 : BitVec 32 := Scalar.subi v225 c128_i32_252
  let v230 : BitVec 32 := Scalar.maxsi c0_i32_253 v229
  let v231 : BitVec 32 := Scalar.minsi c1536_i32 v230
  let v232 : BitVec 32 := v231
  let v363 : Index := Scalar.indexCast v232
  let c768 : Index := 768#32
  ![v363.toNat, 768]
def k0_off11 (d0 : Dev nD) : Fin 2 → Nat :=
  let c1536_i32 : BitVec 32 := 1536#32
  let c0_i32_253 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_244 : BitVec 32 := 4#32
  let c0_i32_245 : BitVec 32 := 0#32
  let v214 : BitVec 1 := Scalar.cmpi .eq c4_i32_244 c0_i32_245
  let c1_i32_246 : BitVec 32 := 1#32
  let v215 : BitVec 32 := Scalar.select v214 c1_i32_246 c4_i32_244
  let v216 : BitVec 32 := Scalar.remsi v2 v215
  let c0_i32_248 : BitVec 32 := 0#32
  let v218 : BitVec 1 := Scalar.cmpi .slt v216 c0_i32_248
  let c0_i32_249 : BitVec 32 := 0#32
  let v219 : BitVec 1 := Scalar.cmpi .slt v215 c0_i32_249
  let v220 : BitVec 1 := Scalar.xori v218 v219
  let c0_i32_247 : BitVec 32 := 0#32
  let v217 : BitVec 1 := Scalar.cmpi .ne v216 c0_i32_247
  let v221 : BitVec 1 := Scalar.andi v220 v217
  let v222 : BitVec 32 := Scalar.addi v216 v215
  let v223 : BitVec 32 := Scalar.select v221 v222 v216
  let c256_i32_250 : BitVec 32 := 256#32
  let v224 : BitVec 32 := Scalar.muli v223 c256_i32_250
  let v225 : BitVec 32 := v224
  let c128_i32_252 : BitVec 32 := 128#32
  let v229 : BitVec 32 := Scalar.subi v225 c128_i32_252
  let v230 : BitVec 32 := Scalar.maxsi c0_i32_253 v229
  let v231 : BitVec 32 := Scalar.minsi c1536_i32 v230
  let v232 : BitVec 32 := v231
  let v383 : Index := Scalar.indexCast v232
  let c896 : Index := 896#32
  ![v383.toNat, 896]
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_313 : BitVec 32 := 4#32
  let c0_i32_314 : BitVec 32 := 0#32
  let v405 : BitVec 1 := Scalar.cmpi .eq c4_i32_313 c0_i32_314
  let c1_i32_315 : BitVec 32 := 1#32
  let v406 : BitVec 32 := Scalar.select v405 c1_i32_315 c4_i32_313
  let v407 : BitVec 32 := Scalar.remsi v2 v406
  let c0_i32_317 : BitVec 32 := 0#32
  let v409 : BitVec 1 := Scalar.cmpi .slt v407 c0_i32_317
  let c0_i32_318 : BitVec 32 := 0#32
  let v410 : BitVec 1 := Scalar.cmpi .slt v406 c0_i32_318
  let v411 : BitVec 1 := Scalar.xori v409 v410
  let c0_i32_316 : BitVec 32 := 0#32
  let v408 : BitVec 1 := Scalar.cmpi .ne v407 c0_i32_316
  let v412 : BitVec 1 := Scalar.andi v411 v408
  let v413 : BitVec 32 := Scalar.addi v407 v406
  let v414 : BitVec 32 := Scalar.select v412 v413 v407
  let c256_i32_319 : BitVec 32 := 256#32
  let v415 : BitVec 32 := Scalar.muli v414 c256_i32_319
  let v416 : Index := Scalar.indexCast v415
  let c0_320 : Index := 0#32
  ![v416.toNat, 0]
def k0_mult3 (d0 : Dev nD) : BitVec 32 :=
  let c1024_i32_328 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_321 : BitVec 32 := 4#32
  let c0_i32_322 : BitVec 32 := 0#32
  let v418 : BitVec 1 := Scalar.cmpi .eq c4_i32_321 c0_i32_322
  let c1_i32_323 : BitVec 32 := 1#32
  let v419 : BitVec 32 := Scalar.select v418 c1_i32_323 c4_i32_321
  let v420 : BitVec 32 := Scalar.remsi v2 v419
  let c0_i32_325 : BitVec 32 := 0#32
  let v422 : BitVec 1 := Scalar.cmpi .slt v420 c0_i32_325
  let c0_i32_326 : BitVec 32 := 0#32
  let v423 : BitVec 1 := Scalar.cmpi .slt v419 c0_i32_326
  let v424 : BitVec 1 := Scalar.xori v422 v423
  let c0_i32_324 : BitVec 32 := 0#32
  let v421 : BitVec 1 := Scalar.cmpi .ne v420 c0_i32_324
  let v425 : BitVec 1 := Scalar.andi v424 v421
  let v426 : BitVec 32 := Scalar.addi v420 v419
  let v427 : BitVec 32 := Scalar.select v425 v426 v420
  let c256_i32_327 : BitVec 32 := 256#32
  let v428 : BitVec 32 := Scalar.muli v427 c256_i32_327
  let v429 : BitVec 32 := Scalar.addi c1024_i32_328 v428
  v429
def k0_off13 (d0 : Dev nD) : Fin 2 → Nat :=
  let c1024_i32_328 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_321 : BitVec 32 := 4#32
  let c0_i32_322 : BitVec 32 := 0#32
  let v418 : BitVec 1 := Scalar.cmpi .eq c4_i32_321 c0_i32_322
  let c1_i32_323 : BitVec 32 := 1#32
  let v419 : BitVec 32 := Scalar.select v418 c1_i32_323 c4_i32_321
  let v420 : BitVec 32 := Scalar.remsi v2 v419
  let c0_i32_325 : BitVec 32 := 0#32
  let v422 : BitVec 1 := Scalar.cmpi .slt v420 c0_i32_325
  let c0_i32_326 : BitVec 32 := 0#32
  let v423 : BitVec 1 := Scalar.cmpi .slt v419 c0_i32_326
  let v424 : BitVec 1 := Scalar.xori v422 v423
  let c0_i32_324 : BitVec 32 := 0#32
  let v421 : BitVec 1 := Scalar.cmpi .ne v420 c0_i32_324
  let v425 : BitVec 1 := Scalar.andi v424 v421
  let v426 : BitVec 32 := Scalar.addi v420 v419
  let v427 : BitVec 32 := Scalar.select v425 v426 v420
  let c256_i32_327 : BitVec 32 := 256#32
  let v428 : BitVec 32 := Scalar.muli v427 c256_i32_327
  let v429 : BitVec 32 := Scalar.addi c1024_i32_328 v428
  let v430 : BitVec 32 := v429
  let v431 : Index := Scalar.indexCast v430
  let c0_329 : Index := 0#32
  ![v431.toNat, 0]
def k0_mult4 (d0 : Dev nD) : BitVec 32 :=
  let c1536_i32_333 : BitVec 32 := 1536#32
  let c0_i32_332 : BitVec 32 := 0#32
  let c1024_i32_328 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_321 : BitVec 32 := 4#32
  let c0_i32_322 : BitVec 32 := 0#32
  let v418 : BitVec 1 := Scalar.cmpi .eq c4_i32_321 c0_i32_322
  let c1_i32_323 : BitVec 32 := 1#32
  let v419 : BitVec 32 := Scalar.select v418 c1_i32_323 c4_i32_321
  let v420 : BitVec 32 := Scalar.remsi v2 v419
  let c0_i32_325 : BitVec 32 := 0#32
  let v422 : BitVec 1 := Scalar.cmpi .slt v420 c0_i32_325
  let c0_i32_326 : BitVec 32 := 0#32
  let v423 : BitVec 1 := Scalar.cmpi .slt v419 c0_i32_326
  let v424 : BitVec 1 := Scalar.xori v422 v423
  let c0_i32_324 : BitVec 32 := 0#32
  let v421 : BitVec 1 := Scalar.cmpi .ne v420 c0_i32_324
  let v425 : BitVec 1 := Scalar.andi v424 v421
  let v426 : BitVec 32 := Scalar.addi v420 v419
  let v427 : BitVec 32 := Scalar.select v425 v426 v420
  let c256_i32_327 : BitVec 32 := 256#32
  let v428 : BitVec 32 := Scalar.muli v427 c256_i32_327
  let v429 : BitVec 32 := Scalar.addi c1024_i32_328 v428
  let v430 : BitVec 32 := v429
  let c128_i32_331 : BitVec 32 := 128#32
  let v434 : BitVec 32 := Scalar.subi v430 c128_i32_331
  let v435 : BitVec 32 := Scalar.maxsi c0_i32_332 v434
  let v436 : BitVec 32 := Scalar.minsi c1536_i32_333 v435
  v436
def k0_off14 (d0 : Dev nD) : Fin 2 → Nat :=
  let c1536_i32_333 : BitVec 32 := 1536#32
  let c0_i32_332 : BitVec 32 := 0#32
  let c1024_i32_328 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_321 : BitVec 32 := 4#32
  let c0_i32_322 : BitVec 32 := 0#32
  let v418 : BitVec 1 := Scalar.cmpi .eq c4_i32_321 c0_i32_322
  let c1_i32_323 : BitVec 32 := 1#32
  let v419 : BitVec 32 := Scalar.select v418 c1_i32_323 c4_i32_321
  let v420 : BitVec 32 := Scalar.remsi v2 v419
  let c0_i32_325 : BitVec 32 := 0#32
  let v422 : BitVec 1 := Scalar.cmpi .slt v420 c0_i32_325
  let c0_i32_326 : BitVec 32 := 0#32
  let v423 : BitVec 1 := Scalar.cmpi .slt v419 c0_i32_326
  let v424 : BitVec 1 := Scalar.xori v422 v423
  let c0_i32_324 : BitVec 32 := 0#32
  let v421 : BitVec 1 := Scalar.cmpi .ne v420 c0_i32_324
  let v425 : BitVec 1 := Scalar.andi v424 v421
  let v426 : BitVec 32 := Scalar.addi v420 v419
  let v427 : BitVec 32 := Scalar.select v425 v426 v420
  let c256_i32_327 : BitVec 32 := 256#32
  let v428 : BitVec 32 := Scalar.muli v427 c256_i32_327
  let v429 : BitVec 32 := Scalar.addi c1024_i32_328 v428
  let v430 : BitVec 32 := v429
  let c128_i32_331 : BitVec 32 := 128#32
  let v434 : BitVec 32 := Scalar.subi v430 c128_i32_331
  let v435 : BitVec 32 := Scalar.maxsi c0_i32_332 v434
  let v436 : BitVec 32 := Scalar.minsi c1536_i32_333 v435
  let v437 : BitVec 32 := v436
  let v448 : Index := Scalar.indexCast v437
  let c0_335 : Index := 0#32
  ![v448.toNat, 0]
def k0_off15 (d0 : Dev nD) : Fin 2 → Nat :=
  let c1536_i32_333 : BitVec 32 := 1536#32
  let c0_i32_332 : BitVec 32 := 0#32
  let c1024_i32_328 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_321 : BitVec 32 := 4#32
  let c0_i32_322 : BitVec 32 := 0#32
  let v418 : BitVec 1 := Scalar.cmpi .eq c4_i32_321 c0_i32_322
  let c1_i32_323 : BitVec 32 := 1#32
  let v419 : BitVec 32 := Scalar.select v418 c1_i32_323 c4_i32_321
  let v420 : BitVec 32 := Scalar.remsi v2 v419
  let c0_i32_325 : BitVec 32 := 0#32
  let v422 : BitVec 1 := Scalar.cmpi .slt v420 c0_i32_325
  let c0_i32_326 : BitVec 32 := 0#32
  let v423 : BitVec 1 := Scalar.cmpi .slt v419 c0_i32_326
  let v424 : BitVec 1 := Scalar.xori v422 v423
  let c0_i32_324 : BitVec 32 := 0#32
  let v421 : BitVec 1 := Scalar.cmpi .ne v420 c0_i32_324
  let v425 : BitVec 1 := Scalar.andi v424 v421
  let v426 : BitVec 32 := Scalar.addi v420 v419
  let v427 : BitVec 32 := Scalar.select v425 v426 v420
  let c256_i32_327 : BitVec 32 := 256#32
  let v428 : BitVec 32 := Scalar.muli v427 c256_i32_327
  let v429 : BitVec 32 := Scalar.addi c1024_i32_328 v428
  let v430 : BitVec 32 := v429
  let c128_i32_331 : BitVec 32 := 128#32
  let v434 : BitVec 32 := Scalar.subi v430 c128_i32_331
  let v435 : BitVec 32 := Scalar.maxsi c0_i32_332 v434
  let v436 : BitVec 32 := Scalar.minsi c1536_i32_333 v435
  let v437 : BitVec 32 := v436
  let v468 : Index := Scalar.indexCast v437
  let c128_343 : Index := 128#32
  ![v468.toNat, 128]
def k0_off16 (d0 : Dev nD) : Fin 2 → Nat :=
  let c1536_i32_333 : BitVec 32 := 1536#32
  let c0_i32_332 : BitVec 32 := 0#32
  let c1024_i32_328 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_321 : BitVec 32 := 4#32
  let c0_i32_322 : BitVec 32 := 0#32
  let v418 : BitVec 1 := Scalar.cmpi .eq c4_i32_321 c0_i32_322
  let c1_i32_323 : BitVec 32 := 1#32
  let v419 : BitVec 32 := Scalar.select v418 c1_i32_323 c4_i32_321
  let v420 : BitVec 32 := Scalar.remsi v2 v419
  let c0_i32_325 : BitVec 32 := 0#32
  let v422 : BitVec 1 := Scalar.cmpi .slt v420 c0_i32_325
  let c0_i32_326 : BitVec 32 := 0#32
  let v423 : BitVec 1 := Scalar.cmpi .slt v419 c0_i32_326
  let v424 : BitVec 1 := Scalar.xori v422 v423
  let c0_i32_324 : BitVec 32 := 0#32
  let v421 : BitVec 1 := Scalar.cmpi .ne v420 c0_i32_324
  let v425 : BitVec 1 := Scalar.andi v424 v421
  let v426 : BitVec 32 := Scalar.addi v420 v419
  let v427 : BitVec 32 := Scalar.select v425 v426 v420
  let c256_i32_327 : BitVec 32 := 256#32
  let v428 : BitVec 32 := Scalar.muli v427 c256_i32_327
  let v429 : BitVec 32 := Scalar.addi c1024_i32_328 v428
  let v430 : BitVec 32 := v429
  let c128_i32_331 : BitVec 32 := 128#32
  let v434 : BitVec 32 := Scalar.subi v430 c128_i32_331
  let v435 : BitVec 32 := Scalar.maxsi c0_i32_332 v434
  let v436 : BitVec 32 := Scalar.minsi c1536_i32_333 v435
  let v437 : BitVec 32 := v436
  let v488 : Index := Scalar.indexCast v437
  let c256_351 : Index := 256#32
  ![v488.toNat, 256]
def k0_off17 (d0 : Dev nD) : Fin 2 → Nat :=
  let c1536_i32_333 : BitVec 32 := 1536#32
  let c0_i32_332 : BitVec 32 := 0#32
  let c1024_i32_328 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_321 : BitVec 32 := 4#32
  let c0_i32_322 : BitVec 32 := 0#32
  let v418 : BitVec 1 := Scalar.cmpi .eq c4_i32_321 c0_i32_322
  let c1_i32_323 : BitVec 32 := 1#32
  let v419 : BitVec 32 := Scalar.select v418 c1_i32_323 c4_i32_321
  let v420 : BitVec 32 := Scalar.remsi v2 v419
  let c0_i32_325 : BitVec 32 := 0#32
  let v422 : BitVec 1 := Scalar.cmpi .slt v420 c0_i32_325
  let c0_i32_326 : BitVec 32 := 0#32
  let v423 : BitVec 1 := Scalar.cmpi .slt v419 c0_i32_326
  let v424 : BitVec 1 := Scalar.xori v422 v423
  let c0_i32_324 : BitVec 32 := 0#32
  let v421 : BitVec 1 := Scalar.cmpi .ne v420 c0_i32_324
  let v425 : BitVec 1 := Scalar.andi v424 v421
  let v426 : BitVec 32 := Scalar.addi v420 v419
  let v427 : BitVec 32 := Scalar.select v425 v426 v420
  let c256_i32_327 : BitVec 32 := 256#32
  let v428 : BitVec 32 := Scalar.muli v427 c256_i32_327
  let v429 : BitVec 32 := Scalar.addi c1024_i32_328 v428
  let v430 : BitVec 32 := v429
  let c128_i32_331 : BitVec 32 := 128#32
  let v434 : BitVec 32 := Scalar.subi v430 c128_i32_331
  let v435 : BitVec 32 := Scalar.maxsi c0_i32_332 v434
  let v436 : BitVec 32 := Scalar.minsi c1536_i32_333 v435
  let v437 : BitVec 32 := v436
  let v508 : Index := Scalar.indexCast v437
  let c384_359 : Index := 384#32
  ![v508.toNat, 384]
def k0_off18 (d0 : Dev nD) : Fin 2 → Nat :=
  let c1536_i32_333 : BitVec 32 := 1536#32
  let c0_i32_332 : BitVec 32 := 0#32
  let c1024_i32_328 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_321 : BitVec 32 := 4#32
  let c0_i32_322 : BitVec 32 := 0#32
  let v418 : BitVec 1 := Scalar.cmpi .eq c4_i32_321 c0_i32_322
  let c1_i32_323 : BitVec 32 := 1#32
  let v419 : BitVec 32 := Scalar.select v418 c1_i32_323 c4_i32_321
  let v420 : BitVec 32 := Scalar.remsi v2 v419
  let c0_i32_325 : BitVec 32 := 0#32
  let v422 : BitVec 1 := Scalar.cmpi .slt v420 c0_i32_325
  let c0_i32_326 : BitVec 32 := 0#32
  let v423 : BitVec 1 := Scalar.cmpi .slt v419 c0_i32_326
  let v424 : BitVec 1 := Scalar.xori v422 v423
  let c0_i32_324 : BitVec 32 := 0#32
  let v421 : BitVec 1 := Scalar.cmpi .ne v420 c0_i32_324
  let v425 : BitVec 1 := Scalar.andi v424 v421
  let v426 : BitVec 32 := Scalar.addi v420 v419
  let v427 : BitVec 32 := Scalar.select v425 v426 v420
  let c256_i32_327 : BitVec 32 := 256#32
  let v428 : BitVec 32 := Scalar.muli v427 c256_i32_327
  let v429 : BitVec 32 := Scalar.addi c1024_i32_328 v428
  let v430 : BitVec 32 := v429
  let c128_i32_331 : BitVec 32 := 128#32
  let v434 : BitVec 32 := Scalar.subi v430 c128_i32_331
  let v435 : BitVec 32 := Scalar.maxsi c0_i32_332 v434
  let v436 : BitVec 32 := Scalar.minsi c1536_i32_333 v435
  let v437 : BitVec 32 := v436
  let v528 : Index := Scalar.indexCast v437
  let c512_367 : Index := 512#32
  ![v528.toNat, 512]
def k0_off19 (d0 : Dev nD) : Fin 2 → Nat :=
  let c1536_i32_333 : BitVec 32 := 1536#32
  let c0_i32_332 : BitVec 32 := 0#32
  let c1024_i32_328 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_321 : BitVec 32 := 4#32
  let c0_i32_322 : BitVec 32 := 0#32
  let v418 : BitVec 1 := Scalar.cmpi .eq c4_i32_321 c0_i32_322
  let c1_i32_323 : BitVec 32 := 1#32
  let v419 : BitVec 32 := Scalar.select v418 c1_i32_323 c4_i32_321
  let v420 : BitVec 32 := Scalar.remsi v2 v419
  let c0_i32_325 : BitVec 32 := 0#32
  let v422 : BitVec 1 := Scalar.cmpi .slt v420 c0_i32_325
  let c0_i32_326 : BitVec 32 := 0#32
  let v423 : BitVec 1 := Scalar.cmpi .slt v419 c0_i32_326
  let v424 : BitVec 1 := Scalar.xori v422 v423
  let c0_i32_324 : BitVec 32 := 0#32
  let v421 : BitVec 1 := Scalar.cmpi .ne v420 c0_i32_324
  let v425 : BitVec 1 := Scalar.andi v424 v421
  let v426 : BitVec 32 := Scalar.addi v420 v419
  let v427 : BitVec 32 := Scalar.select v425 v426 v420
  let c256_i32_327 : BitVec 32 := 256#32
  let v428 : BitVec 32 := Scalar.muli v427 c256_i32_327
  let v429 : BitVec 32 := Scalar.addi c1024_i32_328 v428
  let v430 : BitVec 32 := v429
  let c128_i32_331 : BitVec 32 := 128#32
  let v434 : BitVec 32 := Scalar.subi v430 c128_i32_331
  let v435 : BitVec 32 := Scalar.maxsi c0_i32_332 v434
  let v436 : BitVec 32 := Scalar.minsi c1536_i32_333 v435
  let v437 : BitVec 32 := v436
  let v548 : Index := Scalar.indexCast v437
  let c640_375 : Index := 640#32
  ![v548.toNat, 640]
def k0_off20 (d0 : Dev nD) : Fin 2 → Nat :=
  let c1536_i32_333 : BitVec 32 := 1536#32
  let c0_i32_332 : BitVec 32 := 0#32
  let c1024_i32_328 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_321 : BitVec 32 := 4#32
  let c0_i32_322 : BitVec 32 := 0#32
  let v418 : BitVec 1 := Scalar.cmpi .eq c4_i32_321 c0_i32_322
  let c1_i32_323 : BitVec 32 := 1#32
  let v419 : BitVec 32 := Scalar.select v418 c1_i32_323 c4_i32_321
  let v420 : BitVec 32 := Scalar.remsi v2 v419
  let c0_i32_325 : BitVec 32 := 0#32
  let v422 : BitVec 1 := Scalar.cmpi .slt v420 c0_i32_325
  let c0_i32_326 : BitVec 32 := 0#32
  let v423 : BitVec 1 := Scalar.cmpi .slt v419 c0_i32_326
  let v424 : BitVec 1 := Scalar.xori v422 v423
  let c0_i32_324 : BitVec 32 := 0#32
  let v421 : BitVec 1 := Scalar.cmpi .ne v420 c0_i32_324
  let v425 : BitVec 1 := Scalar.andi v424 v421
  let v426 : BitVec 32 := Scalar.addi v420 v419
  let v427 : BitVec 32 := Scalar.select v425 v426 v420
  let c256_i32_327 : BitVec 32 := 256#32
  let v428 : BitVec 32 := Scalar.muli v427 c256_i32_327
  let v429 : BitVec 32 := Scalar.addi c1024_i32_328 v428
  let v430 : BitVec 32 := v429
  let c128_i32_331 : BitVec 32 := 128#32
  let v434 : BitVec 32 := Scalar.subi v430 c128_i32_331
  let v435 : BitVec 32 := Scalar.maxsi c0_i32_332 v434
  let v436 : BitVec 32 := Scalar.minsi c1536_i32_333 v435
  let v437 : BitVec 32 := v436
  let v568 : Index := Scalar.indexCast v437
  let c768_383 : Index := 768#32
  ![v568.toNat, 768]
def k0_off21 (d0 : Dev nD) : Fin 2 → Nat :=
  let c1536_i32_333 : BitVec 32 := 1536#32
  let c0_i32_332 : BitVec 32 := 0#32
  let c1024_i32_328 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_321 : BitVec 32 := 4#32
  let c0_i32_322 : BitVec 32 := 0#32
  let v418 : BitVec 1 := Scalar.cmpi .eq c4_i32_321 c0_i32_322
  let c1_i32_323 : BitVec 32 := 1#32
  let v419 : BitVec 32 := Scalar.select v418 c1_i32_323 c4_i32_321
  let v420 : BitVec 32 := Scalar.remsi v2 v419
  let c0_i32_325 : BitVec 32 := 0#32
  let v422 : BitVec 1 := Scalar.cmpi .slt v420 c0_i32_325
  let c0_i32_326 : BitVec 32 := 0#32
  let v423 : BitVec 1 := Scalar.cmpi .slt v419 c0_i32_326
  let v424 : BitVec 1 := Scalar.xori v422 v423
  let c0_i32_324 : BitVec 32 := 0#32
  let v421 : BitVec 1 := Scalar.cmpi .ne v420 c0_i32_324
  let v425 : BitVec 1 := Scalar.andi v424 v421
  let v426 : BitVec 32 := Scalar.addi v420 v419
  let v427 : BitVec 32 := Scalar.select v425 v426 v420
  let c256_i32_327 : BitVec 32 := 256#32
  let v428 : BitVec 32 := Scalar.muli v427 c256_i32_327
  let v429 : BitVec 32 := Scalar.addi c1024_i32_328 v428
  let v430 : BitVec 32 := v429
  let c128_i32_331 : BitVec 32 := 128#32
  let v434 : BitVec 32 := Scalar.subi v430 c128_i32_331
  let v435 : BitVec 32 := Scalar.maxsi c0_i32_332 v434
  let v436 : BitVec 32 := Scalar.minsi c1536_i32_333 v435
  let v437 : BitVec 32 := v436
  let v588 : Index := Scalar.indexCast v437
  let c896_391 : Index := 896#32
  ![v588.toNat, 896]
def k0_off22 (d0 : Dev nD) : Fin 2 → Nat :=
  let c1024_i32_407 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_400 : BitVec 32 := 4#32
  let c0_i32_401 : BitVec 32 := 0#32
  let v610 : BitVec 1 := Scalar.cmpi .eq c4_i32_400 c0_i32_401
  let c1_i32_402 : BitVec 32 := 1#32
  let v611 : BitVec 32 := Scalar.select v610 c1_i32_402 c4_i32_400
  let v612 : BitVec 32 := Scalar.remsi v2 v611
  let c0_i32_404 : BitVec 32 := 0#32
  let v614 : BitVec 1 := Scalar.cmpi .slt v612 c0_i32_404
  let c0_i32_405 : BitVec 32 := 0#32
  let v615 : BitVec 1 := Scalar.cmpi .slt v611 c0_i32_405
  let v616 : BitVec 1 := Scalar.xori v614 v615
  let c0_i32_403 : BitVec 32 := 0#32
  let v613 : BitVec 1 := Scalar.cmpi .ne v612 c0_i32_403
  let v617 : BitVec 1 := Scalar.andi v616 v613
  let v618 : BitVec 32 := Scalar.addi v612 v611
  let v619 : BitVec 32 := Scalar.select v617 v618 v612
  let c256_i32_406 : BitVec 32 := 256#32
  let v620 : BitVec 32 := Scalar.muli v619 c256_i32_406
  let v621 : BitVec 32 := Scalar.addi c1024_i32_407 v620
  let v622 : Index := Scalar.indexCast v621
  let c0_408 : Index := 0#32
  ![v622.toNat, 0]
def k0_off23 (d0 : Dev nD) (c0_i32_409 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v624 : BitVec 32 := Scalar.subi v2 c0_i32_409
  let c4_i32_410 : BitVec 32 := 4#32
  let c0_i32_411 : BitVec 32 := 0#32
  let v625 : BitVec 1 := Scalar.cmpi .eq c4_i32_410 c0_i32_411
  let c1_i32_412 : BitVec 32 := 1#32
  let v626 : BitVec 32 := Scalar.select v625 c1_i32_412 c4_i32_410
  let v627 : BitVec 32 := Scalar.remsi v624 v626
  let c0_i32_414 : BitVec 32 := 0#32
  let v629 : BitVec 1 := Scalar.cmpi .slt v627 c0_i32_414
  let c0_i32_415 : BitVec 32 := 0#32
  let v630 : BitVec 1 := Scalar.cmpi .slt v626 c0_i32_415
  let v631 : BitVec 1 := Scalar.xori v629 v630
  let c0_i32_413 : BitVec 32 := 0#32
  let v628 : BitVec 1 := Scalar.cmpi .ne v627 c0_i32_413
  let v632 : BitVec 1 := Scalar.andi v631 v628
  let v633 : BitVec 32 := Scalar.addi v627 v626
  let v634 : BitVec 32 := Scalar.select v632 v633 v627
  let c4_i32_439 : BitVec 32 := 4#32
  let c0_i32_440 : BitVec 32 := 0#32
  let v670 : BitVec 1 := Scalar.cmpi .eq c4_i32_439 c0_i32_440
  let c1_i32_441 : BitVec 32 := 1#32
  let v671 : BitVec 32 := Scalar.select v670 c1_i32_441 c4_i32_439
  let v672 : BitVec 32 := Scalar.remsi v634 v671
  let c0_i32_443 : BitVec 32 := 0#32
  let v674 : BitVec 1 := Scalar.cmpi .slt v672 c0_i32_443
  let c0_i32_444 : BitVec 32 := 0#32
  let v675 : BitVec 1 := Scalar.cmpi .slt v671 c0_i32_444
  let v676 : BitVec 1 := Scalar.xori v674 v675
  let c0_i32_442 : BitVec 32 := 0#32
  let v673 : BitVec 1 := Scalar.cmpi .ne v672 c0_i32_442
  let v677 : BitVec 1 := Scalar.andi v676 v673
  let v678 : BitVec 32 := Scalar.addi v672 v671
  let v679 : BitVec 32 := Scalar.select v677 v678 v672
  let c256_i32_445 : BitVec 32 := 256#32
  let v680 : BitVec 32 := Scalar.muli v679 c256_i32_445
  let c0_i32_461 : BitVec 32 := 0#32
  ![v680.toNat, 0]
def k0_dev3 (d0 : Dev nD) : Nat :=
  let c0_i32_458 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_457 : BitVec 32 := 1#32
  let v693 : BitVec 32 := Scalar.muli v24 c1_i32_457
  let v694 : BitVec 32 := Scalar.addi c0_i32_458 v693
  v694.toNat
def k0_off24 (d0 : Dev nD) (c0_i32_424 : BitVec 32) : Fin 2 → Nat :=
  let c1024_i32_453 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v647 : BitVec 32 := Scalar.addi v2 c0_i32_424
  let c4_i32_425 : BitVec 32 := 4#32
  let c0_i32_426 : BitVec 32 := 0#32
  let v648 : BitVec 1 := Scalar.cmpi .eq c4_i32_425 c0_i32_426
  let c1_i32_427 : BitVec 32 := 1#32
  let v649 : BitVec 32 := Scalar.select v648 c1_i32_427 c4_i32_425
  let v650 : BitVec 32 := Scalar.remsi v647 v649
  let c0_i32_429 : BitVec 32 := 0#32
  let v652 : BitVec 1 := Scalar.cmpi .slt v650 c0_i32_429
  let c0_i32_430 : BitVec 32 := 0#32
  let v653 : BitVec 1 := Scalar.cmpi .slt v649 c0_i32_430
  let v654 : BitVec 1 := Scalar.xori v652 v653
  let c0_i32_428 : BitVec 32 := 0#32
  let v651 : BitVec 1 := Scalar.cmpi .ne v650 c0_i32_428
  let v655 : BitVec 1 := Scalar.andi v654 v651
  let v656 : BitVec 32 := Scalar.addi v650 v649
  let v657 : BitVec 32 := Scalar.select v655 v656 v650
  let c4_i32_446 : BitVec 32 := 4#32
  let c0_i32_447 : BitVec 32 := 0#32
  let v681 : BitVec 1 := Scalar.cmpi .eq c4_i32_446 c0_i32_447
  let c1_i32_448 : BitVec 32 := 1#32
  let v682 : BitVec 32 := Scalar.select v681 c1_i32_448 c4_i32_446
  let v683 : BitVec 32 := Scalar.remsi v657 v682
  let c0_i32_450 : BitVec 32 := 0#32
  let v685 : BitVec 1 := Scalar.cmpi .slt v683 c0_i32_450
  let c0_i32_451 : BitVec 32 := 0#32
  let v686 : BitVec 1 := Scalar.cmpi .slt v682 c0_i32_451
  let v687 : BitVec 1 := Scalar.xori v685 v686
  let c0_i32_449 : BitVec 32 := 0#32
  let v684 : BitVec 1 := Scalar.cmpi .ne v683 c0_i32_449
  let v688 : BitVec 1 := Scalar.andi v687 v684
  let v689 : BitVec 32 := Scalar.addi v683 v682
  let v690 : BitVec 32 := Scalar.select v688 v689 v683
  let c256_i32_452 : BitVec 32 := 256#32
  let v691 : BitVec 32 := Scalar.muli v690 c256_i32_452
  let v692 : BitVec 32 := Scalar.addi c1024_i32_453 v691
  let c0_i32_469 : BitVec 32 := 0#32
  ![v692.toNat, 0]
def k0_dev4 (d0 : Dev nD) : Nat :=
  let c0_i32_466 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_465 : BitVec 32 := 1#32
  let v702 : BitVec 32 := Scalar.muli v13 c1_i32_465
  let v703 : BitVec 32 := Scalar.addi c0_i32_466 v702
  v703.toNat
def k0_mult5 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_416 : BitVec 32 := 0#32
  let v635 : BitVec 32 := Scalar.subi v2 c0_i32_416
  let c1_i32_417 : BitVec 32 := 1#32
  let v636 : BitVec 32 := Scalar.subi v635 c1_i32_417
  let c4_i32_418 : BitVec 32 := 4#32
  let c0_i32_419 : BitVec 32 := 0#32
  let v637 : BitVec 1 := Scalar.cmpi .eq c4_i32_418 c0_i32_419
  let c1_i32_420 : BitVec 32 := 1#32
  let v638 : BitVec 32 := Scalar.select v637 c1_i32_420 c4_i32_418
  let v639 : BitVec 32 := Scalar.remsi v636 v638
  let c0_i32_422 : BitVec 32 := 0#32
  let v641 : BitVec 1 := Scalar.cmpi .slt v639 c0_i32_422
  let c0_i32_423 : BitVec 32 := 0#32
  let v642 : BitVec 1 := Scalar.cmpi .slt v638 c0_i32_423
  let v643 : BitVec 1 := Scalar.xori v641 v642
  let c0_i32_421 : BitVec 32 := 0#32
  let v640 : BitVec 1 := Scalar.cmpi .ne v639 c0_i32_421
  let v644 : BitVec 1 := Scalar.andi v643 v640
  let v645 : BitVec 32 := Scalar.addi v639 v638
  let v646 : BitVec 32 := Scalar.select v644 v645 v639
  let c256_i32_470 : BitVec 32 := 256#32
  let v711 : BitVec 32 := Scalar.muli v646 c256_i32_470
  v711
def k0_off25 (d0 : Dev nD) (c0_i32_416 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v635 : BitVec 32 := Scalar.subi v2 c0_i32_416
  let c1_i32_417 : BitVec 32 := 1#32
  let v636 : BitVec 32 := Scalar.subi v635 c1_i32_417
  let c4_i32_418 : BitVec 32 := 4#32
  let c0_i32_419 : BitVec 32 := 0#32
  let v637 : BitVec 1 := Scalar.cmpi .eq c4_i32_418 c0_i32_419
  let c1_i32_420 : BitVec 32 := 1#32
  let v638 : BitVec 32 := Scalar.select v637 c1_i32_420 c4_i32_418
  let v639 : BitVec 32 := Scalar.remsi v636 v638
  let c0_i32_422 : BitVec 32 := 0#32
  let v641 : BitVec 1 := Scalar.cmpi .slt v639 c0_i32_422
  let c0_i32_423 : BitVec 32 := 0#32
  let v642 : BitVec 1 := Scalar.cmpi .slt v638 c0_i32_423
  let v643 : BitVec 1 := Scalar.xori v641 v642
  let c0_i32_421 : BitVec 32 := 0#32
  let v640 : BitVec 1 := Scalar.cmpi .ne v639 c0_i32_421
  let v644 : BitVec 1 := Scalar.andi v643 v640
  let v645 : BitVec 32 := Scalar.addi v639 v638
  let v646 : BitVec 32 := Scalar.select v644 v645 v639
  let c256_i32_470 : BitVec 32 := 256#32
  let v711 : BitVec 32 := Scalar.muli v646 c256_i32_470
  let v712 : BitVec 32 := v711
  let v713 : Index := Scalar.indexCast v712
  let c0_471 : Index := 0#32
  ![v713.toNat, 0]
def k0_mult6 (d0 : Dev nD) : BitVec 32 :=
  let c1536_i32_475 : BitVec 32 := 1536#32
  let c0_i32_474 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_416 : BitVec 32 := 0#32
  let v635 : BitVec 32 := Scalar.subi v2 c0_i32_416
  let c1_i32_417 : BitVec 32 := 1#32
  let v636 : BitVec 32 := Scalar.subi v635 c1_i32_417
  let c4_i32_418 : BitVec 32 := 4#32
  let c0_i32_419 : BitVec 32 := 0#32
  let v637 : BitVec 1 := Scalar.cmpi .eq c4_i32_418 c0_i32_419
  let c1_i32_420 : BitVec 32 := 1#32
  let v638 : BitVec 32 := Scalar.select v637 c1_i32_420 c4_i32_418
  let v639 : BitVec 32 := Scalar.remsi v636 v638
  let c0_i32_422 : BitVec 32 := 0#32
  let v641 : BitVec 1 := Scalar.cmpi .slt v639 c0_i32_422
  let c0_i32_423 : BitVec 32 := 0#32
  let v642 : BitVec 1 := Scalar.cmpi .slt v638 c0_i32_423
  let v643 : BitVec 1 := Scalar.xori v641 v642
  let c0_i32_421 : BitVec 32 := 0#32
  let v640 : BitVec 1 := Scalar.cmpi .ne v639 c0_i32_421
  let v644 : BitVec 1 := Scalar.andi v643 v640
  let v645 : BitVec 32 := Scalar.addi v639 v638
  let v646 : BitVec 32 := Scalar.select v644 v645 v639
  let c256_i32_470 : BitVec 32 := 256#32
  let v711 : BitVec 32 := Scalar.muli v646 c256_i32_470
  let v712 : BitVec 32 := v711
  let c128_i32_473 : BitVec 32 := 128#32
  let v716 : BitVec 32 := Scalar.subi v712 c128_i32_473
  let v717 : BitVec 32 := Scalar.maxsi c0_i32_474 v716
  let v718 : BitVec 32 := Scalar.minsi c1536_i32_475 v717
  v718
def k0_off26 (d0 : Dev nD) (c0_i32_416 : BitVec 32) : Fin 2 → Nat :=
  let c1536_i32_475 : BitVec 32 := 1536#32
  let c0_i32_474 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v635 : BitVec 32 := Scalar.subi v2 c0_i32_416
  let c1_i32_417 : BitVec 32 := 1#32
  let v636 : BitVec 32 := Scalar.subi v635 c1_i32_417
  let c4_i32_418 : BitVec 32 := 4#32
  let c0_i32_419 : BitVec 32 := 0#32
  let v637 : BitVec 1 := Scalar.cmpi .eq c4_i32_418 c0_i32_419
  let c1_i32_420 : BitVec 32 := 1#32
  let v638 : BitVec 32 := Scalar.select v637 c1_i32_420 c4_i32_418
  let v639 : BitVec 32 := Scalar.remsi v636 v638
  let c0_i32_422 : BitVec 32 := 0#32
  let v641 : BitVec 1 := Scalar.cmpi .slt v639 c0_i32_422
  let c0_i32_423 : BitVec 32 := 0#32
  let v642 : BitVec 1 := Scalar.cmpi .slt v638 c0_i32_423
  let v643 : BitVec 1 := Scalar.xori v641 v642
  let c0_i32_421 : BitVec 32 := 0#32
  let v640 : BitVec 1 := Scalar.cmpi .ne v639 c0_i32_421
  let v644 : BitVec 1 := Scalar.andi v643 v640
  let v645 : BitVec 32 := Scalar.addi v639 v638
  let v646 : BitVec 32 := Scalar.select v644 v645 v639
  let c256_i32_470 : BitVec 32 := 256#32
  let v711 : BitVec 32 := Scalar.muli v646 c256_i32_470
  let v712 : BitVec 32 := v711
  let c128_i32_473 : BitVec 32 := 128#32
  let v716 : BitVec 32 := Scalar.subi v712 c128_i32_473
  let v717 : BitVec 32 := Scalar.maxsi c0_i32_474 v716
  let v718 : BitVec 32 := Scalar.minsi c1536_i32_475 v717
  let v719 : BitVec 32 := v718
  let v730 : Index := Scalar.indexCast v719
  let c0_477 : Index := 0#32
  ![v730.toNat, 0]
def k0_off27 (d0 : Dev nD) (c0_i32_416 : BitVec 32) : Fin 2 → Nat :=
  let c1536_i32_475 : BitVec 32 := 1536#32
  let c0_i32_474 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v635 : BitVec 32 := Scalar.subi v2 c0_i32_416
  let c1_i32_417 : BitVec 32 := 1#32
  let v636 : BitVec 32 := Scalar.subi v635 c1_i32_417
  let c4_i32_418 : BitVec 32 := 4#32
  let c0_i32_419 : BitVec 32 := 0#32
  let v637 : BitVec 1 := Scalar.cmpi .eq c4_i32_418 c0_i32_419
  let c1_i32_420 : BitVec 32 := 1#32
  let v638 : BitVec 32 := Scalar.select v637 c1_i32_420 c4_i32_418
  let v639 : BitVec 32 := Scalar.remsi v636 v638
  let c0_i32_422 : BitVec 32 := 0#32
  let v641 : BitVec 1 := Scalar.cmpi .slt v639 c0_i32_422
  let c0_i32_423 : BitVec 32 := 0#32
  let v642 : BitVec 1 := Scalar.cmpi .slt v638 c0_i32_423
  let v643 : BitVec 1 := Scalar.xori v641 v642
  let c0_i32_421 : BitVec 32 := 0#32
  let v640 : BitVec 1 := Scalar.cmpi .ne v639 c0_i32_421
  let v644 : BitVec 1 := Scalar.andi v643 v640
  let v645 : BitVec 32 := Scalar.addi v639 v638
  let v646 : BitVec 32 := Scalar.select v644 v645 v639
  let c256_i32_470 : BitVec 32 := 256#32
  let v711 : BitVec 32 := Scalar.muli v646 c256_i32_470
  let v712 : BitVec 32 := v711
  let c128_i32_473 : BitVec 32 := 128#32
  let v716 : BitVec 32 := Scalar.subi v712 c128_i32_473
  let v717 : BitVec 32 := Scalar.maxsi c0_i32_474 v716
  let v718 : BitVec 32 := Scalar.minsi c1536_i32_475 v717
  let v719 : BitVec 32 := v718
  let v750 : Index := Scalar.indexCast v719
  let c128_485 : Index := 128#32
  ![v750.toNat, 128]
def k0_off28 (d0 : Dev nD) (c0_i32_416 : BitVec 32) : Fin 2 → Nat :=
  let c1536_i32_475 : BitVec 32 := 1536#32
  let c0_i32_474 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v635 : BitVec 32 := Scalar.subi v2 c0_i32_416
  let c1_i32_417 : BitVec 32 := 1#32
  let v636 : BitVec 32 := Scalar.subi v635 c1_i32_417
  let c4_i32_418 : BitVec 32 := 4#32
  let c0_i32_419 : BitVec 32 := 0#32
  let v637 : BitVec 1 := Scalar.cmpi .eq c4_i32_418 c0_i32_419
  let c1_i32_420 : BitVec 32 := 1#32
  let v638 : BitVec 32 := Scalar.select v637 c1_i32_420 c4_i32_418
  let v639 : BitVec 32 := Scalar.remsi v636 v638
  let c0_i32_422 : BitVec 32 := 0#32
  let v641 : BitVec 1 := Scalar.cmpi .slt v639 c0_i32_422
  let c0_i32_423 : BitVec 32 := 0#32
  let v642 : BitVec 1 := Scalar.cmpi .slt v638 c0_i32_423
  let v643 : BitVec 1 := Scalar.xori v641 v642
  let c0_i32_421 : BitVec 32 := 0#32
  let v640 : BitVec 1 := Scalar.cmpi .ne v639 c0_i32_421
  let v644 : BitVec 1 := Scalar.andi v643 v640
  let v645 : BitVec 32 := Scalar.addi v639 v638
  let v646 : BitVec 32 := Scalar.select v644 v645 v639
  let c256_i32_470 : BitVec 32 := 256#32
  let v711 : BitVec 32 := Scalar.muli v646 c256_i32_470
  let v712 : BitVec 32 := v711
  let c128_i32_473 : BitVec 32 := 128#32
  let v716 : BitVec 32 := Scalar.subi v712 c128_i32_473
  let v717 : BitVec 32 := Scalar.maxsi c0_i32_474 v716
  let v718 : BitVec 32 := Scalar.minsi c1536_i32_475 v717
  let v719 : BitVec 32 := v718
  let v770 : Index := Scalar.indexCast v719
  let c256_493 : Index := 256#32
  ![v770.toNat, 256]
def k0_off29 (d0 : Dev nD) (c0_i32_416 : BitVec 32) : Fin 2 → Nat :=
  let c1536_i32_475 : BitVec 32 := 1536#32
  let c0_i32_474 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v635 : BitVec 32 := Scalar.subi v2 c0_i32_416
  let c1_i32_417 : BitVec 32 := 1#32
  let v636 : BitVec 32 := Scalar.subi v635 c1_i32_417
  let c4_i32_418 : BitVec 32 := 4#32
  let c0_i32_419 : BitVec 32 := 0#32
  let v637 : BitVec 1 := Scalar.cmpi .eq c4_i32_418 c0_i32_419
  let c1_i32_420 : BitVec 32 := 1#32
  let v638 : BitVec 32 := Scalar.select v637 c1_i32_420 c4_i32_418
  let v639 : BitVec 32 := Scalar.remsi v636 v638
  let c0_i32_422 : BitVec 32 := 0#32
  let v641 : BitVec 1 := Scalar.cmpi .slt v639 c0_i32_422
  let c0_i32_423 : BitVec 32 := 0#32
  let v642 : BitVec 1 := Scalar.cmpi .slt v638 c0_i32_423
  let v643 : BitVec 1 := Scalar.xori v641 v642
  let c0_i32_421 : BitVec 32 := 0#32
  let v640 : BitVec 1 := Scalar.cmpi .ne v639 c0_i32_421
  let v644 : BitVec 1 := Scalar.andi v643 v640
  let v645 : BitVec 32 := Scalar.addi v639 v638
  let v646 : BitVec 32 := Scalar.select v644 v645 v639
  let c256_i32_470 : BitVec 32 := 256#32
  let v711 : BitVec 32 := Scalar.muli v646 c256_i32_470
  let v712 : BitVec 32 := v711
  let c128_i32_473 : BitVec 32 := 128#32
  let v716 : BitVec 32 := Scalar.subi v712 c128_i32_473
  let v717 : BitVec 32 := Scalar.maxsi c0_i32_474 v716
  let v718 : BitVec 32 := Scalar.minsi c1536_i32_475 v717
  let v719 : BitVec 32 := v718
  let v790 : Index := Scalar.indexCast v719
  let c384_501 : Index := 384#32
  ![v790.toNat, 384]
def k0_off30 (d0 : Dev nD) (c0_i32_416 : BitVec 32) : Fin 2 → Nat :=
  let c1536_i32_475 : BitVec 32 := 1536#32
  let c0_i32_474 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v635 : BitVec 32 := Scalar.subi v2 c0_i32_416
  let c1_i32_417 : BitVec 32 := 1#32
  let v636 : BitVec 32 := Scalar.subi v635 c1_i32_417
  let c4_i32_418 : BitVec 32 := 4#32
  let c0_i32_419 : BitVec 32 := 0#32
  let v637 : BitVec 1 := Scalar.cmpi .eq c4_i32_418 c0_i32_419
  let c1_i32_420 : BitVec 32 := 1#32
  let v638 : BitVec 32 := Scalar.select v637 c1_i32_420 c4_i32_418
  let v639 : BitVec 32 := Scalar.remsi v636 v638
  let c0_i32_422 : BitVec 32 := 0#32
  let v641 : BitVec 1 := Scalar.cmpi .slt v639 c0_i32_422
  let c0_i32_423 : BitVec 32 := 0#32
  let v642 : BitVec 1 := Scalar.cmpi .slt v638 c0_i32_423
  let v643 : BitVec 1 := Scalar.xori v641 v642
  let c0_i32_421 : BitVec 32 := 0#32
  let v640 : BitVec 1 := Scalar.cmpi .ne v639 c0_i32_421
  let v644 : BitVec 1 := Scalar.andi v643 v640
  let v645 : BitVec 32 := Scalar.addi v639 v638
  let v646 : BitVec 32 := Scalar.select v644 v645 v639
  let c256_i32_470 : BitVec 32 := 256#32
  let v711 : BitVec 32 := Scalar.muli v646 c256_i32_470
  let v712 : BitVec 32 := v711
  let c128_i32_473 : BitVec 32 := 128#32
  let v716 : BitVec 32 := Scalar.subi v712 c128_i32_473
  let v717 : BitVec 32 := Scalar.maxsi c0_i32_474 v716
  let v718 : BitVec 32 := Scalar.minsi c1536_i32_475 v717
  let v719 : BitVec 32 := v718
  let v810 : Index := Scalar.indexCast v719
  let c512_509 : Index := 512#32
  ![v810.toNat, 512]
def k0_off31 (d0 : Dev nD) (c0_i32_416 : BitVec 32) : Fin 2 → Nat :=
  let c1536_i32_475 : BitVec 32 := 1536#32
  let c0_i32_474 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v635 : BitVec 32 := Scalar.subi v2 c0_i32_416
  let c1_i32_417 : BitVec 32 := 1#32
  let v636 : BitVec 32 := Scalar.subi v635 c1_i32_417
  let c4_i32_418 : BitVec 32 := 4#32
  let c0_i32_419 : BitVec 32 := 0#32
  let v637 : BitVec 1 := Scalar.cmpi .eq c4_i32_418 c0_i32_419
  let c1_i32_420 : BitVec 32 := 1#32
  let v638 : BitVec 32 := Scalar.select v637 c1_i32_420 c4_i32_418
  let v639 : BitVec 32 := Scalar.remsi v636 v638
  let c0_i32_422 : BitVec 32 := 0#32
  let v641 : BitVec 1 := Scalar.cmpi .slt v639 c0_i32_422
  let c0_i32_423 : BitVec 32 := 0#32
  let v642 : BitVec 1 := Scalar.cmpi .slt v638 c0_i32_423
  let v643 : BitVec 1 := Scalar.xori v641 v642
  let c0_i32_421 : BitVec 32 := 0#32
  let v640 : BitVec 1 := Scalar.cmpi .ne v639 c0_i32_421
  let v644 : BitVec 1 := Scalar.andi v643 v640
  let v645 : BitVec 32 := Scalar.addi v639 v638
  let v646 : BitVec 32 := Scalar.select v644 v645 v639
  let c256_i32_470 : BitVec 32 := 256#32
  let v711 : BitVec 32 := Scalar.muli v646 c256_i32_470
  let v712 : BitVec 32 := v711
  let c128_i32_473 : BitVec 32 := 128#32
  let v716 : BitVec 32 := Scalar.subi v712 c128_i32_473
  let v717 : BitVec 32 := Scalar.maxsi c0_i32_474 v716
  let v718 : BitVec 32 := Scalar.minsi c1536_i32_475 v717
  let v719 : BitVec 32 := v718
  let v830 : Index := Scalar.indexCast v719
  let c640_517 : Index := 640#32
  ![v830.toNat, 640]
def k0_off32 (d0 : Dev nD) (c0_i32_416 : BitVec 32) : Fin 2 → Nat :=
  let c1536_i32_475 : BitVec 32 := 1536#32
  let c0_i32_474 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v635 : BitVec 32 := Scalar.subi v2 c0_i32_416
  let c1_i32_417 : BitVec 32 := 1#32
  let v636 : BitVec 32 := Scalar.subi v635 c1_i32_417
  let c4_i32_418 : BitVec 32 := 4#32
  let c0_i32_419 : BitVec 32 := 0#32
  let v637 : BitVec 1 := Scalar.cmpi .eq c4_i32_418 c0_i32_419
  let c1_i32_420 : BitVec 32 := 1#32
  let v638 : BitVec 32 := Scalar.select v637 c1_i32_420 c4_i32_418
  let v639 : BitVec 32 := Scalar.remsi v636 v638
  let c0_i32_422 : BitVec 32 := 0#32
  let v641 : BitVec 1 := Scalar.cmpi .slt v639 c0_i32_422
  let c0_i32_423 : BitVec 32 := 0#32
  let v642 : BitVec 1 := Scalar.cmpi .slt v638 c0_i32_423
  let v643 : BitVec 1 := Scalar.xori v641 v642
  let c0_i32_421 : BitVec 32 := 0#32
  let v640 : BitVec 1 := Scalar.cmpi .ne v639 c0_i32_421
  let v644 : BitVec 1 := Scalar.andi v643 v640
  let v645 : BitVec 32 := Scalar.addi v639 v638
  let v646 : BitVec 32 := Scalar.select v644 v645 v639
  let c256_i32_470 : BitVec 32 := 256#32
  let v711 : BitVec 32 := Scalar.muli v646 c256_i32_470
  let v712 : BitVec 32 := v711
  let c128_i32_473 : BitVec 32 := 128#32
  let v716 : BitVec 32 := Scalar.subi v712 c128_i32_473
  let v717 : BitVec 32 := Scalar.maxsi c0_i32_474 v716
  let v718 : BitVec 32 := Scalar.minsi c1536_i32_475 v717
  let v719 : BitVec 32 := v718
  let v850 : Index := Scalar.indexCast v719
  let c768_525 : Index := 768#32
  ![v850.toNat, 768]
def k0_off33 (d0 : Dev nD) (c0_i32_416 : BitVec 32) : Fin 2 → Nat :=
  let c1536_i32_475 : BitVec 32 := 1536#32
  let c0_i32_474 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v635 : BitVec 32 := Scalar.subi v2 c0_i32_416
  let c1_i32_417 : BitVec 32 := 1#32
  let v636 : BitVec 32 := Scalar.subi v635 c1_i32_417
  let c4_i32_418 : BitVec 32 := 4#32
  let c0_i32_419 : BitVec 32 := 0#32
  let v637 : BitVec 1 := Scalar.cmpi .eq c4_i32_418 c0_i32_419
  let c1_i32_420 : BitVec 32 := 1#32
  let v638 : BitVec 32 := Scalar.select v637 c1_i32_420 c4_i32_418
  let v639 : BitVec 32 := Scalar.remsi v636 v638
  let c0_i32_422 : BitVec 32 := 0#32
  let v641 : BitVec 1 := Scalar.cmpi .slt v639 c0_i32_422
  let c0_i32_423 : BitVec 32 := 0#32
  let v642 : BitVec 1 := Scalar.cmpi .slt v638 c0_i32_423
  let v643 : BitVec 1 := Scalar.xori v641 v642
  let c0_i32_421 : BitVec 32 := 0#32
  let v640 : BitVec 1 := Scalar.cmpi .ne v639 c0_i32_421
  let v644 : BitVec 1 := Scalar.andi v643 v640
  let v645 : BitVec 32 := Scalar.addi v639 v638
  let v646 : BitVec 32 := Scalar.select v644 v645 v639
  let c256_i32_470 : BitVec 32 := 256#32
  let v711 : BitVec 32 := Scalar.muli v646 c256_i32_470
  let v712 : BitVec 32 := v711
  let c128_i32_473 : BitVec 32 := 128#32
  let v716 : BitVec 32 := Scalar.subi v712 c128_i32_473
  let v717 : BitVec 32 := Scalar.maxsi c0_i32_474 v716
  let v718 : BitVec 32 := Scalar.minsi c1536_i32_475 v717
  let v719 : BitVec 32 := v718
  let v870 : Index := Scalar.indexCast v719
  let c896_533 : Index := 896#32
  ![v870.toNat, 896]
def k0_off34 (d0 : Dev nD) (c0_i32_416 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v635 : BitVec 32 := Scalar.subi v2 c0_i32_416
  let c1_i32_417 : BitVec 32 := 1#32
  let v636 : BitVec 32 := Scalar.subi v635 c1_i32_417
  let c4_i32_418 : BitVec 32 := 4#32
  let c0_i32_419 : BitVec 32 := 0#32
  let v637 : BitVec 1 := Scalar.cmpi .eq c4_i32_418 c0_i32_419
  let c1_i32_420 : BitVec 32 := 1#32
  let v638 : BitVec 32 := Scalar.select v637 c1_i32_420 c4_i32_418
  let v639 : BitVec 32 := Scalar.remsi v636 v638
  let c0_i32_422 : BitVec 32 := 0#32
  let v641 : BitVec 1 := Scalar.cmpi .slt v639 c0_i32_422
  let c0_i32_423 : BitVec 32 := 0#32
  let v642 : BitVec 1 := Scalar.cmpi .slt v638 c0_i32_423
  let v643 : BitVec 1 := Scalar.xori v641 v642
  let c0_i32_421 : BitVec 32 := 0#32
  let v640 : BitVec 1 := Scalar.cmpi .ne v639 c0_i32_421
  let v644 : BitVec 1 := Scalar.andi v643 v640
  let v645 : BitVec 32 := Scalar.addi v639 v638
  let v646 : BitVec 32 := Scalar.select v644 v645 v639
  let c4_i32_542 : BitVec 32 := 4#32
  let c0_i32_543 : BitVec 32 := 0#32
  let v892 : BitVec 1 := Scalar.cmpi .eq c4_i32_542 c0_i32_543
  let c1_i32_544 : BitVec 32 := 1#32
  let v893 : BitVec 32 := Scalar.select v892 c1_i32_544 c4_i32_542
  let v894 : BitVec 32 := Scalar.remsi v646 v893
  let c0_i32_546 : BitVec 32 := 0#32
  let v896 : BitVec 1 := Scalar.cmpi .slt v894 c0_i32_546
  let c0_i32_547 : BitVec 32 := 0#32
  let v897 : BitVec 1 := Scalar.cmpi .slt v893 c0_i32_547
  let v898 : BitVec 1 := Scalar.xori v896 v897
  let c0_i32_545 : BitVec 32 := 0#32
  let v895 : BitVec 1 := Scalar.cmpi .ne v894 c0_i32_545
  let v899 : BitVec 1 := Scalar.andi v898 v895
  let v900 : BitVec 32 := Scalar.addi v894 v893
  let v901 : BitVec 32 := Scalar.select v899 v900 v894
  let c256_i32_548 : BitVec 32 := 256#32
  let v902 : BitVec 32 := Scalar.muli v901 c256_i32_548
  let v903 : Index := Scalar.indexCast v902
  let c0_549 : Index := 0#32
  ![v903.toNat, 0]
def k0_mult7 (d0 : Dev nD) : BitVec 32 :=
  let c1024_i32_551 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_431 : BitVec 32 := 0#32
  let v658 : BitVec 32 := Scalar.addi v2 c0_i32_431
  let c1_i32_432 : BitVec 32 := 1#32
  let v659 : BitVec 32 := Scalar.addi v658 c1_i32_432
  let c4_i32_433 : BitVec 32 := 4#32
  let c0_i32_434 : BitVec 32 := 0#32
  let v660 : BitVec 1 := Scalar.cmpi .eq c4_i32_433 c0_i32_434
  let c1_i32_435 : BitVec 32 := 1#32
  let v661 : BitVec 32 := Scalar.select v660 c1_i32_435 c4_i32_433
  let v662 : BitVec 32 := Scalar.remsi v659 v661
  let c0_i32_437 : BitVec 32 := 0#32
  let v664 : BitVec 1 := Scalar.cmpi .slt v662 c0_i32_437
  let c0_i32_438 : BitVec 32 := 0#32
  let v665 : BitVec 1 := Scalar.cmpi .slt v661 c0_i32_438
  let v666 : BitVec 1 := Scalar.xori v664 v665
  let c0_i32_436 : BitVec 32 := 0#32
  let v663 : BitVec 1 := Scalar.cmpi .ne v662 c0_i32_436
  let v667 : BitVec 1 := Scalar.andi v666 v663
  let v668 : BitVec 32 := Scalar.addi v662 v661
  let v669 : BitVec 32 := Scalar.select v667 v668 v662
  let c256_i32_550 : BitVec 32 := 256#32
  let v905 : BitVec 32 := Scalar.muli v669 c256_i32_550
  let v906 : BitVec 32 := Scalar.addi c1024_i32_551 v905
  v906
def k0_off35 (d0 : Dev nD) (c0_i32_431 : BitVec 32) : Fin 2 → Nat :=
  let c1024_i32_551 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v658 : BitVec 32 := Scalar.addi v2 c0_i32_431
  let c1_i32_432 : BitVec 32 := 1#32
  let v659 : BitVec 32 := Scalar.addi v658 c1_i32_432
  let c4_i32_433 : BitVec 32 := 4#32
  let c0_i32_434 : BitVec 32 := 0#32
  let v660 : BitVec 1 := Scalar.cmpi .eq c4_i32_433 c0_i32_434
  let c1_i32_435 : BitVec 32 := 1#32
  let v661 : BitVec 32 := Scalar.select v660 c1_i32_435 c4_i32_433
  let v662 : BitVec 32 := Scalar.remsi v659 v661
  let c0_i32_437 : BitVec 32 := 0#32
  let v664 : BitVec 1 := Scalar.cmpi .slt v662 c0_i32_437
  let c0_i32_438 : BitVec 32 := 0#32
  let v665 : BitVec 1 := Scalar.cmpi .slt v661 c0_i32_438
  let v666 : BitVec 1 := Scalar.xori v664 v665
  let c0_i32_436 : BitVec 32 := 0#32
  let v663 : BitVec 1 := Scalar.cmpi .ne v662 c0_i32_436
  let v667 : BitVec 1 := Scalar.andi v666 v663
  let v668 : BitVec 32 := Scalar.addi v662 v661
  let v669 : BitVec 32 := Scalar.select v667 v668 v662
  let c256_i32_550 : BitVec 32 := 256#32
  let v905 : BitVec 32 := Scalar.muli v669 c256_i32_550
  let v906 : BitVec 32 := Scalar.addi c1024_i32_551 v905
  let v907 : BitVec 32 := v906
  let v908 : Index := Scalar.indexCast v907
  let c0_552 : Index := 0#32
  ![v908.toNat, 0]
def k0_mult8 (d0 : Dev nD) : BitVec 32 :=
  let c1536_i32_556 : BitVec 32 := 1536#32
  let c0_i32_555 : BitVec 32 := 0#32
  let c1024_i32_551 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_431 : BitVec 32 := 0#32
  let v658 : BitVec 32 := Scalar.addi v2 c0_i32_431
  let c1_i32_432 : BitVec 32 := 1#32
  let v659 : BitVec 32 := Scalar.addi v658 c1_i32_432
  let c4_i32_433 : BitVec 32 := 4#32
  let c0_i32_434 : BitVec 32 := 0#32
  let v660 : BitVec 1 := Scalar.cmpi .eq c4_i32_433 c0_i32_434
  let c1_i32_435 : BitVec 32 := 1#32
  let v661 : BitVec 32 := Scalar.select v660 c1_i32_435 c4_i32_433
  let v662 : BitVec 32 := Scalar.remsi v659 v661
  let c0_i32_437 : BitVec 32 := 0#32
  let v664 : BitVec 1 := Scalar.cmpi .slt v662 c0_i32_437
  let c0_i32_438 : BitVec 32 := 0#32
  let v665 : BitVec 1 := Scalar.cmpi .slt v661 c0_i32_438
  let v666 : BitVec 1 := Scalar.xori v664 v665
  let c0_i32_436 : BitVec 32 := 0#32
  let v663 : BitVec 1 := Scalar.cmpi .ne v662 c0_i32_436
  let v667 : BitVec 1 := Scalar.andi v666 v663
  let v668 : BitVec 32 := Scalar.addi v662 v661
  let v669 : BitVec 32 := Scalar.select v667 v668 v662
  let c256_i32_550 : BitVec 32 := 256#32
  let v905 : BitVec 32 := Scalar.muli v669 c256_i32_550
  let v906 : BitVec 32 := Scalar.addi c1024_i32_551 v905
  let v907 : BitVec 32 := v906
  let c128_i32_554 : BitVec 32 := 128#32
  let v911 : BitVec 32 := Scalar.subi v907 c128_i32_554
  let v912 : BitVec 32 := Scalar.maxsi c0_i32_555 v911
  let v913 : BitVec 32 := Scalar.minsi c1536_i32_556 v912
  v913
def k0_off36 (d0 : Dev nD) (c0_i32_431 : BitVec 32) : Fin 2 → Nat :=
  let c1536_i32_556 : BitVec 32 := 1536#32
  let c0_i32_555 : BitVec 32 := 0#32
  let c1024_i32_551 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v658 : BitVec 32 := Scalar.addi v2 c0_i32_431
  let c1_i32_432 : BitVec 32 := 1#32
  let v659 : BitVec 32 := Scalar.addi v658 c1_i32_432
  let c4_i32_433 : BitVec 32 := 4#32
  let c0_i32_434 : BitVec 32 := 0#32
  let v660 : BitVec 1 := Scalar.cmpi .eq c4_i32_433 c0_i32_434
  let c1_i32_435 : BitVec 32 := 1#32
  let v661 : BitVec 32 := Scalar.select v660 c1_i32_435 c4_i32_433
  let v662 : BitVec 32 := Scalar.remsi v659 v661
  let c0_i32_437 : BitVec 32 := 0#32
  let v664 : BitVec 1 := Scalar.cmpi .slt v662 c0_i32_437
  let c0_i32_438 : BitVec 32 := 0#32
  let v665 : BitVec 1 := Scalar.cmpi .slt v661 c0_i32_438
  let v666 : BitVec 1 := Scalar.xori v664 v665
  let c0_i32_436 : BitVec 32 := 0#32
  let v663 : BitVec 1 := Scalar.cmpi .ne v662 c0_i32_436
  let v667 : BitVec 1 := Scalar.andi v666 v663
  let v668 : BitVec 32 := Scalar.addi v662 v661
  let v669 : BitVec 32 := Scalar.select v667 v668 v662
  let c256_i32_550 : BitVec 32 := 256#32
  let v905 : BitVec 32 := Scalar.muli v669 c256_i32_550
  let v906 : BitVec 32 := Scalar.addi c1024_i32_551 v905
  let v907 : BitVec 32 := v906
  let c128_i32_554 : BitVec 32 := 128#32
  let v911 : BitVec 32 := Scalar.subi v907 c128_i32_554
  let v912 : BitVec 32 := Scalar.maxsi c0_i32_555 v911
  let v913 : BitVec 32 := Scalar.minsi c1536_i32_556 v912
  let v914 : BitVec 32 := v913
  let v925 : Index := Scalar.indexCast v914
  let c0_558 : Index := 0#32
  ![v925.toNat, 0]
def k0_off37 (d0 : Dev nD) (c0_i32_431 : BitVec 32) : Fin 2 → Nat :=
  let c1536_i32_556 : BitVec 32 := 1536#32
  let c0_i32_555 : BitVec 32 := 0#32
  let c1024_i32_551 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v658 : BitVec 32 := Scalar.addi v2 c0_i32_431
  let c1_i32_432 : BitVec 32 := 1#32
  let v659 : BitVec 32 := Scalar.addi v658 c1_i32_432
  let c4_i32_433 : BitVec 32 := 4#32
  let c0_i32_434 : BitVec 32 := 0#32
  let v660 : BitVec 1 := Scalar.cmpi .eq c4_i32_433 c0_i32_434
  let c1_i32_435 : BitVec 32 := 1#32
  let v661 : BitVec 32 := Scalar.select v660 c1_i32_435 c4_i32_433
  let v662 : BitVec 32 := Scalar.remsi v659 v661
  let c0_i32_437 : BitVec 32 := 0#32
  let v664 : BitVec 1 := Scalar.cmpi .slt v662 c0_i32_437
  let c0_i32_438 : BitVec 32 := 0#32
  let v665 : BitVec 1 := Scalar.cmpi .slt v661 c0_i32_438
  let v666 : BitVec 1 := Scalar.xori v664 v665
  let c0_i32_436 : BitVec 32 := 0#32
  let v663 : BitVec 1 := Scalar.cmpi .ne v662 c0_i32_436
  let v667 : BitVec 1 := Scalar.andi v666 v663
  let v668 : BitVec 32 := Scalar.addi v662 v661
  let v669 : BitVec 32 := Scalar.select v667 v668 v662
  let c256_i32_550 : BitVec 32 := 256#32
  let v905 : BitVec 32 := Scalar.muli v669 c256_i32_550
  let v906 : BitVec 32 := Scalar.addi c1024_i32_551 v905
  let v907 : BitVec 32 := v906
  let c128_i32_554 : BitVec 32 := 128#32
  let v911 : BitVec 32 := Scalar.subi v907 c128_i32_554
  let v912 : BitVec 32 := Scalar.maxsi c0_i32_555 v911
  let v913 : BitVec 32 := Scalar.minsi c1536_i32_556 v912
  let v914 : BitVec 32 := v913
  let v945 : Index := Scalar.indexCast v914
  let c128_566 : Index := 128#32
  ![v945.toNat, 128]
def k0_off38 (d0 : Dev nD) (c0_i32_431 : BitVec 32) : Fin 2 → Nat :=
  let c1536_i32_556 : BitVec 32 := 1536#32
  let c0_i32_555 : BitVec 32 := 0#32
  let c1024_i32_551 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v658 : BitVec 32 := Scalar.addi v2 c0_i32_431
  let c1_i32_432 : BitVec 32 := 1#32
  let v659 : BitVec 32 := Scalar.addi v658 c1_i32_432
  let c4_i32_433 : BitVec 32 := 4#32
  let c0_i32_434 : BitVec 32 := 0#32
  let v660 : BitVec 1 := Scalar.cmpi .eq c4_i32_433 c0_i32_434
  let c1_i32_435 : BitVec 32 := 1#32
  let v661 : BitVec 32 := Scalar.select v660 c1_i32_435 c4_i32_433
  let v662 : BitVec 32 := Scalar.remsi v659 v661
  let c0_i32_437 : BitVec 32 := 0#32
  let v664 : BitVec 1 := Scalar.cmpi .slt v662 c0_i32_437
  let c0_i32_438 : BitVec 32 := 0#32
  let v665 : BitVec 1 := Scalar.cmpi .slt v661 c0_i32_438
  let v666 : BitVec 1 := Scalar.xori v664 v665
  let c0_i32_436 : BitVec 32 := 0#32
  let v663 : BitVec 1 := Scalar.cmpi .ne v662 c0_i32_436
  let v667 : BitVec 1 := Scalar.andi v666 v663
  let v668 : BitVec 32 := Scalar.addi v662 v661
  let v669 : BitVec 32 := Scalar.select v667 v668 v662
  let c256_i32_550 : BitVec 32 := 256#32
  let v905 : BitVec 32 := Scalar.muli v669 c256_i32_550
  let v906 : BitVec 32 := Scalar.addi c1024_i32_551 v905
  let v907 : BitVec 32 := v906
  let c128_i32_554 : BitVec 32 := 128#32
  let v911 : BitVec 32 := Scalar.subi v907 c128_i32_554
  let v912 : BitVec 32 := Scalar.maxsi c0_i32_555 v911
  let v913 : BitVec 32 := Scalar.minsi c1536_i32_556 v912
  let v914 : BitVec 32 := v913
  let v965 : Index := Scalar.indexCast v914
  let c256_574 : Index := 256#32
  ![v965.toNat, 256]
def k0_off39 (d0 : Dev nD) (c0_i32_431 : BitVec 32) : Fin 2 → Nat :=
  let c1536_i32_556 : BitVec 32 := 1536#32
  let c0_i32_555 : BitVec 32 := 0#32
  let c1024_i32_551 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v658 : BitVec 32 := Scalar.addi v2 c0_i32_431
  let c1_i32_432 : BitVec 32 := 1#32
  let v659 : BitVec 32 := Scalar.addi v658 c1_i32_432
  let c4_i32_433 : BitVec 32 := 4#32
  let c0_i32_434 : BitVec 32 := 0#32
  let v660 : BitVec 1 := Scalar.cmpi .eq c4_i32_433 c0_i32_434
  let c1_i32_435 : BitVec 32 := 1#32
  let v661 : BitVec 32 := Scalar.select v660 c1_i32_435 c4_i32_433
  let v662 : BitVec 32 := Scalar.remsi v659 v661
  let c0_i32_437 : BitVec 32 := 0#32
  let v664 : BitVec 1 := Scalar.cmpi .slt v662 c0_i32_437
  let c0_i32_438 : BitVec 32 := 0#32
  let v665 : BitVec 1 := Scalar.cmpi .slt v661 c0_i32_438
  let v666 : BitVec 1 := Scalar.xori v664 v665
  let c0_i32_436 : BitVec 32 := 0#32
  let v663 : BitVec 1 := Scalar.cmpi .ne v662 c0_i32_436
  let v667 : BitVec 1 := Scalar.andi v666 v663
  let v668 : BitVec 32 := Scalar.addi v662 v661
  let v669 : BitVec 32 := Scalar.select v667 v668 v662
  let c256_i32_550 : BitVec 32 := 256#32
  let v905 : BitVec 32 := Scalar.muli v669 c256_i32_550
  let v906 : BitVec 32 := Scalar.addi c1024_i32_551 v905
  let v907 : BitVec 32 := v906
  let c128_i32_554 : BitVec 32 := 128#32
  let v911 : BitVec 32 := Scalar.subi v907 c128_i32_554
  let v912 : BitVec 32 := Scalar.maxsi c0_i32_555 v911
  let v913 : BitVec 32 := Scalar.minsi c1536_i32_556 v912
  let v914 : BitVec 32 := v913
  let v985 : Index := Scalar.indexCast v914
  let c384_582 : Index := 384#32
  ![v985.toNat, 384]
def k0_off40 (d0 : Dev nD) (c0_i32_431 : BitVec 32) : Fin 2 → Nat :=
  let c1536_i32_556 : BitVec 32 := 1536#32
  let c0_i32_555 : BitVec 32 := 0#32
  let c1024_i32_551 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v658 : BitVec 32 := Scalar.addi v2 c0_i32_431
  let c1_i32_432 : BitVec 32 := 1#32
  let v659 : BitVec 32 := Scalar.addi v658 c1_i32_432
  let c4_i32_433 : BitVec 32 := 4#32
  let c0_i32_434 : BitVec 32 := 0#32
  let v660 : BitVec 1 := Scalar.cmpi .eq c4_i32_433 c0_i32_434
  let c1_i32_435 : BitVec 32 := 1#32
  let v661 : BitVec 32 := Scalar.select v660 c1_i32_435 c4_i32_433
  let v662 : BitVec 32 := Scalar.remsi v659 v661
  let c0_i32_437 : BitVec 32 := 0#32
  let v664 : BitVec 1 := Scalar.cmpi .slt v662 c0_i32_437
  let c0_i32_438 : BitVec 32 := 0#32
  let v665 : BitVec 1 := Scalar.cmpi .slt v661 c0_i32_438
  let v666 : BitVec 1 := Scalar.xori v664 v665
  let c0_i32_436 : BitVec 32 := 0#32
  let v663 : BitVec 1 := Scalar.cmpi .ne v662 c0_i32_436
  let v667 : BitVec 1 := Scalar.andi v666 v663
  let v668 : BitVec 32 := Scalar.addi v662 v661
  let v669 : BitVec 32 := Scalar.select v667 v668 v662
  let c256_i32_550 : BitVec 32 := 256#32
  let v905 : BitVec 32 := Scalar.muli v669 c256_i32_550
  let v906 : BitVec 32 := Scalar.addi c1024_i32_551 v905
  let v907 : BitVec 32 := v906
  let c128_i32_554 : BitVec 32 := 128#32
  let v911 : BitVec 32 := Scalar.subi v907 c128_i32_554
  let v912 : BitVec 32 := Scalar.maxsi c0_i32_555 v911
  let v913 : BitVec 32 := Scalar.minsi c1536_i32_556 v912
  let v914 : BitVec 32 := v913
  let v1005 : Index := Scalar.indexCast v914
  let c512_590 : Index := 512#32
  ![v1005.toNat, 512]
def k0_off41 (d0 : Dev nD) (c0_i32_431 : BitVec 32) : Fin 2 → Nat :=
  let c1536_i32_556 : BitVec 32 := 1536#32
  let c0_i32_555 : BitVec 32 := 0#32
  let c1024_i32_551 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v658 : BitVec 32 := Scalar.addi v2 c0_i32_431
  let c1_i32_432 : BitVec 32 := 1#32
  let v659 : BitVec 32 := Scalar.addi v658 c1_i32_432
  let c4_i32_433 : BitVec 32 := 4#32
  let c0_i32_434 : BitVec 32 := 0#32
  let v660 : BitVec 1 := Scalar.cmpi .eq c4_i32_433 c0_i32_434
  let c1_i32_435 : BitVec 32 := 1#32
  let v661 : BitVec 32 := Scalar.select v660 c1_i32_435 c4_i32_433
  let v662 : BitVec 32 := Scalar.remsi v659 v661
  let c0_i32_437 : BitVec 32 := 0#32
  let v664 : BitVec 1 := Scalar.cmpi .slt v662 c0_i32_437
  let c0_i32_438 : BitVec 32 := 0#32
  let v665 : BitVec 1 := Scalar.cmpi .slt v661 c0_i32_438
  let v666 : BitVec 1 := Scalar.xori v664 v665
  let c0_i32_436 : BitVec 32 := 0#32
  let v663 : BitVec 1 := Scalar.cmpi .ne v662 c0_i32_436
  let v667 : BitVec 1 := Scalar.andi v666 v663
  let v668 : BitVec 32 := Scalar.addi v662 v661
  let v669 : BitVec 32 := Scalar.select v667 v668 v662
  let c256_i32_550 : BitVec 32 := 256#32
  let v905 : BitVec 32 := Scalar.muli v669 c256_i32_550
  let v906 : BitVec 32 := Scalar.addi c1024_i32_551 v905
  let v907 : BitVec 32 := v906
  let c128_i32_554 : BitVec 32 := 128#32
  let v911 : BitVec 32 := Scalar.subi v907 c128_i32_554
  let v912 : BitVec 32 := Scalar.maxsi c0_i32_555 v911
  let v913 : BitVec 32 := Scalar.minsi c1536_i32_556 v912
  let v914 : BitVec 32 := v913
  let v1025 : Index := Scalar.indexCast v914
  let c640_598 : Index := 640#32
  ![v1025.toNat, 640]
def k0_off42 (d0 : Dev nD) (c0_i32_431 : BitVec 32) : Fin 2 → Nat :=
  let c1536_i32_556 : BitVec 32 := 1536#32
  let c0_i32_555 : BitVec 32 := 0#32
  let c1024_i32_551 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v658 : BitVec 32 := Scalar.addi v2 c0_i32_431
  let c1_i32_432 : BitVec 32 := 1#32
  let v659 : BitVec 32 := Scalar.addi v658 c1_i32_432
  let c4_i32_433 : BitVec 32 := 4#32
  let c0_i32_434 : BitVec 32 := 0#32
  let v660 : BitVec 1 := Scalar.cmpi .eq c4_i32_433 c0_i32_434
  let c1_i32_435 : BitVec 32 := 1#32
  let v661 : BitVec 32 := Scalar.select v660 c1_i32_435 c4_i32_433
  let v662 : BitVec 32 := Scalar.remsi v659 v661
  let c0_i32_437 : BitVec 32 := 0#32
  let v664 : BitVec 1 := Scalar.cmpi .slt v662 c0_i32_437
  let c0_i32_438 : BitVec 32 := 0#32
  let v665 : BitVec 1 := Scalar.cmpi .slt v661 c0_i32_438
  let v666 : BitVec 1 := Scalar.xori v664 v665
  let c0_i32_436 : BitVec 32 := 0#32
  let v663 : BitVec 1 := Scalar.cmpi .ne v662 c0_i32_436
  let v667 : BitVec 1 := Scalar.andi v666 v663
  let v668 : BitVec 32 := Scalar.addi v662 v661
  let v669 : BitVec 32 := Scalar.select v667 v668 v662
  let c256_i32_550 : BitVec 32 := 256#32
  let v905 : BitVec 32 := Scalar.muli v669 c256_i32_550
  let v906 : BitVec 32 := Scalar.addi c1024_i32_551 v905
  let v907 : BitVec 32 := v906
  let c128_i32_554 : BitVec 32 := 128#32
  let v911 : BitVec 32 := Scalar.subi v907 c128_i32_554
  let v912 : BitVec 32 := Scalar.maxsi c0_i32_555 v911
  let v913 : BitVec 32 := Scalar.minsi c1536_i32_556 v912
  let v914 : BitVec 32 := v913
  let v1045 : Index := Scalar.indexCast v914
  let c768_606 : Index := 768#32
  ![v1045.toNat, 768]
def k0_off43 (d0 : Dev nD) (c0_i32_431 : BitVec 32) : Fin 2 → Nat :=
  let c1536_i32_556 : BitVec 32 := 1536#32
  let c0_i32_555 : BitVec 32 := 0#32
  let c1024_i32_551 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v658 : BitVec 32 := Scalar.addi v2 c0_i32_431
  let c1_i32_432 : BitVec 32 := 1#32
  let v659 : BitVec 32 := Scalar.addi v658 c1_i32_432
  let c4_i32_433 : BitVec 32 := 4#32
  let c0_i32_434 : BitVec 32 := 0#32
  let v660 : BitVec 1 := Scalar.cmpi .eq c4_i32_433 c0_i32_434
  let c1_i32_435 : BitVec 32 := 1#32
  let v661 : BitVec 32 := Scalar.select v660 c1_i32_435 c4_i32_433
  let v662 : BitVec 32 := Scalar.remsi v659 v661
  let c0_i32_437 : BitVec 32 := 0#32
  let v664 : BitVec 1 := Scalar.cmpi .slt v662 c0_i32_437
  let c0_i32_438 : BitVec 32 := 0#32
  let v665 : BitVec 1 := Scalar.cmpi .slt v661 c0_i32_438
  let v666 : BitVec 1 := Scalar.xori v664 v665
  let c0_i32_436 : BitVec 32 := 0#32
  let v663 : BitVec 1 := Scalar.cmpi .ne v662 c0_i32_436
  let v667 : BitVec 1 := Scalar.andi v666 v663
  let v668 : BitVec 32 := Scalar.addi v662 v661
  let v669 : BitVec 32 := Scalar.select v667 v668 v662
  let c256_i32_550 : BitVec 32 := 256#32
  let v905 : BitVec 32 := Scalar.muli v669 c256_i32_550
  let v906 : BitVec 32 := Scalar.addi c1024_i32_551 v905
  let v907 : BitVec 32 := v906
  let c128_i32_554 : BitVec 32 := 128#32
  let v911 : BitVec 32 := Scalar.subi v907 c128_i32_554
  let v912 : BitVec 32 := Scalar.maxsi c0_i32_555 v911
  let v913 : BitVec 32 := Scalar.minsi c1536_i32_556 v912
  let v914 : BitVec 32 := v913
  let v1065 : Index := Scalar.indexCast v914
  let c896_614 : Index := 896#32
  ![v1065.toNat, 896]
def k0_off44 (d0 : Dev nD) (c0_i32_431 : BitVec 32) : Fin 2 → Nat :=
  let c1024_i32_630 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v658 : BitVec 32 := Scalar.addi v2 c0_i32_431
  let c1_i32_432 : BitVec 32 := 1#32
  let v659 : BitVec 32 := Scalar.addi v658 c1_i32_432
  let c4_i32_433 : BitVec 32 := 4#32
  let c0_i32_434 : BitVec 32 := 0#32
  let v660 : BitVec 1 := Scalar.cmpi .eq c4_i32_433 c0_i32_434
  let c1_i32_435 : BitVec 32 := 1#32
  let v661 : BitVec 32 := Scalar.select v660 c1_i32_435 c4_i32_433
  let v662 : BitVec 32 := Scalar.remsi v659 v661
  let c0_i32_437 : BitVec 32 := 0#32
  let v664 : BitVec 1 := Scalar.cmpi .slt v662 c0_i32_437
  let c0_i32_438 : BitVec 32 := 0#32
  let v665 : BitVec 1 := Scalar.cmpi .slt v661 c0_i32_438
  let v666 : BitVec 1 := Scalar.xori v664 v665
  let c0_i32_436 : BitVec 32 := 0#32
  let v663 : BitVec 1 := Scalar.cmpi .ne v662 c0_i32_436
  let v667 : BitVec 1 := Scalar.andi v666 v663
  let v668 : BitVec 32 := Scalar.addi v662 v661
  let v669 : BitVec 32 := Scalar.select v667 v668 v662
  let c4_i32_623 : BitVec 32 := 4#32
  let c0_i32_624 : BitVec 32 := 0#32
  let v1087 : BitVec 1 := Scalar.cmpi .eq c4_i32_623 c0_i32_624
  let c1_i32_625 : BitVec 32 := 1#32
  let v1088 : BitVec 32 := Scalar.select v1087 c1_i32_625 c4_i32_623
  let v1089 : BitVec 32 := Scalar.remsi v669 v1088
  let c0_i32_627 : BitVec 32 := 0#32
  let v1091 : BitVec 1 := Scalar.cmpi .slt v1089 c0_i32_627
  let c0_i32_628 : BitVec 32 := 0#32
  let v1092 : BitVec 1 := Scalar.cmpi .slt v1088 c0_i32_628
  let v1093 : BitVec 1 := Scalar.xori v1091 v1092
  let c0_i32_626 : BitVec 32 := 0#32
  let v1090 : BitVec 1 := Scalar.cmpi .ne v1089 c0_i32_626
  let v1094 : BitVec 1 := Scalar.andi v1093 v1090
  let v1095 : BitVec 32 := Scalar.addi v1089 v1088
  let v1096 : BitVec 32 := Scalar.select v1094 v1095 v1089
  let c256_i32_629 : BitVec 32 := 256#32
  let v1097 : BitVec 32 := Scalar.muli v1096 c256_i32_629
  let v1098 : BitVec 32 := Scalar.addi c1024_i32_630 v1097
  let v1099 : Index := Scalar.indexCast v1098
  let c0_631 : Index := 0#32
  ![v1099.toNat, 0]
def k0_dev5 (d0 : Dev nD) : Nat :=
  let c0_i32_736 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_735 : BitVec 32 := 1#32
  let v1233 : BitVec 32 := Scalar.muli v24 c1_i32_735
  let v1234 : BitVec 32 := Scalar.addi c0_i32_736 v1233
  v1234.toNat
def k0_dev6 (d0 : Dev nD) : Nat :=
  let c0_i32_744 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_743 : BitVec 32 := 1#32
  let v1242 : BitVec 32 := Scalar.muli v13 c1_i32_743
  let v1243 : BitVec 32 := Scalar.addi c0_i32_744 v1242
  v1243.toNat
def k0_mult9 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_694 : BitVec 32 := 1#32
  let v1175 : BitVec 32 := Scalar.subi v2 c1_i32_694
  let c1_i32_695 : BitVec 32 := 1#32
  let v1176 : BitVec 32 := Scalar.subi v1175 c1_i32_695
  let c4_i32_696 : BitVec 32 := 4#32
  let c0_i32_697 : BitVec 32 := 0#32
  let v1177 : BitVec 1 := Scalar.cmpi .eq c4_i32_696 c0_i32_697
  let c1_i32_698 : BitVec 32 := 1#32
  let v1178 : BitVec 32 := Scalar.select v1177 c1_i32_698 c4_i32_696
  let v1179 : BitVec 32 := Scalar.remsi v1176 v1178
  let c0_i32_700 : BitVec 32 := 0#32
  let v1181 : BitVec 1 := Scalar.cmpi .slt v1179 c0_i32_700
  let c0_i32_701 : BitVec 32 := 0#32
  let v1182 : BitVec 1 := Scalar.cmpi .slt v1178 c0_i32_701
  let v1183 : BitVec 1 := Scalar.xori v1181 v1182
  let c0_i32_699 : BitVec 32 := 0#32
  let v1180 : BitVec 1 := Scalar.cmpi .ne v1179 c0_i32_699
  let v1184 : BitVec 1 := Scalar.andi v1183 v1180
  let v1185 : BitVec 32 := Scalar.addi v1179 v1178
  let v1186 : BitVec 32 := Scalar.select v1184 v1185 v1179
  let c256_i32_748 : BitVec 32 := 256#32
  let v1251 : BitVec 32 := Scalar.muli v1186 c256_i32_748
  v1251
def k0_mult10 (d0 : Dev nD) : BitVec 32 :=
  let c1536_i32_753 : BitVec 32 := 1536#32
  let c0_i32_752 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_694 : BitVec 32 := 1#32
  let v1175 : BitVec 32 := Scalar.subi v2 c1_i32_694
  let c1_i32_695 : BitVec 32 := 1#32
  let v1176 : BitVec 32 := Scalar.subi v1175 c1_i32_695
  let c4_i32_696 : BitVec 32 := 4#32
  let c0_i32_697 : BitVec 32 := 0#32
  let v1177 : BitVec 1 := Scalar.cmpi .eq c4_i32_696 c0_i32_697
  let c1_i32_698 : BitVec 32 := 1#32
  let v1178 : BitVec 32 := Scalar.select v1177 c1_i32_698 c4_i32_696
  let v1179 : BitVec 32 := Scalar.remsi v1176 v1178
  let c0_i32_700 : BitVec 32 := 0#32
  let v1181 : BitVec 1 := Scalar.cmpi .slt v1179 c0_i32_700
  let c0_i32_701 : BitVec 32 := 0#32
  let v1182 : BitVec 1 := Scalar.cmpi .slt v1178 c0_i32_701
  let v1183 : BitVec 1 := Scalar.xori v1181 v1182
  let c0_i32_699 : BitVec 32 := 0#32
  let v1180 : BitVec 1 := Scalar.cmpi .ne v1179 c0_i32_699
  let v1184 : BitVec 1 := Scalar.andi v1183 v1180
  let v1185 : BitVec 32 := Scalar.addi v1179 v1178
  let v1186 : BitVec 32 := Scalar.select v1184 v1185 v1179
  let c256_i32_748 : BitVec 32 := 256#32
  let v1251 : BitVec 32 := Scalar.muli v1186 c256_i32_748
  let v1252 : BitVec 32 := v1251
  let c128_i32_751 : BitVec 32 := 128#32
  let v1256 : BitVec 32 := Scalar.subi v1252 c128_i32_751
  let v1257 : BitVec 32 := Scalar.maxsi c0_i32_752 v1256
  let v1258 : BitVec 32 := Scalar.minsi c1536_i32_753 v1257
  v1258
def k0_mult11 (d0 : Dev nD) : BitVec 32 :=
  let c1024_i32_829 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_709 : BitVec 32 := 1#32
  let v1198 : BitVec 32 := Scalar.addi v2 c1_i32_709
  let c1_i32_710 : BitVec 32 := 1#32
  let v1199 : BitVec 32 := Scalar.addi v1198 c1_i32_710
  let c4_i32_711 : BitVec 32 := 4#32
  let c0_i32_712 : BitVec 32 := 0#32
  let v1200 : BitVec 1 := Scalar.cmpi .eq c4_i32_711 c0_i32_712
  let c1_i32_713 : BitVec 32 := 1#32
  let v1201 : BitVec 32 := Scalar.select v1200 c1_i32_713 c4_i32_711
  let v1202 : BitVec 32 := Scalar.remsi v1199 v1201
  let c0_i32_715 : BitVec 32 := 0#32
  let v1204 : BitVec 1 := Scalar.cmpi .slt v1202 c0_i32_715
  let c0_i32_716 : BitVec 32 := 0#32
  let v1205 : BitVec 1 := Scalar.cmpi .slt v1201 c0_i32_716
  let v1206 : BitVec 1 := Scalar.xori v1204 v1205
  let c0_i32_714 : BitVec 32 := 0#32
  let v1203 : BitVec 1 := Scalar.cmpi .ne v1202 c0_i32_714
  let v1207 : BitVec 1 := Scalar.andi v1206 v1203
  let v1208 : BitVec 32 := Scalar.addi v1202 v1201
  let v1209 : BitVec 32 := Scalar.select v1207 v1208 v1202
  let c256_i32_828 : BitVec 32 := 256#32
  let v1445 : BitVec 32 := Scalar.muli v1209 c256_i32_828
  let v1446 : BitVec 32 := Scalar.addi c1024_i32_829 v1445
  v1446
def k0_mult12 (d0 : Dev nD) : BitVec 32 :=
  let c1536_i32_834 : BitVec 32 := 1536#32
  let c0_i32_833 : BitVec 32 := 0#32
  let c1024_i32_829 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_709 : BitVec 32 := 1#32
  let v1198 : BitVec 32 := Scalar.addi v2 c1_i32_709
  let c1_i32_710 : BitVec 32 := 1#32
  let v1199 : BitVec 32 := Scalar.addi v1198 c1_i32_710
  let c4_i32_711 : BitVec 32 := 4#32
  let c0_i32_712 : BitVec 32 := 0#32
  let v1200 : BitVec 1 := Scalar.cmpi .eq c4_i32_711 c0_i32_712
  let c1_i32_713 : BitVec 32 := 1#32
  let v1201 : BitVec 32 := Scalar.select v1200 c1_i32_713 c4_i32_711
  let v1202 : BitVec 32 := Scalar.remsi v1199 v1201
  let c0_i32_715 : BitVec 32 := 0#32
  let v1204 : BitVec 1 := Scalar.cmpi .slt v1202 c0_i32_715
  let c0_i32_716 : BitVec 32 := 0#32
  let v1205 : BitVec 1 := Scalar.cmpi .slt v1201 c0_i32_716
  let v1206 : BitVec 1 := Scalar.xori v1204 v1205
  let c0_i32_714 : BitVec 32 := 0#32
  let v1203 : BitVec 1 := Scalar.cmpi .ne v1202 c0_i32_714
  let v1207 : BitVec 1 := Scalar.andi v1206 v1203
  let v1208 : BitVec 32 := Scalar.addi v1202 v1201
  let v1209 : BitVec 32 := Scalar.select v1207 v1208 v1202
  let c256_i32_828 : BitVec 32 := 256#32
  let v1445 : BitVec 32 := Scalar.muli v1209 c256_i32_828
  let v1446 : BitVec 32 := Scalar.addi c1024_i32_829 v1445
  let v1447 : BitVec 32 := v1446
  let c128_i32_832 : BitVec 32 := 128#32
  let v1451 : BitVec 32 := Scalar.subi v1447 c128_i32_832
  let v1452 : BitVec 32 := Scalar.maxsi c0_i32_833 v1451
  let v1453 : BitVec 32 := Scalar.minsi c1536_i32_834 v1452
  v1453
def k0_dev7 (d0 : Dev nD) : Nat :=
  let c0_i32_1013 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1012 : BitVec 32 := 1#32
  let v1773 : BitVec 32 := Scalar.muli v24 c1_i32_1012
  let v1774 : BitVec 32 := Scalar.addi c0_i32_1013 v1773
  v1774.toNat
def k0_dev8 (d0 : Dev nD) : Nat :=
  let c0_i32_1021 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1020 : BitVec 32 := 1#32
  let v1782 : BitVec 32 := Scalar.muli v13 c1_i32_1020
  let v1783 : BitVec 32 := Scalar.addi c0_i32_1021 v1782
  v1783.toNat
def k0_mult13 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_971 : BitVec 32 := 2#32
  let v1715 : BitVec 32 := Scalar.subi v2 c2_i32_971
  let c1_i32_972 : BitVec 32 := 1#32
  let v1716 : BitVec 32 := Scalar.subi v1715 c1_i32_972
  let c4_i32_973 : BitVec 32 := 4#32
  let c0_i32_974 : BitVec 32 := 0#32
  let v1717 : BitVec 1 := Scalar.cmpi .eq c4_i32_973 c0_i32_974
  let c1_i32_975 : BitVec 32 := 1#32
  let v1718 : BitVec 32 := Scalar.select v1717 c1_i32_975 c4_i32_973
  let v1719 : BitVec 32 := Scalar.remsi v1716 v1718
  let c0_i32_977 : BitVec 32 := 0#32
  let v1721 : BitVec 1 := Scalar.cmpi .slt v1719 c0_i32_977
  let c0_i32_978 : BitVec 32 := 0#32
  let v1722 : BitVec 1 := Scalar.cmpi .slt v1718 c0_i32_978
  let v1723 : BitVec 1 := Scalar.xori v1721 v1722
  let c0_i32_976 : BitVec 32 := 0#32
  let v1720 : BitVec 1 := Scalar.cmpi .ne v1719 c0_i32_976
  let v1724 : BitVec 1 := Scalar.andi v1723 v1720
  let v1725 : BitVec 32 := Scalar.addi v1719 v1718
  let v1726 : BitVec 32 := Scalar.select v1724 v1725 v1719
  let c256_i32_1025 : BitVec 32 := 256#32
  let v1791 : BitVec 32 := Scalar.muli v1726 c256_i32_1025
  v1791
def k0_mult14 (d0 : Dev nD) : BitVec 32 :=
  let c1536_i32_1030 : BitVec 32 := 1536#32
  let c0_i32_1029 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_971 : BitVec 32 := 2#32
  let v1715 : BitVec 32 := Scalar.subi v2 c2_i32_971
  let c1_i32_972 : BitVec 32 := 1#32
  let v1716 : BitVec 32 := Scalar.subi v1715 c1_i32_972
  let c4_i32_973 : BitVec 32 := 4#32
  let c0_i32_974 : BitVec 32 := 0#32
  let v1717 : BitVec 1 := Scalar.cmpi .eq c4_i32_973 c0_i32_974
  let c1_i32_975 : BitVec 32 := 1#32
  let v1718 : BitVec 32 := Scalar.select v1717 c1_i32_975 c4_i32_973
  let v1719 : BitVec 32 := Scalar.remsi v1716 v1718
  let c0_i32_977 : BitVec 32 := 0#32
  let v1721 : BitVec 1 := Scalar.cmpi .slt v1719 c0_i32_977
  let c0_i32_978 : BitVec 32 := 0#32
  let v1722 : BitVec 1 := Scalar.cmpi .slt v1718 c0_i32_978
  let v1723 : BitVec 1 := Scalar.xori v1721 v1722
  let c0_i32_976 : BitVec 32 := 0#32
  let v1720 : BitVec 1 := Scalar.cmpi .ne v1719 c0_i32_976
  let v1724 : BitVec 1 := Scalar.andi v1723 v1720
  let v1725 : BitVec 32 := Scalar.addi v1719 v1718
  let v1726 : BitVec 32 := Scalar.select v1724 v1725 v1719
  let c256_i32_1025 : BitVec 32 := 256#32
  let v1791 : BitVec 32 := Scalar.muli v1726 c256_i32_1025
  let v1792 : BitVec 32 := v1791
  let c128_i32_1028 : BitVec 32 := 128#32
  let v1796 : BitVec 32 := Scalar.subi v1792 c128_i32_1028
  let v1797 : BitVec 32 := Scalar.maxsi c0_i32_1029 v1796
  let v1798 : BitVec 32 := Scalar.minsi c1536_i32_1030 v1797
  v1798
def k0_mult15 (d0 : Dev nD) : BitVec 32 :=
  let c1024_i32_1106 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_986 : BitVec 32 := 2#32
  let v1738 : BitVec 32 := Scalar.addi v2 c2_i32_986
  let c1_i32_987 : BitVec 32 := 1#32
  let v1739 : BitVec 32 := Scalar.addi v1738 c1_i32_987
  let c4_i32_988 : BitVec 32 := 4#32
  let c0_i32_989 : BitVec 32 := 0#32
  let v1740 : BitVec 1 := Scalar.cmpi .eq c4_i32_988 c0_i32_989
  let c1_i32_990 : BitVec 32 := 1#32
  let v1741 : BitVec 32 := Scalar.select v1740 c1_i32_990 c4_i32_988
  let v1742 : BitVec 32 := Scalar.remsi v1739 v1741
  let c0_i32_992 : BitVec 32 := 0#32
  let v1744 : BitVec 1 := Scalar.cmpi .slt v1742 c0_i32_992
  let c0_i32_993 : BitVec 32 := 0#32
  let v1745 : BitVec 1 := Scalar.cmpi .slt v1741 c0_i32_993
  let v1746 : BitVec 1 := Scalar.xori v1744 v1745
  let c0_i32_991 : BitVec 32 := 0#32
  let v1743 : BitVec 1 := Scalar.cmpi .ne v1742 c0_i32_991
  let v1747 : BitVec 1 := Scalar.andi v1746 v1743
  let v1748 : BitVec 32 := Scalar.addi v1742 v1741
  let v1749 : BitVec 32 := Scalar.select v1747 v1748 v1742
  let c256_i32_1105 : BitVec 32 := 256#32
  let v1985 : BitVec 32 := Scalar.muli v1749 c256_i32_1105
  let v1986 : BitVec 32 := Scalar.addi c1024_i32_1106 v1985
  v1986
def k0_mult16 (d0 : Dev nD) : BitVec 32 :=
  let c1536_i32_1111 : BitVec 32 := 1536#32
  let c0_i32_1110 : BitVec 32 := 0#32
  let c1024_i32_1106 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_986 : BitVec 32 := 2#32
  let v1738 : BitVec 32 := Scalar.addi v2 c2_i32_986
  let c1_i32_987 : BitVec 32 := 1#32
  let v1739 : BitVec 32 := Scalar.addi v1738 c1_i32_987
  let c4_i32_988 : BitVec 32 := 4#32
  let c0_i32_989 : BitVec 32 := 0#32
  let v1740 : BitVec 1 := Scalar.cmpi .eq c4_i32_988 c0_i32_989
  let c1_i32_990 : BitVec 32 := 1#32
  let v1741 : BitVec 32 := Scalar.select v1740 c1_i32_990 c4_i32_988
  let v1742 : BitVec 32 := Scalar.remsi v1739 v1741
  let c0_i32_992 : BitVec 32 := 0#32
  let v1744 : BitVec 1 := Scalar.cmpi .slt v1742 c0_i32_992
  let c0_i32_993 : BitVec 32 := 0#32
  let v1745 : BitVec 1 := Scalar.cmpi .slt v1741 c0_i32_993
  let v1746 : BitVec 1 := Scalar.xori v1744 v1745
  let c0_i32_991 : BitVec 32 := 0#32
  let v1743 : BitVec 1 := Scalar.cmpi .ne v1742 c0_i32_991
  let v1747 : BitVec 1 := Scalar.andi v1746 v1743
  let v1748 : BitVec 32 := Scalar.addi v1742 v1741
  let v1749 : BitVec 32 := Scalar.select v1747 v1748 v1742
  let c256_i32_1105 : BitVec 32 := 256#32
  let v1985 : BitVec 32 := Scalar.muli v1749 c256_i32_1105
  let v1986 : BitVec 32 := Scalar.addi c1024_i32_1106 v1985
  let v1987 : BitVec 32 := v1986
  let c128_i32_1109 : BitVec 32 := 128#32
  let v1991 : BitVec 32 := Scalar.subi v1987 c128_i32_1109
  let v1992 : BitVec 32 := Scalar.maxsi c0_i32_1110 v1991
  let v1993 : BitVec 32 := Scalar.minsi c1536_i32_1111 v1992
  v1993
def k0_off45 (d0 : Dev nD) (c0_i32_1242 : BitVec 32) (c0_i32_1272 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1241 : BitVec 32 := 1#32
  let v2244 : BitVec 32 := Scalar.addi v2 c1_i32_1241
  let v2245 : BitVec 32 := Scalar.subi v2244 c0_i32_1242
  let c4_i32_1243 : BitVec 32 := 4#32
  let c0_i32_1244 : BitVec 32 := 0#32
  let v2246 : BitVec 1 := Scalar.cmpi .eq c4_i32_1243 c0_i32_1244
  let c1_i32_1245 : BitVec 32 := 1#32
  let v2247 : BitVec 32 := Scalar.select v2246 c1_i32_1245 c4_i32_1243
  let v2248 : BitVec 32 := Scalar.remsi v2245 v2247
  let c0_i32_1247 : BitVec 32 := 0#32
  let v2250 : BitVec 1 := Scalar.cmpi .slt v2248 c0_i32_1247
  let c0_i32_1248 : BitVec 32 := 0#32
  let v2251 : BitVec 1 := Scalar.cmpi .slt v2247 c0_i32_1248
  let v2252 : BitVec 1 := Scalar.xori v2250 v2251
  let c0_i32_1246 : BitVec 32 := 0#32
  let v2249 : BitVec 1 := Scalar.cmpi .ne v2248 c0_i32_1246
  let v2253 : BitVec 1 := Scalar.andi v2252 v2249
  let v2254 : BitVec 32 := Scalar.addi v2248 v2247
  let v2255 : BitVec 32 := Scalar.select v2253 v2254 v2248
  let c4_i32_1265 : BitVec 32 := 4#32
  let c0_i32_1266 : BitVec 32 := 0#32
  let v2280 : BitVec 1 := Scalar.cmpi .eq c4_i32_1265 c0_i32_1266
  let c1_i32_1267 : BitVec 32 := 1#32
  let v2281 : BitVec 32 := Scalar.select v2280 c1_i32_1267 c4_i32_1265
  let v2282 : BitVec 32 := Scalar.remsi v2255 v2281
  let c0_i32_1269 : BitVec 32 := 0#32
  let v2284 : BitVec 1 := Scalar.cmpi .slt v2282 c0_i32_1269
  let c0_i32_1270 : BitVec 32 := 0#32
  let v2285 : BitVec 1 := Scalar.cmpi .slt v2281 c0_i32_1270
  let v2286 : BitVec 1 := Scalar.xori v2284 v2285
  let c0_i32_1268 : BitVec 32 := 0#32
  let v2283 : BitVec 1 := Scalar.cmpi .ne v2282 c0_i32_1268
  let v2287 : BitVec 1 := Scalar.andi v2286 v2283
  let v2288 : BitVec 32 := Scalar.addi v2282 v2281
  let v2289 : BitVec 32 := Scalar.select v2287 v2288 v2282
  let c256_i32_1271 : BitVec 32 := 256#32
  let v2290 : BitVec 32 := Scalar.muli v2289 c256_i32_1271
  let v2291 : BitVec 32 := Scalar.addi v2290 c0_i32_1272
  let c0_i32_1295 : BitVec 32 := 0#32
  ![v2291.toNat, 0]
def k0_dev9 (d0 : Dev nD) : Nat :=
  let c0_i32_1294 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1293 : BitVec 32 := 1#32
  let v2318 : BitVec 32 := Scalar.muli v24 c1_i32_1293
  let v2319 : BitVec 32 := Scalar.addi c0_i32_1294 v2318
  v2319.toNat
def k0_off46 (d0 : Dev nD) (c0_i32_1250 : BitVec 32) (c0_i32_1290 : BitVec 32) : Fin 2 → Nat :=
  let c1024_i32_1289 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1249 : BitVec 32 := 1#32
  let v2256 : BitVec 32 := Scalar.subi v2 c1_i32_1249
  let v2257 : BitVec 32 := Scalar.addi v2256 c0_i32_1250
  let c4_i32_1251 : BitVec 32 := 4#32
  let c0_i32_1252 : BitVec 32 := 0#32
  let v2258 : BitVec 1 := Scalar.cmpi .eq c4_i32_1251 c0_i32_1252
  let c1_i32_1253 : BitVec 32 := 1#32
  let v2259 : BitVec 32 := Scalar.select v2258 c1_i32_1253 c4_i32_1251
  let v2260 : BitVec 32 := Scalar.remsi v2257 v2259
  let c0_i32_1255 : BitVec 32 := 0#32
  let v2262 : BitVec 1 := Scalar.cmpi .slt v2260 c0_i32_1255
  let c0_i32_1256 : BitVec 32 := 0#32
  let v2263 : BitVec 1 := Scalar.cmpi .slt v2259 c0_i32_1256
  let v2264 : BitVec 1 := Scalar.xori v2262 v2263
  let c0_i32_1254 : BitVec 32 := 0#32
  let v2261 : BitVec 1 := Scalar.cmpi .ne v2260 c0_i32_1254
  let v2265 : BitVec 1 := Scalar.andi v2264 v2261
  let v2266 : BitVec 32 := Scalar.addi v2260 v2259
  let v2267 : BitVec 32 := Scalar.select v2265 v2266 v2260
  let c4_i32_1282 : BitVec 32 := 4#32
  let c0_i32_1283 : BitVec 32 := 0#32
  let v2305 : BitVec 1 := Scalar.cmpi .eq c4_i32_1282 c0_i32_1283
  let c1_i32_1284 : BitVec 32 := 1#32
  let v2306 : BitVec 32 := Scalar.select v2305 c1_i32_1284 c4_i32_1282
  let v2307 : BitVec 32 := Scalar.remsi v2267 v2306
  let c0_i32_1286 : BitVec 32 := 0#32
  let v2309 : BitVec 1 := Scalar.cmpi .slt v2307 c0_i32_1286
  let c0_i32_1287 : BitVec 32 := 0#32
  let v2310 : BitVec 1 := Scalar.cmpi .slt v2306 c0_i32_1287
  let v2311 : BitVec 1 := Scalar.xori v2309 v2310
  let c0_i32_1285 : BitVec 32 := 0#32
  let v2308 : BitVec 1 := Scalar.cmpi .ne v2307 c0_i32_1285
  let v2312 : BitVec 1 := Scalar.andi v2311 v2308
  let v2313 : BitVec 32 := Scalar.addi v2307 v2306
  let v2314 : BitVec 32 := Scalar.select v2312 v2313 v2307
  let c256_i32_1288 : BitVec 32 := 256#32
  let v2315 : BitVec 32 := Scalar.muli v2314 c256_i32_1288
  let v2316 : BitVec 32 := Scalar.addi c1024_i32_1289 v2315
  let v2317 : BitVec 32 := Scalar.addi v2316 c0_i32_1290
  let c0_i32_1301 : BitVec 32 := 0#32
  ![v2317.toNat, 0]
def k0_dev10 (d0 : Dev nD) : Nat :=
  let c0_i32_1300 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1299 : BitVec 32 := 1#32
  let v2326 : BitVec 32 := Scalar.muli v13 c1_i32_1299
  let v2327 : BitVec 32 := Scalar.addi c0_i32_1300 v2326
  v2327.toNat
def k0_dev11 (d0 : Dev nD) : Nat :=
  let c0_i32_1356 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1355 : BitVec 32 := 1#32
  let v2408 : BitVec 32 := Scalar.muli v24 c1_i32_1355
  let v2409 : BitVec 32 := Scalar.addi c0_i32_1356 v2408
  v2409.toNat
def k0_dev12 (d0 : Dev nD) : Nat :=
  let c0_i32_1362 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1361 : BitVec 32 := 1#32
  let v2416 : BitVec 32 := Scalar.muli v13 c1_i32_1361
  let v2417 : BitVec 32 := Scalar.addi c0_i32_1362 v2416
  v2417.toNat
def k0_off47 (d0 : Dev nD) (c0_i32_1365 : BitVec 32) (c0_i32_1394 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2424 : BitVec 32 := Scalar.subi v2 c0_i32_1365
  let c4_i32_1366 : BitVec 32 := 4#32
  let c0_i32_1367 : BitVec 32 := 0#32
  let v2425 : BitVec 1 := Scalar.cmpi .eq c4_i32_1366 c0_i32_1367
  let c1_i32_1368 : BitVec 32 := 1#32
  let v2426 : BitVec 32 := Scalar.select v2425 c1_i32_1368 c4_i32_1366
  let v2427 : BitVec 32 := Scalar.remsi v2424 v2426
  let c0_i32_1370 : BitVec 32 := 0#32
  let v2429 : BitVec 1 := Scalar.cmpi .slt v2427 c0_i32_1370
  let c0_i32_1371 : BitVec 32 := 0#32
  let v2430 : BitVec 1 := Scalar.cmpi .slt v2426 c0_i32_1371
  let v2431 : BitVec 1 := Scalar.xori v2429 v2430
  let c0_i32_1369 : BitVec 32 := 0#32
  let v2428 : BitVec 1 := Scalar.cmpi .ne v2427 c0_i32_1369
  let v2432 : BitVec 1 := Scalar.andi v2431 v2428
  let v2433 : BitVec 32 := Scalar.addi v2427 v2426
  let v2434 : BitVec 32 := Scalar.select v2432 v2433 v2427
  let c4_i32_1387 : BitVec 32 := 4#32
  let c0_i32_1388 : BitVec 32 := 0#32
  let v2458 : BitVec 1 := Scalar.cmpi .eq c4_i32_1387 c0_i32_1388
  let c1_i32_1389 : BitVec 32 := 1#32
  let v2459 : BitVec 32 := Scalar.select v2458 c1_i32_1389 c4_i32_1387
  let v2460 : BitVec 32 := Scalar.remsi v2434 v2459
  let c0_i32_1391 : BitVec 32 := 0#32
  let v2462 : BitVec 1 := Scalar.cmpi .slt v2460 c0_i32_1391
  let c0_i32_1392 : BitVec 32 := 0#32
  let v2463 : BitVec 1 := Scalar.cmpi .slt v2459 c0_i32_1392
  let v2464 : BitVec 1 := Scalar.xori v2462 v2463
  let c0_i32_1390 : BitVec 32 := 0#32
  let v2461 : BitVec 1 := Scalar.cmpi .ne v2460 c0_i32_1390
  let v2465 : BitVec 1 := Scalar.andi v2464 v2461
  let v2466 : BitVec 32 := Scalar.addi v2460 v2459
  let v2467 : BitVec 32 := Scalar.select v2465 v2466 v2460
  let c256_i32_1393 : BitVec 32 := 256#32
  let v2468 : BitVec 32 := Scalar.muli v2467 c256_i32_1393
  let v2469 : BitVec 32 := Scalar.addi v2468 c0_i32_1394
  let c0_i32_1417 : BitVec 32 := 0#32
  ![v2469.toNat, 0]
def k0_off48 (d0 : Dev nD) (c0_i32_1372 : BitVec 32) (c0_i32_1412 : BitVec 32) : Fin 2 → Nat :=
  let c1024_i32_1411 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2435 : BitVec 32 := Scalar.addi v2 c0_i32_1372
  let c4_i32_1373 : BitVec 32 := 4#32
  let c0_i32_1374 : BitVec 32 := 0#32
  let v2436 : BitVec 1 := Scalar.cmpi .eq c4_i32_1373 c0_i32_1374
  let c1_i32_1375 : BitVec 32 := 1#32
  let v2437 : BitVec 32 := Scalar.select v2436 c1_i32_1375 c4_i32_1373
  let v2438 : BitVec 32 := Scalar.remsi v2435 v2437
  let c0_i32_1377 : BitVec 32 := 0#32
  let v2440 : BitVec 1 := Scalar.cmpi .slt v2438 c0_i32_1377
  let c0_i32_1378 : BitVec 32 := 0#32
  let v2441 : BitVec 1 := Scalar.cmpi .slt v2437 c0_i32_1378
  let v2442 : BitVec 1 := Scalar.xori v2440 v2441
  let c0_i32_1376 : BitVec 32 := 0#32
  let v2439 : BitVec 1 := Scalar.cmpi .ne v2438 c0_i32_1376
  let v2443 : BitVec 1 := Scalar.andi v2442 v2439
  let v2444 : BitVec 32 := Scalar.addi v2438 v2437
  let v2445 : BitVec 32 := Scalar.select v2443 v2444 v2438
  let c4_i32_1404 : BitVec 32 := 4#32
  let c0_i32_1405 : BitVec 32 := 0#32
  let v2483 : BitVec 1 := Scalar.cmpi .eq c4_i32_1404 c0_i32_1405
  let c1_i32_1406 : BitVec 32 := 1#32
  let v2484 : BitVec 32 := Scalar.select v2483 c1_i32_1406 c4_i32_1404
  let v2485 : BitVec 32 := Scalar.remsi v2445 v2484
  let c0_i32_1408 : BitVec 32 := 0#32
  let v2487 : BitVec 1 := Scalar.cmpi .slt v2485 c0_i32_1408
  let c0_i32_1409 : BitVec 32 := 0#32
  let v2488 : BitVec 1 := Scalar.cmpi .slt v2484 c0_i32_1409
  let v2489 : BitVec 1 := Scalar.xori v2487 v2488
  let c0_i32_1407 : BitVec 32 := 0#32
  let v2486 : BitVec 1 := Scalar.cmpi .ne v2485 c0_i32_1407
  let v2490 : BitVec 1 := Scalar.andi v2489 v2486
  let v2491 : BitVec 32 := Scalar.addi v2485 v2484
  let v2492 : BitVec 32 := Scalar.select v2490 v2491 v2485
  let c256_i32_1410 : BitVec 32 := 256#32
  let v2493 : BitVec 32 := Scalar.muli v2492 c256_i32_1410
  let v2494 : BitVec 32 := Scalar.addi c1024_i32_1411 v2493
  let v2495 : BitVec 32 := Scalar.addi v2494 c0_i32_1412
  let c0_i32_1423 : BitVec 32 := 0#32
  ![v2495.toNat, 0]
def k0_dev13 (d0 : Dev nD) : Nat :=
  let c0_i32_1478 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1477 : BitVec 32 := 1#32
  let v2582 : BitVec 32 := Scalar.muli v24 c1_i32_1477
  let v2583 : BitVec 32 := Scalar.addi c0_i32_1478 v2582
  v2583.toNat
def k0_dev14 (d0 : Dev nD) : Nat :=
  let c0_i32_1484 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1483 : BitVec 32 := 1#32
  let v2590 : BitVec 32 := Scalar.muli v13 c1_i32_1483
  let v2591 : BitVec 32 := Scalar.addi c0_i32_1484 v2590
  v2591.toNat
def k0_dev15 (d0 : Dev nD) : Nat :=
  let c0_i32_1600 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1599 : BitVec 32 := 1#32
  let v2756 : BitVec 32 := Scalar.muli v24 c1_i32_1599
  let v2757 : BitVec 32 := Scalar.addi c0_i32_1600 v2756
  v2757.toNat
def k0_dev16 (d0 : Dev nD) : Nat :=
  let c0_i32_1606 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1605 : BitVec 32 := 1#32
  let v2764 : BitVec 32 := Scalar.muli v13 c1_i32_1605
  let v2765 : BitVec 32 := Scalar.addi c0_i32_1606 v2764
  v2765.toNat
def k0_dev17 (d0 : Dev nD) : Nat :=
  let c0_i32_1722 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1721 : BitVec 32 := 1#32
  let v2930 : BitVec 32 := Scalar.muli v24 c1_i32_1721
  let v2931 : BitVec 32 := Scalar.addi c0_i32_1722 v2930
  v2931.toNat
def k0_dev18 (d0 : Dev nD) : Nat :=
  let c0_i32_1728 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1727 : BitVec 32 := 1#32
  let v2938 : BitVec 32 := Scalar.muli v13 c1_i32_1727
  let v2939 : BitVec 32 := Scalar.addi c0_i32_1728 v2938
  v2939.toNat
def k0_dev19 (d0 : Dev nD) : Nat :=
  let c0_i32_1844 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1843 : BitVec 32 := 1#32
  let v3104 : BitVec 32 := Scalar.muli v24 c1_i32_1843
  let v3105 : BitVec 32 := Scalar.addi c0_i32_1844 v3104
  v3105.toNat
def k0_dev20 (d0 : Dev nD) : Nat :=
  let c0_i32_1850 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1849 : BitVec 32 := 1#32
  let v3112 : BitVec 32 := Scalar.muli v13 c1_i32_1849
  let v3113 : BitVec 32 := Scalar.addi c0_i32_1850 v3112
  v3113.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | "scale" => some (((Real.sqrt 128)⁻¹ : ℝ) : EReal)
  | _ => none
-- ==== ReferenceIdeal.lean ====
abbrev S1x2048x1024 : Shape := ⟨3, ![1, 2048, 1024]⟩
abbrev S1024x4096 : Shape := ⟨2, ![1024, 4096]⟩
abbrev S1x2048x32x128 : Shape := ⟨4, ![1, 2048, 32, 128]⟩
abbrev S4096x1024 : Shape := ⟨2, ![4096, 1024]⟩
abbrev S1x2048x4096 : Shape := ⟨3, ![1, 2048, 4096]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S1x32x2048x2048 : Shape := ⟨4, ![1, 32, 2048, 2048]⟩
abbrev S1x1x2048x2048 : Shape := ⟨4, ![1, 1, 2048, 2048]⟩
abbrev S1x32x2048 : Shape := ⟨3, ![1, 32, 2048]⟩
abbrev S1x32x2048x1 : Shape := ⟨4, ![1, 32, 2048, 1]⟩
abbrev S1x1x2048x1 : Shape := ⟨4, ![1, 1, 2048, 1]⟩
abbrev S1x32x128x2048 : Shape := ⟨4, ![1, 32, 128, 2048]⟩
abbrev S2048x1024 : Shape := ⟨2, ![2048, 1024]⟩

abbrev nBuf : Space → Nat
  | .hbm => 59
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x4096, .f32⟩
  | .hbm, ⟨2, _⟩ => ⟨S1x2048x32x128, .f32⟩
  | .hbm, ⟨3, _⟩ => ⟨S1x2048x32x128, .f32⟩
  | .hbm, ⟨4, _⟩ => ⟨S4096x1024, .f32⟩
  | .hbm, ⟨5, _⟩ => ⟨S1x2048x4096, .f32⟩
  | .hbm, ⟨6, _⟩ => ⟨S1x2048x32x128, .f32⟩
  | .hbm, ⟨7, _⟩ => ⟨S2048, .i32⟩
  | .hbm, ⟨8, _⟩ => ⟨S2048x1, .i32⟩
  | .hbm, ⟨9, _⟩ => ⟨S2048, .i32⟩
  | .hbm, ⟨10, _⟩ => ⟨S1x2048, .i32⟩
  | .hbm, ⟨11, _⟩ => ⟨S2048x2048, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S_, .i32⟩
  | .hbm, ⟨16, _⟩ => ⟨S2048x2048, .i32⟩
  | .hbm, ⟨17, _⟩ => ⟨S2048x2048, .i1⟩
  | .hbm, ⟨18, _⟩ => ⟨S1x32x2048x2048, .f32⟩
  | .hbm, ⟨19, _⟩ => ⟨S_, .f32⟩
  | .hbm, ⟨20, _⟩ => ⟨S_, .f32⟩
  | .hbm, ⟨21, _⟩ => ⟨S1x32x2048x2048, .f32⟩
  | .hbm, ⟨22, _⟩ => ⟨S1x32x2048x2048, .f32⟩
  | .hbm, ⟨23, _⟩ => ⟨S1x1x2048x2048, .i1⟩
  | .hbm, ⟨24, _⟩ => ⟨S_, .f32⟩
  | .hbm, ⟨25, _⟩ => ⟨S_, .f32⟩
  | .hbm, ⟨26, _⟩ => ⟨S1x32x2048x2048, .i1⟩
  | .hbm, ⟨27, _⟩ => ⟨S1x32x2048x2048, .f32⟩
  | .hbm, ⟨28, _⟩ => ⟨S1x32x2048x2048, .f32⟩
  | .hbm, ⟨29, _⟩ => ⟨S_, .f32⟩
  | .hbm, ⟨30, _⟩ => ⟨S1x32x2048, .f32⟩
  | .hbm, ⟨31, _⟩ => ⟨S1x32x2048x1, .f32⟩
  | .hbm, ⟨32, _⟩ => ⟨S1x32x2048x2048, .f32⟩
  | .hbm, ⟨33, _⟩ => ⟨S1x32x2048x2048, .f32⟩
  | .hbm, ⟨34, _⟩ => ⟨S1x32x2048x2048, .f32⟩
  | .hbm, ⟨35, _⟩ => ⟨S_, .i1⟩
  | .hbm, ⟨36, _⟩ => ⟨S2048, .i1⟩
  | .hbm, ⟨37, _⟩ => ⟨S1x1x2048x1, .i1⟩
  | .hbm, ⟨38, _⟩ => ⟨S_, .f32⟩
  | .hbm, ⟨39, _⟩ => ⟨S1x32x2048, .f32⟩
  | .hbm, ⟨40, _⟩ => ⟨S1x32x2048x1, .f32⟩
  | .hbm, ⟨41, _⟩ => ⟨S_, .f32⟩
  | .hbm, ⟨42, _⟩ => ⟨S_, .f32⟩
  | .hbm, ⟨43, _⟩ => ⟨S1x32x2048x1, .i1⟩
  | .hbm, ⟨44, _⟩ => ⟨S1x32x2048x1, .f32⟩
  | .hbm, ⟨45, _⟩ => ⟨S1x32x2048x1, .f32⟩
  | .hbm, ⟨46, _⟩ => ⟨S1x32x2048x2048, .f32⟩
  | .hbm, ⟨47, _⟩ => ⟨S1x32x2048x2048, .f32⟩
  | .hbm, ⟨48, _⟩ => ⟨S1x1x2048x1, .i1⟩
  | .hbm, ⟨49, _⟩ => ⟨S_, .f32⟩
  | .hbm, ⟨50, _⟩ => ⟨S_, .f32⟩
  | .hbm, ⟨51, _⟩ => ⟨S1x32x2048x2048, .i1⟩
  | .hbm, ⟨52, _⟩ => ⟨S1x32x2048x2048, .f32⟩
  | .hbm, ⟨53, _⟩ => ⟨S1x32x2048x2048, .f32⟩
  | .hbm, ⟨54, _⟩ => ⟨S1x32x128x2048, .f32⟩
  | .hbm, ⟨55, _⟩ => ⟨S1x2048x32x128, .f32⟩
  | .hbm, ⟨56, _⟩ => ⟨S1x2048x4096, .f32⟩
  | .hbm, ⟨57, _⟩ => ⟨S1x2048x1024, .f32⟩
  | .hbm, ⟨58, _⟩ => ⟨S2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩

abbrev nD : Nat := 1
abbrev τ : Topo := Topo.v7x

variable {F : FTy → Type} [FloatOps F]
-- ==== Proof.Kernel.Seq.lean ====
/-
The parts of the kernel on its own buffers, one after the other, and the split of the state the first of them start from.
-/
module

public import proofs.«01_k».proof.Proof.Kernel.Chunk

@[expose] public section

noncomputable section

namespace Cert.KernelProof

open Cert.Kernel Cert.Kernel.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A part of the kernel, on the kernel's own buffers and semaphores. -/
abbrev ap {β : Type 1} (p : ∀ (arg0 : Memref sig .tc .hbm S1x2048x1024 .f32) (harg0 : arg0.IsWhole) (arg1 : Memref sig .tc .hbm S1024x4096 .f32) (harg1 : arg1.IsWhole) (arg2 : Memref sig .tc .hbm S1x2048x8x128 .f32) (harg2 : arg2.IsWhole) (arg3 : Memref sig .tc .hbm S1x2048x8x128 .f32) (harg3 : arg3.IsWhole) (arg4 : Memref sig .tc .hbm S4096x1024 .f32) (harg4 : arg4.IsWhole) (arg5 : Memref sig .tc .vmem S2048x1024 .f32) (harg5 : arg5.IsWhole) (arg6 : Memref sig .tc .vmem S2048x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S3x256x1024 .f32) (harg11 : arg11.IsWhole) (arg12 : Memref sig .tc .vmem S3x256x1024 .f32) (harg12 : arg12.IsWhole) (arg13 : DmaSems sig S3) (arg14 : DmaSems sig S16) (arg15 : DmaSems sig S9) (arg16 : DmaSems sig S9) (arg17 : DmaSems sig S9) (arg18 : DmaSems sig S9), β) : β :=
  p (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12

variable {c : Dev nD} {α β : Type}

/-- A part, and then the rest: what holds after the part is the rest's claim, kept closed. -/
theorem seq {p : Prog (TpuEff nD τ sig (Elt F) Λ₀ .tc) β} {k : β → Prog (TpuEff nD τ sig (Elt F) Λ₀ .tc) α} {Q : α → sProp (MT nD τ sig Unit (Elt F) ℕ UU ℕ)} :
    iprop(∀ Kt : β → sProp 𝕄, ⌜∀ r, wp frame (wpE (defs₀ (F := F)) Variants.none (c : Thread nD τ) none) Set.univ (k r) Q ⊢ Kt r⌝
      -∗ wp frame (wpE (defs₀ (F := F)) Variants.none (c : Thread nD τ) none) Set.univ p Kt)
    ⊢ wp frame (wpE (defs₀ (F := F)) Variants.none (c : Thread nD τ) none) Set.univ (p >>= k) Q := by
  rw [wp_bind]
  iintro H
  iapply H
  ipureintro
  exact fun r => BI.Entails.refl _

/-- The end of a part. -/
theorem seq_ret {k : β → Prog (TpuEff nD τ sig (Elt F) Λ₀ .tc) α} {Q : α → sProp (MT nD τ sig Unit (Elt F) ℕ UU ℕ)} {Kt : β → sProp (MT nD τ sig Unit (Elt F) ℕ UU ℕ)}
    (h : ∀ r, wp frame (wpE (defs₀ (F := F)) Variants.none (c : Thread nD τ) none) Set.univ (k r) Q ⊢ Kt r) (r : β) :
    wp frame (wpE (defs₀ (F := F)) Variants.none (c : Thread nD τ) none) Set.univ (k r) Q
      ⊢ wp frame (wpE (defs₀ (F := F)) Variants.none (c : Thread nD τ) none) Set.univ (.ret r) Kt := by
  rw [wp_ret]
  exact (h r).trans (BI.fupd_intro)

end Cert.KernelProof
end
-- ==== Proof.KernelIdeal.Proto.lean ====
/-
The exchange protocol of the kernel, as a schedule of the rounds library.

Four devices in a ring, two directions at once. Direction `false` sends to the next device, direction `true` to the
one before. The output has eight chunks of 256 rows; direction `false` works on the first four, `true` on the last four.
A device first sends three partial sums around each ring (steps 0, 1, 2, into three receive slots), then six half chunks
of finished rows (steps 3 to 8, straight into the neighbour's output). What every landing hands over is stated with its
contents, as functions of an arbitrary partial result `PB d` of each device `d`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra: the pipeline library's copy, the rings' (duties `Bool`), the local transfers' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

/-! ## The ring -/

set_option backward.proofsInPublic true in
/-- The device that direction `b` sends to, -/
def fwd (b : Bool) (c : Dev nD) : Dev nD := ⟨(c.val + if b then 3 else 1) % 4, Nat.mod_lt _ (by decide)⟩
set_option backward.proofsInPublic true in
/-- and the one it receives from. -/
def bwd (b : Bool) (c : Dev nD) : Dev nD := ⟨(c.val + if b then 1 else 3) % 4, Nat.mod_lt _ (by decide)⟩

theorem bwd_fwd (b : Bool) (c : Dev nD) : bwd b (fwd b c) = c := by revert b c; decide
theorem fwd_bwd (b : Bool) (c : Dev nD) : fwd b (bwd b c) = c := by revert b c; decide
theorem fwd_not (b : Bool) (c : Dev nD) : fwd (!b) c = bwd b c := by revert b c; decide
theorem bwd_not (b : Bool) (c : Dev nD) : bwd (!b) c = fwd b c := by revert b c; decide

def ring (b : Bool) : Dev nD ≃ Dev nD := ⟨fwd b, bwd b, bwd_fwd b, fwd_bwd b⟩

/-- `n` devices back. -/
def back (b : Bool) : ℕ → Dev nD → Dev nD
  | 0, c => c
  | n + 1, c => bwd b (back b n c)

/-! ## The memrefs and the cells -/

abbrev oM : Memref sig .tc .vmem S2048x1024 .f32 := Memref.whole cc0_stg0_0
abbrev cwM : Memref sig .tc .vmem S3x256x1024 .f32 := Memref.whole cc0_scratch5
abbrev ccwM : Memref sig .tc .vmem S3x256x1024 .f32 := Memref.whole cc0_scratch6
abbrev bufM (b : Bool) : Memref sig .tc .vmem S3x256x1024 .f32 := if b then ccwM else cwM

abbrev barS : Sem sig := (SemArray.scalar (sig.barrier 0 rfl) : Sems sig S_).sem
/-- The completion semaphore of transfer `i` of direction `b`, on the sender (`false`) or the receiver (`true`). -/
def sm (b r : Bool) (i : Fin 9) : DmaSem sig := ⟨20 + (if b then 18 else 0) + (if r then 9 else 0) + i.val, by
  show _ < 56; cases b <;> cases r <;> simp <;> omega⟩

/-- The protocol's cells on one device: the barrier, and the two rings' completion semaphores. -/
abbrev Ck : Type := Option (Bool × Bool × Fin 9)
def csem : Ck → SemLoc sig
  | none => .reg barS
  | some (b, r, i) => .dma (sm b r i)
/-- The cell a semaphore is, if it is one of the protocol's. -/
def dec : SemLoc sig → Option Ck
  | .reg _ => some none
  | .dma q => if q.val < 20 then none else
      some (some (decide (38 ≤ q.val), decide (9 ≤ (q.val - 20) % 18), ⟨(q.val - 20) % 9, Nat.mod_lt _ (by decide)⟩))
theorem dec_csem (k : Ck) : dec (csem k) = some k := by
  rcases k with _ | ⟨b, r, i⟩
  · rfl
  · revert b r i; decide
theorem csem_inj : Function.Injective csem := fun a b h => Option.some.inj (by rw [← dec_csem, ← dec_csem, h])

abbrev cell (k : Ck) (c : Dev nD) : GSem nD τ sig := ((c : Thread nD τ), csem k)
abbrev barC (c : Dev nD) : GSem nD τ sig := cell none c
abbrev sC (b : Bool) (i : Fin 9) (c : Dev nD) : GSem nD τ sig := cell (some (b, false, i)) c
abbrev rC (b : Bool) (i : Fin 9) (c : Dev nD) : GSem nD τ sig := cell (some (b, true, i)) c

/-! ## Contents -/

abbrev OBuf (F : FTy → Type) : Type := S2048x1024.Idx → Elt F .f32
abbrev SBuf (F : FTy → Type) : Type := S3x256x1024.Idx → Elt F .f32

/-- The rows `o` to `o + n` of the output. -/
def rows (o n : ℕ) : Finset S2048x1024.Idx := Finset.univ.filter fun i => o ≤ (i 0).val ∧ (i 0).val < o + n
/-- Receive slot `s`. -/
def slot (s : ℕ) : Finset S3x256x1024.Idx := Finset.univ.filter fun i => (i 0).val = s

/-- The first row of direction `b`'s chunk `d`. -/
def row0 (b : Bool) (d : Dev nD) : ℕ := 256 * d.val + if b then 1024 else 0
theorem row0_le (b : Bool) (d : Dev nD) : row0 b d + 256 ≤ 2048 := by revert b d; decide

def outP (c : Dev nD) (o n : ℕ) (g : OBuf F) : sProp 𝕄 := ((c : Thread nD τ).loc cc0_stg0_0) ↦[rows o n]{fullShare} g
def bufLoc (b : Bool) (c : Dev nD) : Loc nD τ sig := (c : Thread nD τ).loc (if b then cc0_scratch6 else cc0_scratch5)
def slotP (b : Bool) (c : Dev nD) (s : ℕ) (g : SBuf F) : sProp 𝕄 :=
  match b with
  | false => ((c : Thread nD τ).loc cc0_scratch5) ↦[slot s]{fullShare} g
  | true => ((c : Thread nD τ).loc cc0_scratch6) ↦[slot s]{fullShare} g
def bufP (b : Bool) (c : Dev nD) (g : SBuf F) : sProp 𝕄 :=
  match b with
  | false => ((c : Thread nD τ).loc cc0_scratch5) ↦{fullShare} g
  | true => ((c : Thread nD τ).loc cc0_scratch6) ↦{fullShare} g

instance outP_storable (c : Dev nD) (o n : ℕ) (g : OBuf F) : BI.Storable (upEmb : UEmb _ 𝕄) (outP c o n g) := by unfold outP; infer_instance
instance slotP_storable (b : Bool) (c : Dev nD) (s : ℕ) (g : SBuf F) : BI.Storable (upEmb : UEmb _ 𝕄) (slotP b c s g) := by
  cases b <;> (unfold slotP; infer_instance)
instance bufP_storable (b : Bool) (c : Dev nD) (g : SBuf F) : BI.Storable (upEmb : UEmb _ 𝕄) (bufP b c g) := by
  cases b <;> (unfold bufP; infer_instance)

variable (PB : Dev nD → OBuf F)

/-- What device `c` has summed after `s` steps of direction `b`: its own partial result, and what it received on top. -/
def acc (b : Bool) : ℕ → Dev nD → OBuf F
  | 0, c => PB c
  | s + 1, c => fun i => FloatOps.addf (PB c i) (acc b s (bwd b c) i)

/-- Row `r` of chunk `d` of direction `b`, as an index of the output. -/
def rowIx (b : Bool) (d : Dev nD) (i : S3x256x1024.Idx) : S2048x1024.Idx := fun a => match a with
  | ⟨0, _⟩ => ⟨row0 b d + (i 1).val, by have h := row0_le b d; have : (i 1).val < 256 := (i 1).isLt; show _ < 2048; omega⟩
  | ⟨1, _⟩ => ⟨(i 2).val, (i 2).isLt⟩

/-- What transfer `s` of direction `b` from device `p` leaves in its slot. -/
def slotV (b : Bool) (s : ℕ) (p : Dev nD) : SBuf F := fun i => acc PB b s p (rowIx b (back b s p) i)

set_option backward.proofsInPublic true in
/-- The chunk of an output row, and its direction. -/
def chunkOf (i : S2048x1024.Idx) : Dev nD := ⟨(i 0).val / 256 % 4, Nat.mod_lt _ (by decide)⟩
def dirOf (i : S2048x1024.Idx) : Bool := decide (1024 ≤ (i 0).val)
/-- The finished output: each chunk as the last device of its ring summed it. -/
def fin : OBuf F := fun i => acc PB (dirOf i) 3 (bwd (dirOf i) (chunkOf i)) i

/-! ## The schedule -/

abbrev N₀ : ℕ := ((oM.slice (Rect.unit (s := S2048x1024) ![0, 0] S256x1024.size (by decide)) (fun _ => rfl) : Memref sig .tc .vmem S256x1024 .f32)).view.dmaCredit
abbrev N₁ : ℕ := ((oM.slice (Rect.unit (s := S2048x1024) ![0, 0] S128x1024.size (by decide)) (fun _ => rfl) : Memref sig .tc .vmem S128x1024 .f32)).view.dmaCredit
/-- The units of transfer `i`. -/
def Nof (i : Fin 9) : ℕ := if i.val < 3 then N₀ else N₁
theorem Nof_pos (i : Fin 9) : 0 < Nof i := by
  unfold Nof; split
  · exact View.dmaCredit_pos _ (by decide)
  · exact View.dmaCredit_pos _ (by decide)

/-- The first row of the half chunk moved by transfer `3 + t` to the device whose ring position is `c`. -/
def half0 (b : Bool) (t : ℕ) (c : Dev nD) : ℕ := row0 b (back b (t / 2) c) + 128 * (t % 2)

/-- What the barrier unit of direction `b` hands device `c`: the receive slots of the device it sends to. -/
def barPay (b : Bool) (c : Dev nD) : sProp 𝕄 := iprop(∃ f, bufP b (fwd b c) f)
/-- What comes back to the sender: the rows it sent. -/
def sPay (b : Bool) (i : Fin 9) (c : Dev nD) : sProp 𝕄 :=
  if i.val < 3 then outP c (row0 b (back b i.val c)) 256 (acc PB b i.val c)
  else outP c (half0 b (i.val - 3) (fwd b c)) 128 (fin PB)
/-- What a transfer brings besides its contents: rows of the SENDER's output that the other direction will write. -/
def extra (b : Bool) (i : Fin 9) (p : Dev nD) : sProp 𝕄 :=
  match i with
  | 1 => iprop(∃ g, outP p (row0 (!b) p) 256 g)
  | 2 => iprop(∃ g, outP p (row0 (!b) (back (!b) 1 p)) 256 g)
  | 3 => iprop(∃ g, outP p (half0 (!b) 4 p) 128 g)
  | 4 => iprop(∃ g, outP p (half0 (!b) 5 p) 128 g)
  | _ => iprop(emp)
/-- What device `c` receives. -/
def rPay (b : Bool) (i : Fin 9) (c : Dev nD) : sProp 𝕄 :=
  iprop((if i.val < 3 then slotP b c i.val (slotV PB b i.val (bwd b c)) else outP c (half0 b (i.val - 3) c) 128 (fin PB))
    ∗ extra b i (bwd b c))

def Rd : Rounds.Schedule (GSem nD τ sig) Bool 𝕄 where
  duties g r := if r = 0 ∧ g.1.2 = .tc then (match dec g.2 with | some none => Finset.univ | some (some _) => {false} | none => ∅) else ∅
  unitless _ := False
  amount g _ _ := match dec g.2 with | some (some x) => Nof x.2.2 | _ => 1
  payload g _ d := match dec g.2 with
    | some none => barPay d g.1.1
    | some (some (b, false, i)) => sPay PB b i g.1.1
    | some (some (b, true, i)) => rPay PB b i g.1.1
    | none => iprop(emp)
  amount_pos g _ _ _ := by
    split
    · exact Nof_pos _
    · exact Nat.one_pos

instance extra_storable (b : Bool) (i : Fin 9) (p : Dev nD) : BI.Storable (upEmb : UEmb _ 𝕄) (extra (F := F) b i p) := by
  unfold extra; split <;> infer_instance
instance Rd_payload_storable (g : GSem nD τ sig) (r : ℕ) (d : Bool) :
    BI.Storable (upEmb : UEmb _ 𝕄) ((Rd (F := F) PB).payload g r d) := by
  show BI.Storable upEmb (match dec g.2 with
    | some none => barPay d g.1.1
    | some (some (b, false, i)) => sPay PB b i g.1.1
    | some (some (b, true, i)) => rPay PB b i g.1.1
    | none => iprop(emp))
  split
  · unfold barPay; infer_instance
  · unfold sPay; split <;> infer_instance
  · unfold rPay; split <;> infer_instance
  · infer_instance

section Sched
variable (c : Dev nD) (b r : Bool) (i : Fin 9)

theorem duties_bar : (Rd PB).duties (barC c) 0 = Finset.univ := by dsimp only [Rd]; rw [if_pos ⟨rfl, rfl⟩, dec_csem]
theorem duties_x : (Rd PB).duties (cell (some (b, r, i)) c) 0 = {false} := by dsimp only [Rd]; rw [if_pos ⟨rfl, rfl⟩, dec_csem]
theorem duties_later (g : GSem nD τ sig) : ∀ n, 1 ≤ n → (Rd PB).duties g n = ∅ :=
  fun n hn => by dsimp only [Rd]; rw [if_neg fun h => by omega]
theorem amount_bar (d : Bool) : (Rd PB).amount (barC c) 0 d = 1 := by dsimp only [Rd]; rw [dec_csem]
theorem amount_x (d : Bool) : (Rd PB).amount (cell (some (b, r, i)) c) 0 d = Nof i := by dsimp only [Rd]; rw [dec_csem]
theorem expect_bar : (Rd PB).expect (barC c) 0 = 2 := by
  unfold Schedule.expect Schedule.amountOf
  rw [duties_bar, Finset.sum_congr rfl fun d _ => amount_bar PB c d, Finset.sum_const, Finset.card_univ, Fintype.card_bool, smul_eq_mul]
theorem expect_x : (Rd PB).expect (cell (some (b, r, i)) c) 0 = Nof i := by
  unfold Schedule.expect Schedule.amountOf; rw [duties_x, Finset.sum_singleton, amount_x]
theorem payload_bar (d : Bool) : (Rd PB).payload (barC c) 0 d = barPay d c := by dsimp only [Rd]; rw [dec_csem]
theorem payload_s (d : Bool) : (Rd PB).payload (sC b i c) 0 d = sPay PB b i c := by dsimp only [Rd]; rw [dec_csem]
theorem payload_r (d : Bool) : (Rd PB).payload (rC b i c) 0 d = rPay PB b i c := by dsimp only [Rd]; rw [dec_csem]
theorem rest_bar : bigSep ((Rd PB).duties (barC c) 0 \ ∅) (fun d => (Rd PB).payload (barC c) 0 d)
    = iprop(barPay (F := F) false c ∗ barPay true c) := by
  rw [Finset.sdiff_empty, duties_bar, bigSep_univ_eq_bigSepL [false, true] (by decide) (by decide), bigSepL_cons_cons, bigSepL_singleton,
    payload_bar, payload_bar]
  rfl
theorem rest_s : bigSep ((Rd PB).duties (sC b i c) 0 \ ∅) (fun d => (Rd PB).payload (sC b i c) 0 d) = sPay PB b i c := by
  rw [Finset.sdiff_empty, duties_x, bigSep_singleton, payload_s]
theorem rest_r : bigSep ((Rd PB).duties (rC b i c) 0 \ ∅) (fun d => (Rd PB).payload (rC b i c) 0 d) = rPay PB b i c := by
  rw [Finset.sdiff_empty, duties_x, bigSep_singleton, payload_r]

end Sched

/-! ## What a device owes, and the levels -/

/-- The `j`-th transfer a device issues: step `j / 2`, direction `false` first. -/
def stepOf (j : ℕ) : Fin 9 := ⟨j / 2 % 9, Nat.mod_lt _ (by decide)⟩
def dirAt (j : ℕ) : Bool := decide (j % 2 = 1)
/-- What device `c` owes with its last `n` transfers still to issue: the credit of the cells they complete on. -/
def owed (c : Dev nD) : ℕ → CellTallies nD τ sig Unit
  | 0 => 0
  | n + 1 => owed c n + tallyAt (rC (dirAt (17 - n)) (stepOf (17 - n)) (fwd (dirAt (17 - n)) c)) () (Nof (stepOf (17 - n)))
/-- At launch also both neighbours' barrier units, the first signalled last here. -/
def O₁ (c : Dev nD) : CellTallies nD τ sig Unit := owed c 18 + tallyAt (barC (bwd true c)) () 1
def O₀ (c : Dev nD) : CellTallies nD τ sig Unit := O₁ c + tallyAt (barC (bwd false c)) () 1

def L (g : GSem nD τ sig) : Finset Unit := if g.1.2 = .tc then {()} else ∅
/-- The receive cell of transfer `i` is at `2 + i`, the barrier at 1, everything else at 0. -/
def lev (s : SemLoc sig) : ℕ := match dec s with
  | some none => 1
  | some (some (_, true, i)) => 2 + i.val
  | _ => 0
def lv (g : GSem nD τ sig) (_ : Unit) : ℕ := lev g.2

theorem L_of_ne (g : GSem nD τ sig) (h : g.1.2 ≠ .tc) : L g = ∅ := if_neg h
theorem L_tc (c : Dev nD) (s : SemLoc sig) : L ((c : Thread nD τ), s) = {()} := if_pos rfl
theorem lev_bar : lev (csem none) = 1 := by unfold lev; rw [dec_csem]
theorem lev_s (b : Bool) (i : Fin 9) : lev (csem (some (b, false, i))) = 0 := by unfold lev; rw [dec_csem]
theorem lev_r (b : Bool) (i : Fin 9) : lev (csem (some (b, true, i))) = 2 + i.val := by unfold lev; rw [dec_csem]

theorem tally_pos {g₀ g : GSem nD τ sig} {n : ℕ} {u : Unit} (h : 0 < (tallyAt g₀ () n : CellTallies nD τ sig Unit) g u) : g = g₀ := by
  rw [tallyAt_apply] at h
  by_contra hn
  rw [if_neg fun h' => hn h'.1] at h
  exact Nat.lt_irrefl 0 h

theorem owed_pos {c : Dev nD} {n : ℕ} {g : GSem nD τ sig} {u : Unit} (h : 0 < owed c n g u) :
    ∃ j, 18 - n ≤ j ∧ j < 18 ∧ g = rC (dirAt j) (stepOf j) (fwd (dirAt j) c) ∨ 18 < n := by
  induction n with
  | zero => exact absurd h (Nat.lt_irrefl 0)
  | succ n ih =>
    unfold owed at h
    rw [Pi.add_apply, Finsupp.add_apply] at h
    by_cases h1 : 0 < owed c n g u
    · obtain ⟨j, h2⟩ := ih h1
      refine ⟨j, ?_⟩
      rcases h2 with ⟨a, b, e⟩ | h2
      · exact .inl ⟨by omega, b, e⟩
      · exact .inr (by omega)
    · have h2 := tally_pos (n := Nof (stepOf (17 - n))) (u := u) (g₀ := rC (dirAt (17 - n)) (stepOf (17 - n)) (fwd (dirAt (17 - n)) c)) (g := g) (by omega)
      by_cases h3 : n < 18
      · exact ⟨17 - n, .inl ⟨by omega, by omega, h2⟩⟩
      · exact ⟨0, .inr (by omega)⟩

theorem owed_pos_tc {c : Dev nD} {n : ℕ} (hn : n ≤ 18) {g : GSem nD τ sig} {u : Unit} (h : 0 < owed c n g u) :
    ∃ j, 18 - n ≤ j ∧ j < 18 ∧ g = rC (dirAt j) (stepOf j) (fwd (dirAt j) c) := by
  obtain ⟨j, h1 | h1⟩ := owed_pos h
  · exact ⟨j, h1⟩
  · omega

theorem O₀_pos {c : Dev nD} {g : GSem nD τ sig} {u : Unit} (h : 0 < O₀ c g u) :
    (∃ j, 0 ≤ j ∧ j < 18 ∧ g = rC (dirAt j) (stepOf j) (fwd (dirAt j) c)) ∨ g = barC (bwd true c) ∨ g = barC (bwd false c) := by
  unfold O₀ O₁ at h
  rw [Pi.add_apply, Finsupp.add_apply, Pi.add_apply, Finsupp.add_apply] at h
  by_cases h1 : 0 < owed c 18 g u
  · exact .inl (owed_pos_tc (le_refl _) h1)
  by_cases h2 : 0 < (tallyAt (barC (bwd true c)) () 1 : CellTallies nD τ sig Unit) g u
  · exact .inr (.inl (tally_pos h2))
  · exact .inr (.inr (tally_pos (n := 1) (u := u) (by omega)))

/-- A device may wait on a cell of its own below every receive cell it still owes. -/
theorem mayWait (c : Dev nD) (s : SemLoc sig) (n : ℕ) (hn : n ≤ 18) (h : lev s < 2 + (18 - n) / 2) :
    (levAts L lv : sProp 𝕄) ⊢ MayWait (c : Thread nD τ) s () (owed c n) :=
  MayOwe.of_cut (L := L) (lev := lv) (lev s) (fun p hp => by rw [Finset.mem_singleton.mp hp, L_tc]; exact Finset.mem_singleton_self _)
    (fun g u hg => by obtain ⟨j, -, -, rfl⟩ := owed_pos_tc hn hg; exact Finset.mem_singleton_self _)
    (fun p hp => by rw [Finset.mem_singleton.mp hp]; exact le_refl _)
    (fun g u hg => by
      obtain ⟨j, h1, h2, rfl⟩ := owed_pos_tc hn hg
      show lev s < lev _
      rw [lev_r]
      have h3 : (stepOf j).val = j / 2 := by show j / 2 % 9 = _; omega
      omega)

/-- At launch it may wait on any cell at level 0. -/
theorem mayWait₀ (c : Dev nD) (s : SemLoc sig) (h : lev s = 0) :
    (levAts L lv : sProp 𝕄) ⊢ MayWait (c : Thread nD τ) s () (O₀ c) :=
  MayOwe.of_cut (L := L) (lev := lv) 0 (fun p hp => by rw [Finset.mem_singleton.mp hp, L_tc]; exact Finset.mem_singleton_self _)
    (fun g u hg => by rcases O₀_pos hg with ⟨j, -, -, rfl⟩ | rfl | rfl <;> exact Finset.mem_singleton_self _)
    (fun p hp => by rw [Finset.mem_singleton.mp hp]; exact le_of_eq h)
    (fun g u hg => by
      show 0 < lev _
      rcases O₀_pos hg with ⟨j, -, -, rfl⟩ | rfl | rfl
      · rw [lev_r]; omega
      · rw [lev_bar]; decide
      · rw [lev_bar]; decide)

end Cert.KernelIdealProof

end
-- ==== Proof.KernelIdeal.Rules.lean ====
/-
The rules of the exchange: what one signal, one transfer and one wait of the protocol do to a device's ghost state.
A device's transfers are numbered in the order it issues them; its sends are waited for in that order, and so are its
receives, so its ghost state is three numbers: sends done, sends issued, receives done.
-/
module

public import proofs.«01_k».proof.Proof.KernelIdeal.Proto

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (PB : Dev nD → OBuf F)

/-! ## The cells' invariants -/

def recs (K : Dev nD × Ck → ℕ) : sProp 𝕄 :=
  iprop((bigSep Finset.univ fun p : Dev nD × Ck => cellInv ER (Rd PB) (K p) (cell p.2 p.1))
    ∗ bigSep Finset.univ fun p : Dev nD × Ck => reached ER (cell p.2 p.1) 0)
instance recs_persistent (K : Dev nD × Ck → ℕ) : BI.Persistent (recs PB K) := by unfold recs; infer_instance
/-- What every step may use: the invariants, and the levels. -/
def env (K : Dev nD × Ck → ℕ) : sProp 𝕄 := iprop(recs PB K ∗ levAts L lv)
instance env_persistent (K : Dev nD × Ck → ℕ) : BI.Persistent (env PB K) := by unfold env; infer_instance

theorem env_inv (K : Dev nD × Ck → ℕ) (k : Ck) (c : Dev nD) : env PB K ⊢ cellInv ER (Rd PB) (K (c, k)) (cell k c) := by
  unfold env recs
  iintro ⟨⟨H, -⟩, -⟩
  iapply (show (bigSep Finset.univ fun p : Dev nD × Ck => cellInv ER (Rd PB) (K p) (cell p.2 p.1)) ⊢ cellInv ER (Rd PB) (K (c, k)) (cell k c) from
    bigSep_elim (Finset.mem_univ (c, k))) $$ H
theorem env_reached (K : Dev nD × Ck → ℕ) (k : Ck) (c : Dev nD) : env PB K ⊢ reached ER (cell k c) 0 := by
  unfold env recs
  iintro ⟨⟨-, H⟩, -⟩
  iapply (show (bigSep Finset.univ fun p : Dev nD × Ck => (reached ER (cell p.2 p.1) 0 : sProp 𝕄)) ⊢ reached ER (cell k c) 0 from
    bigSep_elim (Finset.mem_univ (c, k))) $$ H
theorem env_lev (K : Dev nD × Ck → ℕ) : env PB K ⊢ levAts L lv := by
  unfold env
  iintro ⟨-, H⟩
  iexact H

/-! ## A device's ghost state -/

abbrev jS (j : ℕ) (c : Dev nD) : GSem nD τ sig := sC (dirAt j) (stepOf j) c
abbrev jR (j : ℕ) (c : Dev nD) : GSem nD τ sig := rC (dirAt j) (stepOf j) c

/-- To issue transfer `j`: its send cell's position and duty, its receiver's duty. -/
def tkt (c : Dev nD) (j : ℕ) : sProp 𝕄 :=
  iprop(atPos ER (jS j c) 0 ∅ 0 ∗ dutyTok ER (jS j c) 0 false ∗ dutyTok ER (jR j (fwd (dirAt j) c)) 0 false)
/-- Issued: the position and the credit to wait with. -/
def pend (c : Dev nD) (j : ℕ) : sProp 𝕄 := iprop(atPos ER (jS j c) 0 ∅ 0 ∗ cred (tallyAt (jS j c) () (Nof (stepOf j))))
def awaited (c : Dev nD) (j : ℕ) : sProp 𝕄 := iprop(atPos ER (jR j c) 0 ∅ 0 ∗ cred (tallyAt (jR j c) () (Nof (stepOf j))))
/-- Sends below `a` done, below `b` issued. -/
def SS (c : Dev nD) (a b : ℕ) : sProp 𝕄 :=
  iprop((bigSep (Finset.Ico 0 a) fun j => semVal (jS j c) 0) ∗ bigSep (Finset.Ico a b) (pend c) ∗ bigSep (Finset.Ico b 18) (tkt c))
/-- Receives below `a` done. -/
def RR (c : Dev nD) (a : ℕ) : sProp 𝕄 :=
  iprop((bigSep (Finset.Ico 0 a) fun j => semVal (jR j c) 0) ∗ bigSep (Finset.Ico a 18) (awaited c))
def ow (c : Dev nD) (O : CellTallies nD τ sig Unit) : sProp 𝕄 := iprop(∃ W, owes (c : Thread nD τ) O W)

theorem Ico_head {a b : ℕ} (h : a < b) : Finset.Ico a b = insert a (Finset.Ico (a + 1) b) := by
  ext x; simp only [Finset.mem_insert, Finset.mem_Ico]; omega
theorem Ico_last {a b : ℕ} (h : a ≤ b) : Finset.Ico a (b + 1) = insert b (Finset.Ico a b) := by
  ext x; simp only [Finset.mem_insert, Finset.mem_Ico]; omega
theorem sep_head {Φ : ℕ → sProp 𝕄} {a b : ℕ} (h : a < b) :
    bigSep (Finset.Ico a b) Φ = iprop(Φ a ∗ bigSep (Finset.Ico (a + 1) b) Φ) := by
  rw [Ico_head h, bigSep_insert (by simp)]; rfl
theorem sep_last {Φ : ℕ → sProp 𝕄} {a b : ℕ} (h : a ≤ b) :
    bigSep (Finset.Ico a (b + 1)) Φ = iprop(Φ b ∗ bigSep (Finset.Ico a b) Φ) := by
  rw [Ico_last h, bigSep_insert (by simp)]; rfl

theorem SS_issue (c : Dev nD) {a b : ℕ} (hab : a ≤ b) (hb : b < 18) :
    SS (F := F) c a b ⊢ iprop(tkt c b ∗ (pend c b -∗ SS c a (b + 1))) := by
  unfold SS
  rw [sep_head hb, sep_last hab]
  iintro ⟨H1, H2, H3, H4⟩
  isplitl [H3]; · iexact H3
  iintro H5
  iframe
theorem SS_done (c : Dev nD) {a b : ℕ} (hab : a < b) :
    SS (F := F) c a b ⊢ iprop(pend c a ∗ (semVal (jS a c) 0 -∗ SS c (a + 1) b)) := by
  unfold SS
  rw [sep_head hab, sep_last (Nat.zero_le a)]
  iintro ⟨H1, ⟨H2, H3⟩, H4⟩
  isplitl [H2]; · iexact H2
  iintro H5
  iframe
theorem RR_done (c : Dev nD) {a : ℕ} (ha : a < 18) :
    RR (F := F) c a ⊢ iprop(awaited c a ∗ (semVal (jR a c) 0 -∗ RR c (a + 1))) := by
  unfold RR
  rw [sep_head ha, sep_last (Nat.zero_le a)]
  iintro ⟨H1, H2, H3⟩
  isplitl [H2]; · iexact H2
  iintro H5
  iframe

/-! ## The rules -/

section Rules

variable (K : Dev nD × Ck → ℕ) (c : Dev nD)

theorem wait_cell {c : Dev nD} {s s' : Shape} {e e' : EltTy} {sp sp' : Space} {srcw : Memref sig .tc sp' s' e'} {dstw : Memref sig .tc sp s e}
    {hsrc : srcw.view.WordExact} {hdst : dstw.view.WordExact} {α : Type} {Q : α → sProp 𝕄} {k : PUnit → Prog (TpuEff nD τ sig (Elt F) Λ₀ .tc) α}
    (b r : Bool) (i : Fin 9) (hN : dstw.view.dmaCredit = Nof i) {q : DmaSem sig} (hq : q = sm b r i) (n : ℕ) (hn : n ≤ 18)
    (hl : lev (csem (some (b, r, i))) < 2 + (18 - n) / 2) :
    env PB K ⊢ iprop(atPos ER (cell (some (b, r, i)) c) 0 ∅ 0 -∗ cred (tallyAt (cell (some (b, r, i)) c) () (Nof i)) -∗ ow c (owed c n)
      -∗ (((bigSep ((Rd PB).duties (cell (some (b, r, i)) c) 0 \ ∅) fun d => (Rd PB).payload (cell (some (b, r, i)) c) 0 d)
            ∗ semVal (cell (some (b, r, i)) c) 0 ∗ ow c (owed c n)) -∗ wp frame (wpE (defs₀ (F := F)) Variants.none (c : Thread nD τ) none) Set.univ (k ⟨⟩) Q)
      -∗ wp frame (wpE (defs₀ (F := F)) Variants.none (c : Thread nD τ) none) Set.univ (.op (.waitDma2 q srcw dstw hsrc hdst) k) Q) := by
  subst hq
  unfold ow
  iintro #HE Hat Hc ⟨%W, Ho⟩ Hk
  ihave #HI := (env_inv PB K (some (b, r, i)) c) $$ HE
  ihave #HL := (env_lev PB K) $$ HE
  iapply (Rounds.wp_wait_rest_token Variants.none ER (Rd PB) (c : Thread nD τ) none (κ := K (c, some (b, r, i))) (sm := csem (some (b, r, i))) (k' := Nof i)
      (fun K' => by rw [← hN]; exact wpE_waitDma2_eq Variants.none (c : Thread nD τ) none Set.univ K') (Set.mem_univ _) () (O := owed c n) (W := W) (R := 0) (m := 0) (T := ∅)
      (by rw [Nat.zero_add, expect_x])) $$ [Hc Ho Hat]
  · isplitr; · iexact HI
    isplitl [Hc]; · iexact Hc
    isplitl [Ho]; · iexact Ho
    isplitr; · iapply (mayWait c _ n hn hl); iexact HL
    iexact Hat
  iintro ⟨Ho, Hat, -, Hpay⟩
  imod (Rounds.cell_close ER (Rd PB) (Set.mem_univ (K (c, some (b, r, i)))) (fun h => h) (R := 0 + 1) (duties_later PB (cell (some (b, r, i)) c))) $$ [Hat] with Hz
  · isplitr; · iexact HI
    iexact Hat
  iapply Hk
  isplitl [Hpay]; · iexact Hpay
  isplitl [Hz]; · iexact Hz
  iexists _; iexact Ho

/-- The wait for send `a`. -/
theorem wait_send {c : Dev nD} {s s' : Shape} {e e' : EltTy} {sp sp' : Space} {srcw : Memref sig .tc sp' s' e'} {dstw : Memref sig .tc sp s e}
    {hsrc : srcw.view.WordExact} {hdst : dstw.view.WordExact} {α : Type} {Q : α → sProp 𝕄} {k : PUnit → Prog (TpuEff nD τ sig (Elt F) Λ₀ .tc) α}
    (a : ℕ) {P : sProp 𝕄} (hP : sPay PB (dirAt a) (stepOf a) c = P) (hN : dstw.view.dmaCredit = Nof (stepOf a)) {q : DmaSem sig} (hq : q = sm (dirAt a) false (stepOf a))
    {b n : ℕ} (hab : a < b) (hn : n ≤ 18) :
    env PB K ⊢ iprop(SS c a b -∗ ow c (owed c n)
      -∗ ((P ∗ SS c (a + 1) b ∗ ow c (owed c n)) -∗ wp frame (wpE (defs₀ (F := F)) Variants.none (c : Thread nD τ) none) Set.univ (k ⟨⟩) Q)
      -∗ wp frame (wpE (defs₀ (F := F)) Variants.none (c : Thread nD τ) none) Set.univ (.op (.waitDma2 q srcw dstw hsrc hdst) k) Q) := by
  subst hP
  iintro #HE HS Ho Hk
  ihave HS := (SS_done c hab) $$ HS
  icases HS with ⟨Hp, HS⟩
  unfold pend
  icases Hp with ⟨Hat, Hc⟩
  iapply (wait_cell PB K (dirAt a) false (stepOf a) hN hq n hn (by rw [lev_s]; omega)) $$ HE Hat Hc Ho
  iintro ⟨Hpay, Hz, Ho⟩
  ihave Hpay := (Entails.of_eq (rest_s PB c (dirAt a) (stepOf a))) $$ Hpay
  iapply Hk
  isplitl [Hpay]; · iexact Hpay
  isplitl [HS Hz]; · iapply HS $$ Hz
  iexact Ho

/-- The wait for receive `a`. -/
theorem wait_recv {c : Dev nD} {s s' : Shape} {e e' : EltTy} {sp sp' : Space} {srcw : Memref sig .tc sp' s' e'} {dstw : Memref sig .tc sp s e}
    {hsrc : srcw.view.WordExact} {hdst : dstw.view.WordExact} {α : Type} {Q : α → sProp 𝕄} {k : PUnit → Prog (TpuEff nD τ sig (Elt F) Λ₀ .tc) α}
    (a : ℕ) {P : sProp 𝕄} (hP : rPay PB (dirAt a) (stepOf a) c = P) (hN : dstw.view.dmaCredit = Nof (stepOf a)) {q : DmaSem sig} (hq : q = sm (dirAt a) true (stepOf a))
    {n : ℕ} (ha : a < 18) (hn : n ≤ 18) (hl : (stepOf a).val < (18 - n) / 2) :
    env PB K ⊢ iprop(RR c a -∗ ow c (owed c n)
      -∗ ((P ∗ RR c (a + 1) ∗ ow c (owed c n)) -∗ wp frame (wpE (defs₀ (F := F)) Variants.none (c : Thread nD τ) none) Set.univ (k ⟨⟩) Q)
      -∗ wp frame (wpE (defs₀ (F := F)) Variants.none (c : Thread nD τ) none) Set.univ (.op (.waitDma2 q srcw dstw hsrc hdst) k) Q) := by
  subst hP
  iintro #HE HS Ho Hk
  ihave HS := (RR_done c ha) $$ HS
  icases HS with ⟨Hp, HS⟩
  unfold awaited
  icases Hp with ⟨Hat, Hc⟩
  iapply (wait_cell PB K (dirAt a) true (stepOf a) hN hq n hn (by rw [lev_r]; omega)) $$ HE Hat Hc Ho
  iintro ⟨Hpay, Hz, Ho⟩
  ihave Hpay := (Entails.of_eq (rest_r PB c (dirAt a) (stepOf a))) $$ Hpay
  iapply Hk
  isplitl [Hpay]; · iexact Hpay
  isplitl [HS Hz]; · iapply HS $$ Hz
  iexact Ho

theorem send_any {c n : Dev nD} {s : Shape} {e : EltTy} {sp sp' : Space} {src : Memref sig .tc sp s e} {dst : Memref sig .tc sp' s e}
    {hsc : dst.view.ref.isScScratch = false} {q q' : DmaSem sig} {hsrc : src.view.WordExact} {hdst : dst.view.WordExact}
    {hsem : DmaTarget.Typed sp (.dma q') (.remote (Dev.tc n : Thread nD τ) dst (.dma q) hsc)}
    {α : Type} {Q : α → sProp 𝕄} {k : PUnit → Prog (TpuEff nD τ sig (Elt F) Λ₀ .tc) α}
    (b : ℕ) (hn : n = fwd (dirAt b) c) (hq : q = sm (dirAt b) false (stepOf b)) (hq' : q' = sm (dirAt b) true (stepOf b))
    (hN : dst.view.amount (.dma q') = Nof (stepOf b)) {a : ℕ} (hab : a ≤ b) (hb : b < 18)
    {fs : Buf (Elt F) (src.view.loc (c : Thread nD τ))} {fd : Buf (Elt F) (dst.view.loc (n : Thread nD τ))} {X : sProp 𝕄}
    (h₁ : (src.view.loc (c : Thread nD τ) ↦[src.view.set]{fullShare} fs) ⊢ sPay PB (dirAt b) (stepOf b) c)
    (h₂ : iprop((dst.view.loc (n : Thread nD τ) ↦[dst.view.set]{fullShare} (dst.view.write (Elt F) fd (src.view.read (Elt F) fs) Finset.univ)) ∗ X)
      ⊢ rPay PB (dirAt b) (stepOf b) n) :
    env PB K ⊢ iprop(SS c a b -∗ ow c (owed c (17 - b + 1)) -∗ (src.view.loc (c : Thread nD τ) ↦[src.view.set]{fullShare} fs)
      -∗ (dst.view.loc (n : Thread nD τ) ↦[dst.view.set]{fullShare} fd) -∗ X
      -∗ ((SS c a (b + 1) ∗ ow c (owed c (17 - b))) -∗ wp frame (wpE (defs₀ (F := F)) Variants.none (c : Thread nD τ) none) Set.univ (k ⟨⟩) Q)
      -∗ wp frame (wpE (defs₀ (F := F)) Variants.none (c : Thread nD τ) none) Set.univ
          (.op (.enqueueDma src (.remote (Dev.tc n : Thread nD τ) dst (.dma q) hsc) (.dma q') hsrc hdst hsem) k) Q) := by
  subst hn hq hq'
  unfold ow
  iintro #HE HS ⟨%W, Ho⟩ Hs Hd HX Hk
  ihave HS := (SS_issue c hab hb) $$ HS
  icases HS with ⟨Ht, HS⟩
  unfold tkt
  icases Ht with ⟨Hat, Ht1, Ht2⟩
  ihave #HI1 := (env_inv PB K (some (dirAt b, false, stepOf b)) c) $$ HE
  ihave #HI2 := (env_inv PB K (some (dirAt b, true, stepOf b)) (fwd (dirAt b) c)) $$ HE
  ihave #HR1 := (env_reached PB K (some (dirAt b, false, stepOf b)) c) $$ HE
  ihave #HR2 := (env_reached PB K (some (dirAt b, true, stepOf b)) (fwd (dirAt b) c)) $$ HE
  iapply (Rounds.wp_send_pointsTo_with Variants.none ER (Rd PB) (c : Thread nD τ) none (fd := fd) (F := X) (κ₁ := K (c, some (dirAt b, false, stepOf b)))
      (κ₂ := K (fwd (dirAt b) c, some (dirAt b, true, stepOf b))) (r₁ := 0) (r₂ := 0) (d₁ := false) (d₂ := false)
      (show false ∈ (Rd PB).duties (jS b c) 0 by rw [duties_x]; exact Finset.mem_singleton_self _)
      (show false ∈ (Rd PB).duties (jR b (fwd (dirAt b) c)) 0 by rw [duties_x]; exact Finset.mem_singleton_self _)
      () () (Nof (stepOf b)) hN (amount_x PB c (dirAt b) false (stepOf b) false) (amount_x PB (fwd (dirAt b) c) (dirAt b) true (stepOf b) false) (owed c (17 - b))
      (show owed c (17 - b + 1) = _ by
        show owed c (17 - b) + tallyAt (rC (dirAt (17 - (17 - b))) (stepOf (17 - (17 - b))) (fwd (dirAt (17 - (17 - b))) c)) () (Nof (stepOf (17 - (17 - b)))) = _
        rw [show 17 - (17 - b) = b by omega]) (W := W)
      (h₁.trans (Entails.of_eq (payload_s PB c _ _ false).symm))
      (h₂.trans (Entails.of_eq (payload_r PB _ _ _ false).symm))) $$ [Hs Hd HX Ho Ht1 Ht2]
  · isplitr; · iexact HI1
    isplitr; · iexact HI2
    isplitl [Hs]; · iexact Hs
    isplitl [Hd HX]; · isplitl [Hd] <;> iassumption
    isplitl [Ho]; · iexact Ho
    isplitl [Ht1]; · iexact Ht1
    isplitr; · iexact HR1
    isplitl [Ht2]; · iexact Ht2
    iexact HR2
  iintro ⟨Hc, Ho⟩
  iapply Hk
  isplitl [HS Hat Hc]
  · iapply HS; unfold pend; isplitl [Hat] <;> iassumption
  iexists _; iexact Ho

/-- The signal of direction `b`'s barrier unit, to the device `n` that will send into this device's receive slots. -/
theorem signal_bar {c n : Dev nD} {w : ℕ} {α : Type} {Q : α → sProp 𝕄} {k : PUnit → Prog (TpuEff nD τ sig (Elt F) Λ₀ .tc) α}
    (b : Bool) (hn : n = bwd b c) {q : Sem sig} (hq : q = barS) (hw : w = 1) {O₂ : CellTallies nD τ sig Unit} (O : CellTallies nD τ sig Unit)
    (hO : O₂ = O + tallyAt (barC (bwd b c)) () 1) :
    env PB K ⊢ iprop(dutyTok ER (barC (bwd b c)) 0 b -∗ (∃ f, bufP b c f) -∗ ow c O₂
      -∗ (ow c O -∗ wp frame (wpE (defs₀ (F := F)) Variants.none (c : Thread nD τ) none) Set.univ (k ⟨⟩) Q)
      -∗ wp frame (wpE (defs₀ (F := F)) Variants.none (c : Thread nD τ) none) Set.univ (.op (.semSignal (Dev.tc n : Thread nD τ) q w) k) Q) := by
  subst hn hq hw
  unfold ow
  iintro #HE Ht Hb ⟨%W, Ho⟩ Hk
  ihave #HI := (env_inv PB K none (bwd b c)) $$ HE
  ihave #HR := (env_reached PB K none (bwd b c)) $$ HE
  iapply (Rounds.wp_signal Variants.none ER (Rd PB) (c : Thread nD τ) none (dst := (bwd b c : Thread nD τ)) (κ := K (bwd b c, none))
      (d := b) (show b ∈ (Rd PB).duties (barC (bwd b c)) 0 by rw [duties_bar]; exact Finset.mem_univ _) (amount_bar PB (bwd b c) b) () O hO (W := W)) $$ [Ho Ht Hb]
  · isplitr; · iexact HI
    isplitl [Ho]; · iexact Ho
    isplitl [Ht]; · iexact Ht
    isplitl [Hb]
    · rw [show (Rd PB).payload ((bwd b c : Thread nD τ), SemLoc.reg barS) 0 b = barPay b (bwd b c) from payload_bar PB _ b]; unfold barPay; rw [fwd_bwd]; iexact Hb
    iexact HR
  iintro Ho
  iapply Hk
  iexists _; iexact Ho

/-- The barrier wait: both neighbours' receive slots. -/
theorem wait_bar {c : Dev nD} {w : ℕ} {α : Type} {Q : α → sProp 𝕄} {k : PUnit → Prog (TpuEff nD τ sig (Elt F) Λ₀ .tc) α}
    {q : Sem sig} (hq : q = barS) (hw : w = 2) :
    env PB K ⊢ iprop(atPos ER (barC c) 0 ∅ 0 -∗ cred (tallyAt (barC c) () 2) -∗ ow c (owed c 18)
      -∗ (((∃ f, bufP false (fwd false c) f) ∗ (∃ f, bufP true (fwd true c) f) ∗ semVal (barC c) 0 ∗ ow c (owed c 18))
          -∗ wp frame (wpE (defs₀ (F := F)) Variants.none (c : Thread nD τ) none) Set.univ (k ⟨⟩) Q)
      -∗ wp frame (wpE (defs₀ (F := F)) Variants.none (c : Thread nD τ) none) Set.univ (.op (.semWait q w) k) Q) := by
  subst hq hw
  unfold ow
  iintro #HE Hat Hc ⟨%W, Ho⟩ Hk
  ihave #HI := (env_inv PB K none c) $$ HE
  ihave #HL := (env_lev PB K) $$ HE
  iapply (Rounds.wp_wait_rest_token Variants.none ER (Rd PB) (c : Thread nD τ) none (κ := K (c, none)) (sm := csem none)
      (wpE_semWait_eq Variants.none (c : Thread nD τ) none Set.univ) (Set.mem_univ _) () (O := owed c 18) (W := W) (R := 0) (m := 0) (T := ∅)
      (by rw [expect_bar])) $$ [Hc Ho Hat]
  · isplitr; · iexact HI
    isplitl [Hc]; · iexact Hc
    isplitl [Ho]; · iexact Ho
    isplitr; · iapply (mayWait c _ 18 (le_refl _) (by rw [lev_bar]; decide)); iexact HL
    iexact Hat
  iintro ⟨Ho, Hat, -, Hpay⟩
  imod (Rounds.cell_close ER (Rd PB) (Set.mem_univ (K (c, none))) (fun h => h) (R := 0 + 1) (duties_later PB (barC c))) $$ [Hat] with Hz
  · isplitr; · iexact HI
    iexact Hat
  ihave Hp := (Entails.of_eq (rest_bar PB c)) $$ Hpay
  unfold barPay
  icases Hp with ⟨H1, H2⟩
  iapply Hk
  isplitl [H1]; · iexact H1
  isplitl [H2]; · iexact H2
  isplitl [Hz]; · iexact Hz
  iexists _; iexact Ho

end Rules

end Cert.KernelIdealProof

end
-- ==== Proof.KernelIdeal.Mem.lean ====
/-
What the views of the kernel's memrefs address: the rows, slots and columns a copy, a load or a store at given offsets
touches, and the rules for loads, stores and copies stated with whole-buffer contents.
-/
module

public import proofs.«01_k».proof.Proof.KernelIdeal.Rules
public import Idealize.ShloMosaic.Lib.ValueLayout

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## Indices -/

/-- Row `o + j₀`, column `j₁`, of a 2048-row array (the row taken modulo 2048, so that no bound is needed). -/
def ixO {n : ℕ} (o : ℕ) (j : (⟨2, ![n, 1024]⟩ : Shape).Idx) : S2048x1024.Idx :=
  ix2 ⟨(o + (j 0).val) % 2048, Nat.mod_lt _ (by decide)⟩ (j 1)
/-- Row `o + j₀`, column `128 h + j₁`. -/
def ixK (o h : ℕ) (j : S512x128.Idx) : S2048x1024.Idx :=
  ix2 ⟨(o + (j 0).val) % 2048, Nat.mod_lt _ (by decide)⟩ ⟨(128 * h + (j 1).val) % 1024, Nat.mod_lt _ (by decide)⟩

/-- The 256 rows from row `o`. -/
def rdO (o : ℕ) (g : OBuf F) : Vec F S256x1024 .f32 := fun j => g (ixO o j)
/-- The 512-row window from row `o`, of head `h`. -/
def rdK (o h : ℕ) (g : OBuf F) : Vec F S512x128 .f32 := fun j => g (ixK o h j)
/-- Slot `s`, as one block. -/
def rdS (s : ℕ) (f : SBuf F) : Vec F S1x256x1024 .f32 := fun j => f (ix3 ⟨s % 3, Nat.mod_lt _ (by decide)⟩ (j 1) (j 2))

theorem idx2_ext {n0 n1 : ℕ} {a b : (⟨2, ![n0, n1]⟩ : Shape).Idx} (h0 : (a 0).val = (b 0).val) (h1 : (a 1).val = (b 1).val) : a = b := by
  rw [eq_ix2 a, eq_ix2 b, Fin.ext h0, Fin.ext h1]
theorem idx3_ext {n0 n1 n2 : ℕ} {a b : (⟨3, ![n0, n1, n2]⟩ : Shape).Idx} (h0 : (a 0).val = (b 0).val) (h1 : (a 1).val = (b 1).val)
    (h2 : (a 2).val = (b 2).val) : a = b := by
  rw [eq_ix3 a, eq_ix3 b, Fin.ext h0, Fin.ext h1, Fin.ext h2]
theorem idx4_ext {n0 n1 n2 n3 : ℕ} {a b : (⟨4, ![n0, n1, n2, n3]⟩ : Shape).Idx} (h0 : (a 0).val = (b 0).val) (h1 : (a 1).val = (b 1).val)
    (h2 : (a 2).val = (b 2).val) (h3 : (a 3).val = (b 3).val) : a = b := by
  rw [eq_ix4 a, eq_ix4 b, Fin.ext h0, Fin.ext h1, Fin.ext h2, Fin.ext h3]

theorem unit_emb_val {s : Shape} (off size : Fin s.rank → ℕ) (inb : ∀ a, off a + size a ≤ s.size a) (j : (Rect.unit off size inb).shape.Idx) (a : Fin s.rank) :
    ((Rect.unit off size inb).emb j a : ℕ) = off a + j a := by
  rw [Rect.emb_apply]; show off a + 1 * (j a : ℕ) = _; omega

section Emb
variable {n o : ℕ} {off : Fin 2 → ℕ}

theorem emb_rows (hoff : off = ![o, 0]) (inb : ∀ a, off a + (⟨2, ![n, 1024]⟩ : Shape).size a ≤ S2048x1024.size a) (j : (⟨2, ![n, 1024]⟩ : Shape).Idx) :
    (Rect.unit (s := S2048x1024) off (⟨2, ![n, 1024]⟩ : Shape).size inb).emb j = ixO o j := by
  subst hoff
  have h0 : o + n ≤ 2048 := inb 0
  have hj : (j 0).val < n := idx2_lt0 j
  refine idx2_ext ((unit_emb_val (s := S2048x1024) _ _ inb j 0).trans ?_) ((unit_emb_val (s := S2048x1024) _ _ inb j 1).trans ?_)
  · show o + (j 0).val = (o + (j 0).val) % 2048; omega
  · show 0 + (j 1).val = (j 1).val; omega

theorem emb_win {h : ℕ} (hoff : off = ![o, 128 * h]) (inb : ∀ a, off a + S512x128.size a ≤ S2048x1024.size a) (j : S512x128.Idx) :
    (Rect.unit (s := S2048x1024) off S512x128.size inb).emb j = ixK o h j := by
  subst hoff
  have h0 : o + 512 ≤ 2048 := inb 0
  have h1 : 128 * h + 128 ≤ 1024 := inb 1
  have hj : (j 0).val < 512 := idx2_lt0 j
  have hj1 : (j 1).val < 128 := idx2_lt1 j
  refine idx2_ext ((unit_emb_val (s := S2048x1024) _ _ inb j 0).trans ?_) ((unit_emb_val (s := S2048x1024) _ _ inb j 1).trans ?_)
  · show o + (j 0).val = (o + (j 0).val) % 2048; omega
  · show 128 * h + (j 1).val = (128 * h + (j 1).val) % 1024; omega

theorem set_rows (hoff : off = ![o, 0]) (inb : ∀ a, off a + (⟨2, ![n, 1024]⟩ : Shape).size a ≤ S2048x1024.size a) :
    (Rect.unit (s := S2048x1024) off (⟨2, ![n, 1024]⟩ : Shape).size inb).set = rows o n := by
  subst hoff
  ext i
  rw [Rect.mem_set_unit, rows, Finset.mem_filter]
  have h1 : (i 1).val < 1024 := idx2_lt1 i
  constructor
  · intro h; exact ⟨Finset.mem_univ _, h 0⟩
  · rintro ⟨-, h⟩ a
    match a with
    | ⟨0, _⟩ => exact h
    | ⟨1, _⟩ => exact ⟨Nat.zero_le _, by show (i 1).val < 0 + 1024; omega⟩

end Emb

theorem emb_slot {s : ℕ} {off : Fin 3 → ℕ} (hoff : off = ![s, 0, 0]) (inb : ∀ a, off a + S1x256x1024.size a ≤ S3x256x1024.size a) (j : S1x256x1024.Idx) :
    (Rect.unit (s := S3x256x1024) off S1x256x1024.size inb).emb j = ix3 ⟨s % 3, Nat.mod_lt _ (by decide)⟩ (j 1) (j 2) := by
  subst hoff
  have h0 : s + 1 ≤ 3 := inb 0
  have hj : (j 0).val < 1 := (j 0).isLt
  refine idx3_ext ((unit_emb_val (s := S3x256x1024) _ _ inb j 0).trans ?_) ((unit_emb_val (s := S3x256x1024) _ _ inb j 1).trans ?_)
    ((unit_emb_val (s := S3x256x1024) _ _ inb j 2).trans ?_)
  · show s + (j 0).val = s % 3; omega
  · show 0 + (j 1).val = (j 1).val; omega
  · show 0 + (j 2).val = (j 2).val; omega

theorem set_slot {s : ℕ} {off : Fin 3 → ℕ} (hoff : off = ![s, 0, 0]) (inb : ∀ a, off a + S1x256x1024.size a ≤ S3x256x1024.size a) :
    (Rect.unit (s := S3x256x1024) off S1x256x1024.size inb).set = slot s := by
  subst hoff
  ext i
  rw [Rect.mem_set_unit, slot, Finset.mem_filter]
  have h1 : (i 1).val < 256 := (i 1).isLt
  have h2 : (i 2).val < 1024 := (i 2).isLt
  constructor
  · intro h; have := h 0; exact ⟨Finset.mem_univ _, by have h3 : s ≤ (i 0).val ∧ (i 0).val < s + 1 := this; omega⟩
  · rintro ⟨-, h⟩ a
    match a with
    | ⟨0, _⟩ => exact ⟨le_of_eq h.symm, by show (i 0).val < s + 1; omega⟩
    | ⟨1, _⟩ => exact ⟨Nat.zero_le _, by show (i 1).val < 0 + 256; omega⟩
    | ⟨2, _⟩ => exact ⟨Nat.zero_le _, by show (i 2).val < 0 + 1024; omega⟩

/-! ## Loads and stores -/

section LoadStore

variable {c : Dev nD} {α : Type} {Q : α → sProp (MT nD τ sig Unit (Elt F) ℕ UU ℕ)}

theorem readAt_whole (b : Ref sig .tc) (off size : Fin b.ty.shape.rank → ℕ) (inb) (f : b.ty.Contents (Elt F)) :
    (Memref.whole b).view.readAt (Elt F) (Rect.unit off size inb).toLoadRect f = fun j => f ((Rect.unit off size inb).emb j) := rfl

/-- A load of rows of the output, from the piece that covers them. -/
theorem ld_out {off : Fin 2 → ℕ} {inb : ∀ a, off a + S256x1024.size a ≤ S2048x1024.size a} {hl : (oM.view).LoadsAt (Rect.unit (s := S2048x1024) off S256x1024.size inb).toLoadRect}
    {k : Vec F S256x1024 .f32 → Prog (TpuEff nD τ sig (Elt F) Λ₀ .tc) α} (o : ℕ) (hoff : off = ![o, 0]) {g : OBuf F} :
    outP c o 256 g ⊢ iprop((outP c o 256 g -∗ wp frame (wpE (defs₀ (F := F)) Variants.none (c : Thread nD τ) none) Set.univ (k (rdO o g)) Q)
      -∗ wp frame (wpE (defs₀ (F := F)) Variants.none (c : Thread nD τ) none) Set.univ
          (.op (.load oM (Rect.unit (s := S2048x1024) off S256x1024.size inb).toLoadRect hl) k) Q) := by
  have e : (oM.view).readAt (Elt F) (Rect.unit (s := S2048x1024) off S256x1024.size inb).toLoadRect g = rdO o g :=
    funext fun j => congrArg g (emb_rows hoff inb j)
  rw [← e]
  exact wp_load Variants.none (c : Thread nD τ) none Set.univ (m := oM) (r := (Rect.unit (s := S2048x1024) off S256x1024.size inb).toLoadRect)
    (by show ((View.whole cc0_stg0_0).setOn (Rect.unit (s := S2048x1024) off S256x1024.size inb).set) ⊆ _
        rw [set_rows hoff inb]; exact fun i hi => by
          obtain ⟨j, hj, rfl⟩ := Finset.mem_map.mp hi; exact hj)

/-- A store to rows of the output, from the piece that holds exactly them: it leaves any contents that read back as what
    is stored. -/
theorem st_out {off : Fin 2 → ℕ} {inb : ∀ a, off a + S256x1024.size a ≤ S2048x1024.size a} {w : Vec F S256x1024 .f32}
    {hx : (oM.access (Rect.unit (s := S2048x1024) off S256x1024.size inb)).Stores (Finset.univ : Finset S256x1024.Idx)} {hm}
    {k : PUnit → Prog (TpuEff nD τ sig (Elt F) Λ₀ .tc) α} (o : ℕ) (hoff : off = ![o, 0]) (g' : OBuf F) (hw : w = rdO o g') {g : OBuf F} :
    outP c o 256 g ⊢ iprop((outP c o 256 g' -∗ wp frame (wpE (defs₀ (F := F)) Variants.none (c : Thread nD τ) none) Set.univ (k ⟨⟩) Q)
      -∗ wp frame (wpE (defs₀ (F := F)) Variants.none (c : Thread nD τ) none) Set.univ
          (.op (.store oM (Rect.unit (s := S2048x1024) off S256x1024.size inb) w Finset.univ hx hm) k) Q) := by
  have hset : (oM.access (Rect.unit (s := S2048x1024) off S256x1024.size inb)).setOn (Finset.univ : Finset S256x1024.Idx) = rows o 256 := by
    rw [View.setOn_univ]; exact (View.set_slice_whole cc0_stg0_0 _).trans (set_rows hoff inb)
  have e : outP c o 256 g' = (((c : Thread nD τ).loc cc0_stg0_0) ↦[rows o 256]{fullShare}
      ((oM.access (Rect.unit (s := S2048x1024) off S256x1024.size inb)).write (Elt F) g w Finset.univ) : sProp 𝕄) := by
    refine pointsTo_congr fun i hi => ?_
    rw [← hset] at hi
    obtain ⟨j, -, rfl⟩ := Finset.mem_map.mp hi
    refine Eq.trans ?_ ((oM.access (Rect.unit (s := S2048x1024) off S256x1024.size inb)).write_emb_of_mem (Val := Elt F) g w (Finset.mem_univ j)).symm
    subst hw
    exact congrArg g' (emb_rows hoff inb j)
  rw [e]
  exact wp_store Variants.none (c : Thread nD τ) none Set.univ (m := oM) (r := Rect.unit (s := S2048x1024) off S256x1024.size inb) (Mk := Finset.univ) (le_of_eq hset)

end LoadStore

end Cert.KernelIdealProof

end
-- ==== Proof.KernelIdeal.Copy.lean ====
/-
The kernel's own copies of its inputs into local memory, and the loads from there. A device copies its activations, its
columns of the query weights, its rows of the output weights, and its eight heads of keys and values, each head to a
block of 128 columns.
-/
module

public import proofs.«01_k».proof.Proof.KernelIdeal.Mem

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- A device's operands. -/
structure Ins (F : FTy → Type) where
  x : S1x2048x1024.Idx → Elt F .f32
  wq : S1024x4096.Idx → Elt F .f32
  k : S1x2048x8x128.Idx → Elt F .f32
  v : S1x2048x8x128.Idx → Elt F .f32
  wo : S4096x1024.Idx → Elt F .f32

variable (I : Ins F) (c : Dev nD)

/-! ## What the copies leave -/

abbrev z1 : Fin 1 := ⟨0, Nat.one_pos⟩
def XG : OBuf F := fun i => I.x (ix3 z1 (i 0) (i 1))
def headIx (i : S2048x1024.Idx) : S1x2048x8x128.Idx :=
  ix4 z1 (i 0) ⟨(i 1).val / 128, by have := idx2_lt1 i; omega⟩ ⟨(i 1).val % 128, Nat.mod_lt _ (by decide)⟩
def KG : OBuf F := fun i => I.k (headIx i)
def VG : OBuf F := fun i => I.v (headIx i)
def WQ : S1024x1024.Idx → Elt F .f32 := fun i =>
  I.wq (ix2 (i 0) ⟨1024 * c.val + (i 1).val, by have : (i 1).val < 1024 := idx2_lt1 i; have : c.val < 4 := c.isLt; show _ < 4096; omega⟩)
def WO : S1024x1024.Idx → Elt F .f32 := fun i =>
  I.wo (ix2 ⟨1024 * c.val + (i 0).val, by have : (i 0).val < 1024 := idx2_lt0 i; have : c.val < 4 := c.isLt; show _ < 4096; omega⟩ (i 1))

/-- The columns of head `j`. -/
def cols (j : Fin 8) : Finset S2048x1024.Idx := Finset.univ.filter fun i => (i 1).val / 128 = j.val
/-- Head `j` of a key or value array. -/
def hd (j : Fin 8) : Finset S1x2048x8x128.Idx := Finset.univ.filter fun i => (i 2).val = j.val

theorem set_cols {j : Fin 8} {off : Fin 2 → ℕ} (hoff : off = ![0, 128 * j.val]) (inb : ∀ a, off a + S2048x128.size a ≤ S2048x1024.size a) :
    (Rect.unit (s := S2048x1024) off S2048x128.size inb).set = cols j := by
  subst hoff
  ext i
  rw [Rect.mem_set_unit, cols, Finset.mem_filter]
  have h0 : (i 0).val < 2048 := idx2_lt0 i
  constructor
  · intro h
    have h1 : 128 * j.val ≤ (i 1).val ∧ (i 1).val < 128 * j.val + 128 := h 1
    exact ⟨Finset.mem_univ _, by omega⟩
  · rintro ⟨-, h⟩ a
    match a with
    | ⟨0, _⟩ => exact ⟨Nat.zero_le _, by show (i 0).val < 0 + 2048; omega⟩
    | ⟨1, _⟩ => exact ⟨by show 128 * j.val ≤ (i 1).val; omega, by show (i 1).val < 128 * j.val + 128; omega⟩

theorem set_hd {j : Fin 8} {off : Fin 4 → ℕ} (hoff : off = ![0, 0, j.val, 0]) (inb : ∀ a, off a + S1x2048x1x128.size a ≤ S1x2048x8x128.size a) :
    (Rect.unit (s := S1x2048x8x128) off S1x2048x1x128.size inb).set = hd j := by
  subst hoff
  ext i
  rw [Rect.mem_set_unit, hd, Finset.mem_filter]
  have h0 : (i 0).val < 1 := (i 0).isLt
  have h1 : (i 1).val < 2048 := (i 1).isLt
  have h3 : (i 3).val < 128 := (i 3).isLt
  constructor
  · intro h
    have h1 : j.val ≤ (i 2).val ∧ (i 2).val < j.val + 1 := h 2
    exact ⟨Finset.mem_univ _, by omega⟩
  · rintro ⟨-, h⟩ a
    match a with
    | ⟨0, _⟩ => exact ⟨Nat.zero_le _, by show (i 0).val < 0 + 1; omega⟩
    | ⟨1, _⟩ => exact ⟨Nat.zero_le _, by show (i 1).val < 0 + 2048; omega⟩
    | ⟨2, _⟩ => exact ⟨by show j.val ≤ (i 2).val; omega, by show (i 2).val < j.val + 1; omega⟩
    | ⟨3, _⟩ => exact ⟨Nat.zero_le _, by show (i 3).val < 0 + 128; omega⟩

theorem cols_disjoint : ∀ t ∈ (Finset.univ : Finset (Fin 8)), ∀ t' ∈ (Finset.univ : Finset (Fin 8)), t ≠ t' → Disjoint (cols t) (cols t') := by
  intro t _ t' _ h
  rw [Finset.disjoint_left]
  intro i hi hi'
  rw [cols, Finset.mem_filter] at hi hi'
  exact h (Fin.ext (hi.2.symm.trans hi'.2))
theorem hd_disjoint : ∀ t ∈ (Finset.univ : Finset (Fin 8)), ∀ t' ∈ (Finset.univ : Finset (Fin 8)), t ≠ t' → Disjoint (hd t) (hd t') := by
  intro t _ t' _ h
  rw [Finset.disjoint_left]
  intro i hi hi'
  rw [hd, Finset.mem_filter] at hi hi'
  exact h (Fin.ext (hi.2.symm.trans hi'.2))
theorem cols_cover : (Finset.univ : Finset (Fin 8)).biUnion cols = Finset.univ := by
  ext i
  simp only [Finset.mem_biUnion, Finset.mem_univ, true_and, iff_true]
  exact ⟨⟨(i 1).val / 128, by have := idx2_lt1 i; omega⟩, Finset.mem_filter.mpr ⟨Finset.mem_univ _, rfl⟩⟩
theorem hd_cover : (Finset.univ : Finset (Fin 8)).biUnion hd = Finset.univ := by
  ext i
  simp only [Finset.mem_biUnion, Finset.mem_univ, true_and, iff_true]
  exact ⟨⟨(i 2).val, (i 2).isLt⟩, Finset.mem_filter.mpr ⟨Finset.mem_univ _, rfl⟩⟩

section Pieces
variable (ℓ : Loc nD τ sig)

theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

end Pieces

/-! ## The copies -/

section Copy

variable {c : Dev nD} {α : Type} {Q : α → sProp (MT nD τ sig Unit (Elt F) ℕ UU ℕ)}

theorem copy_in {s : Shape} {e : EltTy} {sp sp' : Space} {src : Memref sig .tc sp s e} {dst : Memref sig .tc sp' s e} {q : DmaSem sig}
    {hsrc : src.view.WordExact} {hdst : dst.view.WordExact} {hsem : (DmaTarget.here dst : DmaTarget nD τ sig .tc sp' s e).Typed sp (.dma q)}
    {k : PUnit → Prog (TpuEff nD τ sig (Elt F) Λ₀ .tc) α} (hs : 0 < s.numel)
    {fs : Buf (Elt F) (src.view.loc (c : Thread nD τ))} {fd : Buf (Elt F) (dst.view.loc (c : Thread nD τ))} (G : Buf (Elt F) (dst.view.loc (c : Thread nD τ)))
    (hG : ∀ j, dst.view.write (Elt F) fd (src.view.read (Elt F) fs) Finset.univ (dst.view.emb j) = G (dst.view.emb j)) :
    (src.view.loc (c : Thread nD τ) ↦[src.view.set]{fullShare} fs)
      ⊢ iprop((dst.view.loc (c : Thread nD τ) ↦[dst.view.set]{fullShare} fd) -∗ semVal ((c : Thread nD τ), .dma q) 0
        -∗ (Transfers.Flight (countersEmb : UEmb Counters 𝕄) (c : Thread nD τ) (.dma q) () dst.view.dmaCredit
              iprop((dst.view.loc (c : Thread nD τ) ↦[dst.view.set]{fullShare} G) ∗ (src.view.loc (c : Thread nD τ) ↦[src.view.set]{fullShare} fs))
            -∗ wp frame (wpE (defs₀ (F := F)) Variants.none (c : Thread nD τ) none) Set.univ (k ⟨⟩) Q)
        -∗ wp frame (wpE (defs₀ (F := F)) Variants.none (c : Thread nD τ) none) Set.univ (.op (.enqueueDma src (.here dst) (.dma q) hsrc hdst hsem) k) Q) := by
  have e : (dst.view.loc (c : Thread nD τ) ↦[dst.view.set]{fullShare} (dst.view.write (Elt F) fd (ReadAs.same.apply (src.view.read (Elt F) fs)) Finset.univ) : sProp 𝕄)
      = (dst.view.loc (c : Thread nD τ) ↦[dst.view.set]{fullShare} G) :=
    pointsTo_congr fun i hi => by obtain ⟨j, -, rfl⟩ := Finset.mem_map.mp hi; exact hG j
  iintro Hs Hd Hv Hk
  iapply (Transfers.wp_dmaLocal (countersEmb : UEmb Counters 𝕄) Variants.none (c : Thread nD τ) none (via := .same) (fd := fd) () dst.view.dmaCredit rfl
    (View.dmaCredit_pos _ hs) subset_rfl) $$ [Hs Hd Hv]
  · isplitl [Hs]; · iexact Hs
    isplitl [Hd] <;> iassumption
  rw [e]
  iexact Hk

theorem lev_local {q : DmaSem sig} (hq : q.val < 20) : lev (.dma q) = 0 := by
  unfold lev dec; simp only [if_pos hq]

theorem wait_in (PB : Dev nD → OBuf F) (K : Dev nD × Ck → ℕ) {s s' : Shape} {e e' : EltTy} {sp sp' : Space} {srcw : Memref sig .tc sp' s' e'} {dstw : Memref sig .tc sp s e}
    {hsrc : srcw.view.WordExact} {hdst : dstw.view.WordExact} {q : DmaSem sig}
    {k : PUnit → Prog (TpuEff nD τ sig (Elt F) Λ₀ .tc) α} (hq : q.val < 20) {N : ℕ} (hN : dstw.view.dmaCredit = N) {D : sProp 𝕄} :
    env PB K ⊢ iprop(Transfers.Flight (countersEmb : UEmb Counters 𝕄) (c : Thread nD τ) (.dma q) () N D -∗ ow c (owed c 18)
      -∗ ((D ∗ semVal ((c : Thread nD τ), .dma q) 0 ∗ ow c (owed c 18)) -∗ wp frame (wpE (defs₀ (F := F)) Variants.none (c : Thread nD τ) none) Set.univ (k ⟨⟩) Q)
      -∗ wp frame (wpE (defs₀ (F := F)) Variants.none (c : Thread nD τ) none) Set.univ (.op (.waitDma2 q srcw dstw hsrc hdst) k) Q) := by
  unfold ow
  iintro #HE Hf ⟨%W, Ho⟩ Hk
  ihave #HL := (env_lev PB K) $$ HE
  iapply (Transfers.wp_waitLocalO (countersEmb : UEmb Counters 𝕄) Variants.none (c : Thread nD τ) none () hN) $$ [Hf Ho]
  · isplitl [Hf]; · iexact Hf
    isplitl [Ho]; · iexact Ho
    iapply (mayWait c _ 18 (le_refl _) (by rw [lev_local hq]; decide)); iexact HL
  iintro ⟨HD, Hv, Ho⟩
  iapply Hk
  isplitl [HD]; · iexact HD
  isplitl [Hv]; · iexact Hv
  iexists _; iexact Ho

variable (c)

def smK (j : Fin 8) : DmaSem sig := ⟨4 + j.val, by have := j.isLt; show _ < 56; omega⟩
def smV (j : Fin 8) : DmaSem sig := ⟨12 + j.val, by have := j.isLt; show _ < 56; omega⟩
def smW (j : Fin 3) : DmaSem sig := ⟨1 + j.val, by have := j.isLt; show _ < 56; omega⟩

theorem squeeze_head (i : S2048x128.Idx) :
    Shape.reshapeEquiv squeezes_S1x2048x1x128_S2048x128.numel_eq i = (ix4 z1 (i 0) z1 (i 1) : S1x2048x1x128.Idx) := by
  refine Shape.reshapeEquiv_eq_of_rowMajor _ ?_
  rw [Shape.rowMajor_val_four, Shape.rowMajor_val_two]
  show ((0 * 2048 + (i 0).val) * 1 + 0) * 128 + (i 1).val = (i 0).val * 128 + (i 1).val
  omega
theorem head_emb (j : Fin 8) (inb₁ : ∀ a, (![0, 0, j.val, 0] : Fin 4 → ℕ) a + S1x2048x1x128.size a ≤ S1x2048x8x128.size a)
    (inb₂ : ∀ a, (![0, 128 * j.val] : Fin 2 → ℕ) a + S2048x128.size a ≤ S2048x1024.size a) (i : S2048x128.Idx) :
    (Rect.unit (s := S1x2048x8x128) ![0, 0, j.val, 0] S1x2048x1x128.size inb₁).emb (Shape.reshapeEquiv squeezes_S1x2048x1x128_S2048x128.numel_eq i)
      = headIx ((Rect.unit (s := S2048x1024) ![0, 128 * j.val] S2048x128.size inb₂).emb i) := by
  rw [squeeze_head]
  have h1 : (i 1).val < 128 := idx2_lt1 i
  have e0 : ((Rect.unit (s := S2048x1024) ![0, 128 * j.val] S2048x128.size inb₂).emb i 0).val = 0 + (i 0).val := unit_emb_val (s := S2048x1024) _ _ inb₂ i 0
  have e1 : ((Rect.unit (s := S2048x1024) ![0, 128 * j.val] S2048x128.size inb₂).emb i 1).val = 128 * j.val + (i 1).val := unit_emb_val (s := S2048x1024) _ _ inb₂ i 1
  refine idx4_ext ((unit_emb_val (s := S1x2048x8x128) _ _ inb₁ _ 0).trans ?_) ((unit_emb_val (s := S1x2048x8x128) _ _ inb₁ _ 1).trans ?_)
    ((unit_emb_val (s := S1x2048x8x128) _ _ inb₁ _ 2).trans ?_) ((unit_emb_val (s := S1x2048x8x128) _ _ inb₁ _ 3).trans ?_)
  · rfl
  · show 0 + (i 0).val = ((Rect.unit (s := S2048x1024) ![0, 128 * j.val] S2048x128.size inb₂).emb i 0).val; omega
  · show j.val + 0 = ((Rect.unit (s := S2048x1024) ![0, 128 * j.val] S2048x128.size inb₂).emb i 1).val / 128; omega
  · show 0 + (i 1).val = ((Rect.unit (s := S2048x1024) ![0, 128 * j.val] S2048x128.size inb₂).emb i 1).val % 128; omega
def aK (j : Fin 8) (h : S1x2048x8x128.Idx → Elt F .f32) : sProp 𝕄 := ((c : Thread nD τ).loc main_arg2) ↦[hd j]{fullShare} h
def sK (j : Fin 8) (g : OBuf F) : sProp 𝕄 := ((c : Thread nD τ).loc cc0_scratch3) ↦[cols j]{fullShare} g
def flK (j : Fin 8) : sProp 𝕄 :=
  Transfers.Flight (countersEmb : UEmb Counters 𝕄) (c : Thread nD τ) (.dma (smK j)) ()
    ((Memref.whole cc0_scratch3 : Memref sig .tc .vmem S2048x1024 .f32).slice (Rect.unit (s := S2048x1024) ![0, 0] S2048x128.size inb_S2048x1024_S2048x128_0_0) (fun _ => rfl)).view.dmaCredit
    iprop(sK c j (KG I) ∗ aK c j I.k)

theorem copy_k (j : Fin 8) {off₁ : Fin 4 → ℕ} {off₂ : Fin 2 → ℕ} (h₁ : off₁ = ![0, 0, j.val, 0]) (h₂ : off₂ = ![0, 128 * j.val])
    {inb₁ : ∀ a, off₁ a + S1x2048x1x128.size a ≤ S1x2048x8x128.size a} {inb₂ : ∀ a, off₂ a + S2048x128.size a ≤ S2048x1024.size a} {q : DmaSem sig} (hq : q = smK j)
    {hsrc hdst hsem} {k : PUnit → Prog (TpuEff nD τ sig (Elt F) Λ₀ .tc) α} :
    aK c j I.k ⊢ iprop((∃ f, sK c j f) -∗ semVal ((c : Thread nD τ), .dma (smK j)) 0
        -∗ (flK I c j -∗ wp frame (wpE (defs₀ (F := F)) Variants.none (c : Thread nD τ) none) Set.univ (k ⟨⟩) Q)
        -∗ wp frame (wpE (defs₀ (F := F)) Variants.none (c : Thread nD τ) none) Set.univ
          (.op (.enqueueDma (((Memref.whole main_arg2 : Memref sig .tc .hbm S1x2048x8x128 .f32).slice (Rect.unit (s := S1x2048x8x128) off₁ S1x2048x1x128.size inb₁) (fun _ => rfl)).squeeze S2048x128 squeezes_S1x2048x1x128_S2048x128)
            (.here ((Memref.whole cc0_scratch3 : Memref sig .tc .vmem S2048x1024 .f32).slice (Rect.unit (s := S2048x1024) off₂ S2048x128.size inb₂) (fun _ => rfl))) (.dma q) hsrc hdst hsem) k) Q) := by
  subst hq h₁ h₂
  have e₁ : aK c j I.k = ((((Memref.whole main_arg2 : Memref sig .tc .hbm S1x2048x8x128 .f32).slice (Rect.unit (s := S1x2048x8x128) _ S1x2048x1x128.size inb₁) (fun _ => rfl)).squeeze S2048x128 squeezes_S1x2048x1x128_S2048x128).view.loc (c : Thread nD τ)
      ↦[(((Memref.whole main_arg2 : Memref sig .tc .hbm S1x2048x8x128 .f32).slice (Rect.unit (s := S1x2048x8x128) _ S1x2048x1x128.size inb₁) (fun _ => rfl)).squeeze S2048x128 squeezes_S1x2048x1x128_S2048x128).view.set]{fullShare} I.k : sProp 𝕄) := by
    rw [show (((Memref.whole main_arg2 : Memref sig .tc .hbm S1x2048x8x128 .f32).slice (Rect.unit (s := S1x2048x8x128) _ S1x2048x1x128.size inb₁) (fun _ => rfl)).squeeze S2048x128 squeezes_S1x2048x1x128_S2048x128).view.set = hd j from
      (View.set_reshape _ _).trans ((View.set_slice_whole main_arg2 _).trans (set_hd rfl inb₁))]
    rfl
  have e₂ : ∀ f, sK c j f = (((Memref.whole cc0_scratch3 : Memref sig .tc .vmem S2048x1024 .f32).slice (Rect.unit (s := S2048x1024) _ S2048x128.size inb₂) (fun _ => rfl)).view.loc (c : Thread nD τ)
      ↦[((Memref.whole cc0_scratch3 : Memref sig .tc .vmem S2048x1024 .f32).slice (Rect.unit (s := S2048x1024) _ S2048x128.size inb₂) (fun _ => rfl)).view.set]{fullShare} f : sProp 𝕄) := by
    intro f
    rw [show ((Memref.whole cc0_scratch3 : Memref sig .tc .vmem S2048x1024 .f32).slice (Rect.unit (s := S2048x1024) _ S2048x128.size inb₂) (fun _ => rfl)).view.set = cols j from
      (View.set_slice_whole cc0_scratch3 _).trans (set_cols rfl inb₂)]
    rfl
  unfold flK
  rw [e₁]
  simp only [e₂]
  iintro Hs ⟨%f, Hd⟩ Hv Hk
  iapply (copy_in (c := c) (src := ((Memref.whole main_arg2 : Memref sig .tc .hbm S1x2048x8x128 .f32).slice (Rect.unit (s := S1x2048x8x128) _ S1x2048x1x128.size inb₁) (fun _ => rfl)).squeeze S2048x128 squeezes_S1x2048x1x128_S2048x128)
    (dst := (Memref.whole cc0_scratch3 : Memref sig .tc .vmem S2048x1024 .f32).slice (Rect.unit (s := S2048x1024) _ S2048x128.size inb₂) (fun _ => rfl)) (by decide) (fs := I.k) (fd := f) (KG I) ?_) $$ Hs Hd Hv
  · intro i
    refine (View.write_emb_of_mem (Val := Elt F) _ _ (Finset.mem_univ i)).trans ?_
    exact congrArg I.k (head_emb j inb₁ inb₂ i)
  · iexact Hk

def aV (j : Fin 8) (h : S1x2048x8x128.Idx → Elt F .f32) : sProp 𝕄 := ((c : Thread nD τ).loc main_arg3) ↦[hd j]{fullShare} h
def sV (j : Fin 8) (g : OBuf F) : sProp 𝕄 := ((c : Thread nD τ).loc cc0_scratch4) ↦[cols j]{fullShare} g
def flV (j : Fin 8) : sProp 𝕄 :=
  Transfers.Flight (countersEmb : UEmb Counters 𝕄) (c : Thread nD τ) (.dma (smV j)) ()
    ((Memref.whole cc0_scratch4 : Memref sig .tc .vmem S2048x1024 .f32).slice (Rect.unit (s := S2048x1024) ![0, 0] S2048x128.size inb_S2048x1024_S2048x128_0_0) (fun _ => rfl)).view.dmaCredit
    iprop(sV c j (VG I) ∗ aV c j I.v)

theorem copy_v (j : Fin 8) {off₁ : Fin 4 → ℕ} {off₂ : Fin 2 → ℕ} (h₁ : off₁ = ![0, 0, j.val, 0]) (h₂ : off₂ = ![0, 128 * j.val])
    {inb₁ : ∀ a, off₁ a + S1x2048x1x128.size a ≤ S1x2048x8x128.size a} {inb₂ : ∀ a, off₂ a + S2048x128.size a ≤ S2048x1024.size a} {q : DmaSem sig} (hq : q = smV j)
    {hsrc hdst hsem} {k : PUnit → Prog (TpuEff nD τ sig (Elt F) Λ₀ .tc) α} :
    aV c j I.v ⊢ iprop((∃ f, sV c j f) -∗ semVal ((c : Thread nD τ), .dma (smV j)) 0
        -∗ (flV I c j -∗ wp frame (wpE (defs₀ (F := F)) Variants.none (c : Thread nD τ) none) Set.univ (k ⟨⟩) Q)
        -∗ wp frame (wpE (defs₀ (F := F)) Variants.none (c : Thread nD τ) none) Set.univ
          (.op (.enqueueDma (((Memref.whole main_arg3 : Memref sig .tc .hbm S1x2048x8x128 .f32).slice (Rect.unit (s := S1x2048x8x128) off₁ S1x2048x1x128.size inb₁) (fun _ => rfl)).squeeze S2048x128 squeezes_S1x2048x1x128_S2048x128)
            (.here ((Memref.whole cc0_scratch4 : Memref sig .tc .vmem S2048x1024 .f32).slice (Rect.unit (s := S2048x1024) off₂ S2048x128.size inb₂) (fun _ => rfl))) (.dma q) hsrc hdst hsem) k) Q) := by
  subst hq h₁ h₂
  have e₁ : aV c j I.v = ((((Memref.whole main_arg3 : Memref sig .tc .hbm S1x2048x8x128 .f32).slice (Rect.unit (s := S1x2048x8x128) _ S1x2048x1x128.size inb₁) (fun _ => rfl)).squeeze S2048x128 squeezes_S1x2048x1x128_S2048x128).view.loc (c : Thread nD τ)
      ↦[(((Memref.whole main_arg3 : Memref sig .tc .hbm S1x2048x8x128 .f32).slice (Rect.unit (s := S1x2048x8x128) _ S1x2048x1x128.size inb₁) (fun _ => rfl)).squeeze S2048x128 squeezes_S1x2048x1x128_S2048x128).view.set]{fullShare} I.v : sProp 𝕄) := by
    rw [show (((Memref.whole main_arg3 : Memref sig .tc .hbm S1x2048x8x128 .f32).slice (Rect.unit (s := S1x2048x8x128) _ S1x2048x1x128.size inb₁) (fun _ => rfl)).squeeze S2048x128 squeezes_S1x2048x1x128_S2048x128).view.set = hd j from
      (View.set_reshape _ _).trans ((View.set_slice_whole main_arg3 _).trans (set_hd rfl inb₁))]
    rfl
  have e₂ : ∀ f, sV c j f = (((Memref.whole cc0_scratch4 : Memref sig .tc .vmem S2048x1024 .f32).slice (Rect.unit (s := S2048x1024) _ S2048x128.size inb₂) (fun _ => rfl)).view.loc (c : Thread nD τ)
      ↦[((Memref.whole cc0_scratch4 : Memref sig .tc .vmem S2048x1024 .f32).slice (Rect.unit (s := S2048x1024) _ S2048x128.size inb₂) (fun _ => rfl)).view.set]{fullShare} f : sProp 𝕄) := by
    intro f
    rw [show ((Memref.whole cc0_scratch4 : Memref sig .tc .vmem S2048x1024 .f32).slice (Rect.unit (s := S2048x1024) _ S2048x128.size inb₂) (fun _ => rfl)).view.set = cols j from
      (View.set_slice_whole cc0_scratch4 _).trans (set_cols rfl inb₂)]
    rfl
  unfold flV
  rw [e₁]
  simp only [e₂]
  iintro Hs ⟨%f, Hd⟩ Hv Hk
  iapply (copy_in (c := c) (src := ((Memref.whole main_arg3 : Memref sig .tc .hbm S1x2048x8x128 .f32).slice (Rect.unit (s := S1x2048x8x128) _ S1x2048x1x128.size inb₁) (fun _ => rfl)).squeeze S2048x128 squeezes_S1x2048x1x128_S2048x128)
    (dst := (Memref.whole cc0_scratch4 : Memref sig .tc .vmem S2048x1024 .f32).slice (Rect.unit (s := S2048x1024) _ S2048x128.size inb₂) (fun _ => rfl)) (by decide) (fs := I.v) (fd := f) (VG I) ?_) $$ Hs Hd Hv
  · intro i
    refine (View.write_emb_of_mem (Val := Elt F) _ _ (Finset.mem_univ i)).trans ?_
    exact congrArg I.v (head_emb j inb₁ inb₂ i)
  · iexact Hk

/-- What the output projection and the query projection read of their operands. -/
def aWQ (h : S1024x4096.Idx → Elt F .f32) : sProp 𝕄 :=
  ((c : Thread nD τ).loc main_arg1) ↦[(Rect.unit (s := S1024x4096) (k0_off1 c) S1024x1024.size (k0_off1_inb c)).set]{fullShare} h
def sWQ (g : S1024x1024.Idx → Elt F .f32) : sProp 𝕄 := ((c : Thread nD τ).loc cc0_scratch1) ↦{fullShare} g
def flWQ : sProp 𝕄 :=
  Transfers.Flight (countersEmb : UEmb Counters 𝕄) (c : Thread nD τ) (.dma (smW 0)) ()
    (Memref.whole cc0_scratch1 : Memref sig .tc .vmem S1024x1024 .f32).view.dmaCredit
    iprop(sWQ c (WQ I c) ∗ aWQ c I.wq)

theorem off1_eq : k0_off1 c = ![0, 1024 * c.val] := by revert c; decide +kernel

theorem wq_emb (i : S1024x1024.Idx) :
    (Rect.unit (s := S1024x4096) (k0_off1 c) S1024x1024.size (k0_off1_inb c)).emb i = ix2 (i 0) ⟨1024 * c.val + (i 1).val, by have : (i 1).val < 1024 := idx2_lt1 i; have : c.val < 4 := c.isLt; show _ < 4096; omega⟩ := by
  have h0 : k0_off1 c 0 = 0 := congrFun (off1_eq c) 0
  have h1 : k0_off1 c 1 = 1024 * c.val := congrFun (off1_eq c) 1
  refine idx2_ext ((unit_emb_val (s := S1024x4096) _ _ (k0_off1_inb c) i 0).trans ?_) ((unit_emb_val (s := S1024x4096) _ _ (k0_off1_inb c) i 1).trans ?_)
  · rw [h0]; exact Nat.zero_add _
  · rw [h1]

theorem copy_wq {q : DmaSem sig} (hq : q = smW 0) {hsrc hdst hsem} {k : PUnit → Prog (TpuEff nD τ sig (Elt F) Λ₀ .tc) α} :
    aWQ c I.wq ⊢ iprop((∃ f, sWQ c f) -∗ semVal ((c : Thread nD τ), .dma (smW 0)) 0
        -∗ (flWQ I c -∗ wp frame (wpE (defs₀ (F := F)) Variants.none (c : Thread nD τ) none) Set.univ (k ⟨⟩) Q)
        -∗ wp frame (wpE (defs₀ (F := F)) Variants.none (c : Thread nD τ) none) Set.univ
          (.op (.enqueueDma ((Memref.whole main_arg1 : Memref sig .tc .hbm S1024x4096 .f32).slice (Rect.unit (s := S1024x4096) (k0_off1 c) S1024x1024.size (k0_off1_inb c)) (fun _ => rfl))
            (.here (Memref.whole cc0_scratch1 : Memref sig .tc .vmem S1024x1024 .f32)) (.dma q) hsrc hdst hsem) k) Q) := by
  subst hq
  have e₁ : aWQ c I.wq = (((Memref.whole main_arg1 : Memref sig .tc .hbm S1024x4096 .f32).slice (Rect.unit (s := S1024x4096) (k0_off1 c) S1024x1024.size (k0_off1_inb c)) (fun _ => rfl)).view.loc (c : Thread nD τ)
      ↦[((Memref.whole main_arg1 : Memref sig .tc .hbm S1024x4096 .f32).slice (Rect.unit (s := S1024x4096) (k0_off1 c) S1024x1024.size (k0_off1_inb c)) (fun _ => rfl)).view.set]{fullShare} I.wq : sProp 𝕄) := by
    rw [show ((Memref.whole main_arg1 : Memref sig .tc .hbm S1024x4096 .f32).slice (Rect.unit (s := S1024x4096) (k0_off1 c) S1024x1024.size (k0_off1_inb c)) (fun _ => rfl)).view.set
      = (Rect.unit (s := S1024x4096) (k0_off1 c) S1024x1024.size (k0_off1_inb c)).set from View.set_slice_whole main_arg1 _]
    rfl
  have e₂ : ∀ f, sWQ c f = ((Memref.whole cc0_scratch1 : Memref sig .tc .vmem S1024x1024 .f32).view.loc (c : Thread nD τ)
      ↦[(Memref.whole cc0_scratch1 : Memref sig .tc .vmem S1024x1024 .f32).view.set]{fullShare} f : sProp 𝕄) := by
    intro f
    rw [show (Memref.whole cc0_scratch1 : Memref sig .tc .vmem S1024x1024 .f32).view.set = Finset.univ from View.set_whole _]
    rfl
  unfold flWQ
  rw [e₁]
  simp only [e₂]
  iintro Hs ⟨%f, Hd⟩ Hv Hk
  iapply (copy_in (c := c) (src := (Memref.whole main_arg1 : Memref sig .tc .hbm S1024x4096 .f32).slice (Rect.unit (s := S1024x4096) (k0_off1 c) S1024x1024.size (k0_off1_inb c)) (fun _ => rfl))
    (dst := (Memref.whole cc0_scratch1 : Memref sig .tc .vmem S1024x1024 .f32)) (by show 0 < S1024x1024.numel; decide) (fs := I.wq) (fd := f) (WQ I c) ?_) $$ Hs Hd Hv
  · intro i
    refine (View.write_emb_of_mem (Val := Elt F) _ _ (Finset.mem_univ i)).trans ?_
    exact congrArg I.wq (wq_emb c i)
  · iexact Hk

/-- What the output projection and the query projection read of their operands. -/
def aWO (h : S4096x1024.Idx → Elt F .f32) : sProp 𝕄 :=
  ((c : Thread nD τ).loc main_arg4) ↦[(Rect.unit (s := S4096x1024) (k0_off2 c) S1024x1024.size (k0_off2_inb c)).set]{fullShare} h
def sWO (g : S1024x1024.Idx → Elt F .f32) : sProp 𝕄 := ((c : Thread nD τ).loc cc0_scratch2) ↦{fullShare} g
def flWO : sProp 𝕄 :=
  Transfers.Flight (countersEmb : UEmb Counters 𝕄) (c : Thread nD τ) (.dma (smW 1)) ()
    (Memref.whole cc0_scratch2 : Memref sig .tc .vmem S1024x1024 .f32).view.dmaCredit
    iprop(sWO c (WO I c) ∗ aWO c I.wo)

theorem off2_eq : k0_off2 c = ![1024 * c.val, 0] := by revert c; decide +kernel

theorem wo_emb (i : S1024x1024.Idx) :
    (Rect.unit (s := S4096x1024) (k0_off2 c) S1024x1024.size (k0_off2_inb c)).emb i = ix2 ⟨1024 * c.val + (i 0).val, by have : (i 0).val < 1024 := idx2_lt0 i; have : c.val < 4 := c.isLt; show _ < 4096; omega⟩ (i 1) := by
  have h0 : k0_off2 c 0 = 1024 * c.val := congrFun (off2_eq c) 0
  have h1 : k0_off2 c 1 = 0 := congrFun (off2_eq c) 1
  refine idx2_ext ((unit_emb_val (s := S4096x1024) _ _ (k0_off2_inb c) i 0).trans ?_) ((unit_emb_val (s := S4096x1024) _ _ (k0_off2_inb c) i 1).trans ?_)
  · rw [h0]
  · rw [h1]; exact Nat.zero_add _

theorem copy_wo {q : DmaSem sig} (hq : q = smW 1) {hsrc hdst hsem} {k : PUnit → Prog (TpuEff nD τ sig (Elt F) Λ₀ .tc) α} :
    aWO c I.wo ⊢ iprop((∃ f, sWO c f) -∗ semVal ((c : Thread nD τ), .dma (smW 1)) 0
        -∗ (flWO I c -∗ wp frame (wpE (defs₀ (F := F)) Variants.none (c : Thread nD τ) none) Set.univ (k ⟨⟩) Q)
        -∗ wp frame (wpE (defs₀ (F := F)) Variants.none (c : Thread nD τ) none) Set.univ
          (.op (.enqueueDma ((Memref.whole main_arg4 : Memref sig .tc .hbm S4096x1024 .f32).slice (Rect.unit (s := S4096x1024) (k0_off2 c) S1024x1024.size (k0_off2_inb c)) (fun _ => rfl))
            (.here (Memref.whole cc0_scratch2 : Memref sig .tc .vmem S1024x1024 .f32)) (.dma q) hsrc hdst hsem) k) Q) := by
  subst hq
  have e₁ : aWO c I.wo = (((Memref.whole main_arg4 : Memref sig .tc .hbm S4096x1024 .f32).slice (Rect.unit (s := S4096x1024) (k0_off2 c) S1024x1024.size (k0_off2_inb c)) (fun _ => rfl)).view.loc (c : Thread nD τ)
      ↦[((Memref.whole main_arg4 : Memref sig .tc .hbm S4096x1024 .f32).slice (Rect.unit (s := S4096x1024) (k0_off2 c) S1024x1024.size (k0_off2_inb c)) (fun _ => rfl)).view.set]{fullShare} I.wo : sProp 𝕄) := by
    rw [show ((Memref.whole main_arg4 : Memref sig .tc .hbm S4096x1024 .f32).slice (Rect.unit (s := S4096x1024) (k0_off2 c) S1024x1024.size (k0_off2_inb c)) (fun _ => rfl)).view.set
      = (Rect.unit (s := S4096x1024) (k0_off2 c) S1024x1024.size (k0_off2_inb c)).set from View.set_slice_whole main_arg4 _]
    rfl
  have e₂ : ∀ f, sWO c f = ((Memref.whole cc0_scratch2 : Memref sig .tc .vmem S1024x1024 .f32).view.loc (c : Thread nD τ)
      ↦[(Memref.whole cc0_scratch2 : Memref sig .tc .vmem S1024x1024 .f32).view.set]{fullShare} f : sProp 𝕄) := by
    intro f
    rw [show (Memref.whole cc0_scratch2 : Memref sig .tc .vmem S1024x1024 .f32).view.set = Finset.univ from View.set_whole _]
    rfl
  unfold flWO
  rw [e₁]
  simp only [e₂]
  iintro Hs ⟨%f, Hd⟩ Hv Hk
  iapply (copy_in (c := c) (src := (Memref.whole main_arg4 : Memref sig .tc .hbm S4096x1024 .f32).slice (Rect.unit (s := S4096x1024) (k0_off2 c) S1024x1024.size (k0_off2_inb c)) (fun _ => rfl))
    (dst := (Memref.whole cc0_scratch2 : Memref sig .tc .vmem S1024x1024 .f32)) (by show 0 < S1024x1024.numel; decide) (fs := I.wo) (fd := f) (WO I c) ?_) $$ Hs Hd Hv
  · intro i
    refine (View.write_emb_of_mem (Val := Elt F) _ _ (Finset.mem_univ i)).trans ?_
    exact congrArg I.wo (wo_emb c i)
  · iexact Hk

def aX (h : S1x2048x1024.Idx → Elt F .f32) : sProp 𝕄 := ((c : Thread nD τ).loc main_arg0) ↦{fullShare} h
def sX (g : OBuf F) : sProp 𝕄 := ((c : Thread nD τ).loc cc0_scratch0) ↦{fullShare} g
def flX : sProp 𝕄 :=
  Transfers.Flight (countersEmb : UEmb Counters 𝕄) (c : Thread nD τ) (.dma (smW 2)) ()
    (Memref.whole cc0_scratch0 : Memref sig .tc .vmem S2048x1024 .f32).view.dmaCredit iprop(sX c (XG I) ∗ aX c I.x)

theorem squeeze_x (i : S2048x1024.Idx) :
    Shape.reshapeEquiv squeezes_S1x2048x1024_S2048x1024.numel_eq i = (ix3 z1 (i 0) (i 1) : S1x2048x1024.Idx) := by
  refine Shape.reshapeEquiv_eq_of_rowMajor _ ?_
  rw [Shape.rowMajor_val_three, Shape.rowMajor_val_two]
  show (0 * 2048 + (i 0).val) * 1024 + (i 1).val = (i 0).val * 1024 + (i 1).val
  omega

theorem copy_x {q : DmaSem sig} (hq : q = smW 2) {hsrc hdst hsem} {k : PUnit → Prog (TpuEff nD τ sig (Elt F) Λ₀ .tc) α} :
    aX c I.x ⊢ iprop((∃ f, sX c f) -∗ semVal ((c : Thread nD τ), .dma (smW 2)) 0
        -∗ (flX I c -∗ wp frame (wpE (defs₀ (F := F)) Variants.none (c : Thread nD τ) none) Set.univ (k ⟨⟩) Q)
        -∗ wp frame (wpE (defs₀ (F := F)) Variants.none (c : Thread nD τ) none) Set.univ
          (.op (.enqueueDma (((Memref.whole main_arg0 : Memref sig .tc .hbm S1x2048x1024 .f32).slice (Rect.unit (s := S1x2048x1024) ![0, 0, 0] S1x2048x1024.size inb_S1x2048x1024_S1x2048x1024_0_0_0) (fun _ => rfl)).squeeze S2048x1024 squeezes_S1x2048x1024_S2048x1024)
            (.here (Memref.whole cc0_scratch0 : Memref sig .tc .vmem S2048x1024 .f32)) (.dma q) hsrc hdst hsem) k) Q) := by
  subst hq
  have e₁ : aX c I.x = ((((Memref.whole main_arg0 : Memref sig .tc .hbm S1x2048x1024 .f32).slice (Rect.unit (s := S1x2048x1024) ![0, 0, 0] S1x2048x1024.size inb_S1x2048x1024_S1x2048x1024_0_0_0) (fun _ => rfl)).squeeze S2048x1024 squeezes_S1x2048x1024_S2048x1024).view.loc (c : Thread nD τ)
      ↦[(((Memref.whole main_arg0 : Memref sig .tc .hbm S1x2048x1024 .f32).slice (Rect.unit (s := S1x2048x1024) ![0, 0, 0] S1x2048x1024.size inb_S1x2048x1024_S1x2048x1024_0_0_0) (fun _ => rfl)).squeeze S2048x1024 squeezes_S1x2048x1024_S2048x1024).view.set]{fullShare} I.x : sProp 𝕄) := by
    rw [show (((Memref.whole main_arg0 : Memref sig .tc .hbm S1x2048x1024 .f32).slice (Rect.unit (s := S1x2048x1024) ![0, 0, 0] S1x2048x1024.size inb_S1x2048x1024_S1x2048x1024_0_0_0) (fun _ => rfl)).squeeze S2048x1024 squeezes_S1x2048x1024_S2048x1024).view.set = Finset.univ from
      (View.set_reshape _ _).trans ((View.set_slice_whole main_arg0 _).trans (by
        ext i; rw [Rect.mem_set_unit]
        refine ⟨fun _ => Finset.mem_univ _, fun _ a => ⟨?_, ?_⟩⟩
        · match a with | ⟨0, _⟩ => exact Nat.zero_le _ | ⟨1, _⟩ => exact Nat.zero_le _ | ⟨2, _⟩ => exact Nat.zero_le _
        · match a with
          | ⟨0, _⟩ => exact lt_of_lt_of_eq (i 0).isLt (Nat.zero_add _).symm
          | ⟨1, _⟩ => exact lt_of_lt_of_eq (i 1).isLt (Nat.zero_add _).symm
          | ⟨2, _⟩ => exact lt_of_lt_of_eq (i 2).isLt (Nat.zero_add _).symm))]
    rfl
  have e₂ : ∀ f, sX c f = ((Memref.whole cc0_scratch0 : Memref sig .tc .vmem S2048x1024 .f32).view.loc (c : Thread nD τ)
      ↦[(Memref.whole cc0_scratch0 : Memref sig .tc .vmem S2048x1024 .f32).view.set]{fullShare} f : sProp 𝕄) := by
    intro f
    rw [show (Memref.whole cc0_scratch0 : Memref sig .tc .vmem S2048x1024 .f32).view.set = Finset.univ from View.set_whole _]
    rfl
  unfold flX
  rw [e₁]
  simp only [e₂]
  iintro Hs ⟨%f, Hd⟩ Hv Hk
  iapply (copy_in (c := c) (src := ((Memref.whole main_arg0 : Memref sig .tc .hbm S1x2048x1024 .f32).slice (Rect.unit (s := S1x2048x1024) ![0, 0, 0] S1x2048x1024.size inb_S1x2048x1024_S1x2048x1024_0_0_0) (fun _ => rfl)).squeeze S2048x1024 squeezes_S1x2048x1024_S2048x1024)
    (dst := (Memref.whole cc0_scratch0 : Memref sig .tc .vmem S2048x1024 .f32)) (by decide) (fs := I.x) (fd := f) (XG I) ?_) $$ Hs Hd Hv
  · intro i
    refine (View.write_emb_of_mem (Val := Elt F) _ _ (Finset.mem_univ i)).trans ?_
    refine congrArg I.x ?_
    show (Rect.unit (s := S1x2048x1024) ![0, 0, 0] S1x2048x1024.size inb_S1x2048x1024_S1x2048x1024_0_0_0).emb (Shape.reshapeEquiv squeezes_S1x2048x1024_S2048x1024.numel_eq i) = _
    rw [squeeze_x]
    exact idx3_ext ((unit_emb_val (s := S1x2048x1024) _ _ inb_S1x2048x1024_S1x2048x1024_0_0_0 _ 0).trans rfl) ((unit_emb_val (s := S1x2048x1024) _ _ inb_S1x2048x1024_S1x2048x1024_0_0_0 _ 1).trans (Nat.zero_add _))
      ((unit_emb_val (s := S1x2048x1024) _ _ inb_S1x2048x1024_S1x2048x1024_0_0_0 _ 2).trans (Nat.zero_add _))
  · iexact Hk
end Copy

end Cert.KernelIdealProof

end
-- ==== Proof.KernelIdeal.Sends.lean ====
/-
The kernel's sends, and its loads from local memory, as rules over whole-buffer contents.
-/
module

public import proofs.«01_k».proof.Proof.KernelIdeal.Copy

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (PB : Dev nD → OBuf F) (K : Dev nD × Ck → ℕ) {c : Dev nD} {α : Type} {Q : α → sProp (MT nD τ sig Unit (Elt F) ℕ UU ℕ)}

/-! ## Sends -/

theorem rowIx_ix3 (b : Bool) (d : Dev nD) (s : Fin 3) (i : S256x1024.Idx) : rowIx b d (ix3 s (i 0) (i 1)) = ixO (row0 b d) i := by
  have h0 : (i 0).val < 256 := idx2_lt0 i
  have h := row0_le b d
  refine idx2_ext ?_ rfl
  show row0 b d + (i 0).val = (row0 b d + (i 0).val) % 2048
  omega

theorem squeeze_slot (i : S256x1024.Idx) : Shape.reshapeEquiv squeezes_S1x256x1024_S256x1024.numel_eq i = (ix3 z1 (i 0) (i 1) : S1x256x1024.Idx) := by
  refine Shape.reshapeEquiv_eq_of_rowMajor _ ?_
  rw [Shape.rowMajor_val_three, Shape.rowMajor_val_two]
  show (0 * 256 + (i 0).val) * 1024 + (i 1).val = (i 0).val * 1024 + (i 1).val
  omega

theorem out_pts {n o : ℕ} {off : Fin 2 → ℕ} (hoff : off = ![o, 0]) (inb : ∀ a, off a + (⟨2, ![n, 1024]⟩ : Shape).size a ≤ S2048x1024.size a) (d : Dev nD) (g : OBuf F) :
    outP d o n g = ((oM.slice (Rect.unit (s := S2048x1024) off (⟨2, ![n, 1024]⟩ : Shape).size inb) (fun _ => rfl)).view.loc (d : Thread nD τ)
      ↦[(oM.slice (Rect.unit (s := S2048x1024) off (⟨2, ![n, 1024]⟩ : Shape).size inb) (fun _ => rfl)).view.set]{fullShare} g : sProp 𝕄) := by
  rw [show (oM.slice (Rect.unit (s := S2048x1024) off (⟨2, ![n, 1024]⟩ : Shape).size inb) (fun _ => rfl)).view.set = rows o n from
    (View.set_slice_whole cc0_stg0_0 _).trans (set_rows hoff inb)]
  rfl

theorem cw_pts {s : ℕ} {offd : Fin 3 → ℕ} (hoff : offd = ![s, 0, 0]) (inbd : ∀ a, offd a + S1x256x1024.size a ≤ S3x256x1024.size a) (d : Dev nD) (g : SBuf F) :
    slotP false d s g = (((cwM.slice (Rect.unit (s := S3x256x1024) offd S1x256x1024.size inbd) (fun _ => rfl)).squeeze S256x1024 squeezes_S1x256x1024_S256x1024).view.loc (d : Thread nD τ)
      ↦[((cwM.slice (Rect.unit (s := S3x256x1024) offd S1x256x1024.size inbd) (fun _ => rfl)).squeeze S256x1024 squeezes_S1x256x1024_S256x1024).view.set]{fullShare} g : sProp 𝕄) := by
  rw [show ((cwM.slice (Rect.unit (s := S3x256x1024) offd S1x256x1024.size inbd) (fun _ => rfl)).squeeze S256x1024 squeezes_S1x256x1024_S256x1024).view.set = slot s from
    (View.set_reshape _ _).trans ((View.set_slice_whole cc0_scratch5 _).trans (set_slot hoff inbd))]
  rfl

theorem send_cw {n : Dev nD} (j : ℕ) (hd : dirAt j = false) {s : ℕ} (hs : (stepOf j).val = s) (hs3 : s < 3)
    {off : Fin 2 → ℕ} (hoff : off = ![row0 false (back false s c), 0]) {inb : ∀ a, off a + S256x1024.size a ≤ S2048x1024.size a}
    {offd : Fin 3 → ℕ} (hoffd : offd = ![s, 0, 0]) {inbd : ∀ a, offd a + S1x256x1024.size a ≤ S3x256x1024.size a}
    (hn : n = fwd false c) {q q' : DmaSem sig} (hq : q = sm false false (stepOf j)) (hq' : q' = sm false true (stepOf j))
    {a : ℕ} (hab : a ≤ j) (hb : j < 18) {X : sProp 𝕄} (hX : X ⊢ extra false (stepOf j) c)
    {hsc hsrc hdst hsem} {k : PUnit → Prog (TpuEff nD τ sig (Elt F) Λ₀ .tc) α} :
    env PB K ⊢ iprop(SS c a j -∗ ow c (owed c (17 - j + 1)) -∗ outP c (row0 false (back false s c)) 256 (acc PB false s c)
      -∗ (∃ g, slotP false n s g) -∗ X
      -∗ ((SS c a (j + 1) ∗ ow c (owed c (17 - j))) -∗ wp frame (wpE (defs₀ (F := F)) Variants.none (c : Thread nD τ) none) Set.univ (k ⟨⟩) Q)
      -∗ wp frame (wpE (defs₀ (F := F)) Variants.none (c : Thread nD τ) none) Set.univ
          (.op (.enqueueDma (oM.slice (Rect.unit (s := S2048x1024) off S256x1024.size inb) (fun _ => rfl))
            (.remote (Dev.tc n : Thread nD τ) ((cwM.slice (Rect.unit (s := S3x256x1024) offd S1x256x1024.size inbd) (fun _ => rfl)).squeeze S256x1024 squeezes_S1x256x1024_S256x1024) (.dma q) hsc) (.dma q') hsrc hdst hsem) k) Q) := by
  subst hs
  rw [out_pts hoff inb]
  simp only [cw_pts hoffd inbd]
  iintro #HE HS Ho Hs ⟨%fd, Hd⟩ HX Hk
  iapply (send_any PB K j (X := X) (n := n) (src := oM.slice (Rect.unit (s := S2048x1024) off S256x1024.size inb) (fun _ => rfl))
    (dst := ((cwM.slice (Rect.unit (s := S3x256x1024) offd S1x256x1024.size inbd) (fun _ => rfl)).squeeze S256x1024 squeezes_S1x256x1024_S256x1024))
    (fs := acc PB false (stepOf j).val c) (fd := fd) (by rw [hd]; exact hn) (by rw [hd]; exact hq) (by rw [hd]; exact hq')
    (by unfold Nof; rw [if_pos hs3]; rfl) hab hb ?_ ?_) $$ HE HS Ho Hs Hd HX Hk
  · rw [hd]; unfold sPay; rw [if_pos hs3, out_pts hoff inb]
  · rw [hd]; unfold rPay; rw [if_pos hs3, cw_pts hoffd inbd, hn, bwd_fwd]
    refine BI.sep_mono (P := _) (Entails.of_eq (pointsTo_congr fun i hi => ?_)) hX
    obtain ⟨i, -, rfl⟩ := Finset.mem_map.mp hi
    refine (View.write_emb_of_mem (Val := Elt F) _ _ (Finset.mem_univ i)).trans ?_
    show acc PB false (stepOf j).val c ((Rect.unit (s := S2048x1024) off S256x1024.size inb).emb i)
      = slotV PB false (stepOf j).val c ((Rect.unit (s := S3x256x1024) offd S1x256x1024.size inbd).emb (Shape.reshapeEquiv squeezes_S1x256x1024_S256x1024.numel_eq i))
    rw [squeeze_slot, emb_slot hoffd inbd, emb_rows (n := 256) hoff inb]
    exact congrArg (acc PB false (stepOf j).val c) (rowIx_ix3 _ _ _ _).symm

theorem ccw_pts {s : ℕ} {offd : Fin 3 → ℕ} (hoff : offd = ![s, 0, 0]) (inbd : ∀ a, offd a + S1x256x1024.size a ≤ S3x256x1024.size a) (d : Dev nD) (g : SBuf F) :
    slotP true d s g = (((ccwM.slice (Rect.unit (s := S3x256x1024) offd S1x256x1024.size inbd) (fun _ => rfl)).squeeze S256x1024 squeezes_S1x256x1024_S256x1024).view.loc (d : Thread nD τ)
      ↦[((ccwM.slice (Rect.unit (s := S3x256x1024) offd S1x256x1024.size inbd) (fun _ => rfl)).squeeze S256x1024 squeezes_S1x256x1024_S256x1024).view.set]{fullShare} g : sProp 𝕄) := by
  rw [show ((ccwM.slice (Rect.unit (s := S3x256x1024) offd S1x256x1024.size inbd) (fun _ => rfl)).squeeze S256x1024 squeezes_S1x256x1024_S256x1024).view.set = slot s from
    (View.set_reshape _ _).trans ((View.set_slice_whole cc0_scratch6 _).trans (set_slot hoff inbd))]
  rfl

theorem send_ccw {n : Dev nD} (j : ℕ) (hd : dirAt j = true) {s : ℕ} (hs : (stepOf j).val = s) (hs3 : s < 3)
    {off : Fin 2 → ℕ} (hoff : off = ![row0 true (back true s c), 0]) {inb : ∀ a, off a + S256x1024.size a ≤ S2048x1024.size a}
    {offd : Fin 3 → ℕ} (hoffd : offd = ![s, 0, 0]) {inbd : ∀ a, offd a + S1x256x1024.size a ≤ S3x256x1024.size a}
    (hn : n = fwd true c) {q q' : DmaSem sig} (hq : q = sm true false (stepOf j)) (hq' : q' = sm true true (stepOf j))
    {a : ℕ} (hab : a ≤ j) (hb : j < 18) {X : sProp 𝕄} (hX : X ⊢ extra true (stepOf j) c)
    {hsc hsrc hdst hsem} {k : PUnit → Prog (TpuEff nD τ sig (Elt F) Λ₀ .tc) α} :
    env PB K ⊢ iprop(SS c a j -∗ ow c (owed c (17 - j + 1)) -∗ outP c (row0 true (back true s c)) 256 (acc PB true s c)
      -∗ (∃ g, slotP true n s g) -∗ X
      -∗ ((SS c a (j + 1) ∗ ow c (owed c (17 - j))) -∗ wp frame (wpE (defs₀ (F := F)) Variants.none (c : Thread nD τ) none) Set.univ (k ⟨⟩) Q)
      -∗ wp frame (wpE (defs₀ (F := F)) Variants.none (c : Thread nD τ) none) Set.univ
          (.op (.enqueueDma (oM.slice (Rect.unit (s := S2048x1024) off S256x1024.size inb) (fun _ => rfl))
            (.remote (Dev.tc n : Thread nD τ) ((ccwM.slice (Rect.unit (s := S3x256x1024) offd S1x256x1024.size inbd) (fun _ => rfl)).squeeze S256x1024 squeezes_S1x256x1024_S256x1024) (.dma q) hsc) (.dma q') hsrc hdst hsem) k) Q) := by
  subst hs
  rw [out_pts hoff inb]
  simp only [ccw_pts hoffd inbd]
  iintro #HE HS Ho Hs ⟨%fd, Hd⟩ HX Hk
  iapply (send_any PB K j (X := X) (n := n) (src := oM.slice (Rect.unit (s := S2048x1024) off S256x1024.size inb) (fun _ => rfl))
    (dst := ((ccwM.slice (Rect.unit (s := S3x256x1024) offd S1x256x1024.size inbd) (fun _ => rfl)).squeeze S256x1024 squeezes_S1x256x1024_S256x1024))
    (fs := acc PB true (stepOf j).val c) (fd := fd) (by rw [hd]; exact hn) (by rw [hd]; exact hq) (by rw [hd]; exact hq')
    (by unfold Nof; rw [if_pos hs3]; rfl) hab hb ?_ ?_) $$ HE HS Ho Hs Hd HX Hk
  · rw [hd]; unfold sPay; rw [if_pos hs3, out_pts hoff inb]
  · rw [hd]; unfold rPay; rw [if_pos hs3, ccw_pts hoffd inbd, hn, bwd_fwd]
    refine BI.sep_mono (P := _) (Entails.of_eq (pointsTo_congr fun i hi => ?_)) hX
    obtain ⟨i, -, rfl⟩ := Finset.mem_map.mp hi
    refine (View.write_emb_of_mem (Val := Elt F) _ _ (Finset.mem_univ i)).trans ?_
    show acc PB true (stepOf j).val c ((Rect.unit (s := S2048x1024) off S256x1024.size inb).emb i)
      = slotV PB true (stepOf j).val c ((Rect.unit (s := S3x256x1024) offd S1x256x1024.size inbd).emb (Shape.reshapeEquiv squeezes_S1x256x1024_S256x1024.numel_eq i))
    rw [squeeze_slot, emb_slot hoffd inbd, emb_rows (n := 256) hoff inb]
    exact congrArg (acc PB true (stepOf j).val c) (rowIx_ix3 _ _ _ _).symm

theorem send_ag {n : Dev nD} (b : Bool) (j : ℕ) (hd : dirAt j = b) {t : ℕ} (hs : (stepOf j).val = 3 + t)
    {off : Fin 2 → ℕ} (hoff : off = ![half0 b t (fwd b c), 0]) {inb inb' : ∀ a, off a + S128x1024.size a ≤ S2048x1024.size a}
    (hn : n = fwd b c) {q q' : DmaSem sig} (hq : q = sm b false (stepOf j)) (hq' : q' = sm b true (stepOf j))
    {a : ℕ} (hab : a ≤ j) (hb : j < 18) {X : sProp 𝕄} (hX : X ⊢ extra b (stepOf j) c)
    {hsc hsrc hdst hsem} {k : PUnit → Prog (TpuEff nD τ sig (Elt F) Λ₀ .tc) α} :
    env PB K ⊢ iprop(SS c a j -∗ ow c (owed c (17 - j + 1)) -∗ outP c (half0 b t (fwd b c)) 128 (fin PB)
      -∗ (∃ g, outP n (half0 b t (fwd b c)) 128 g) -∗ X
      -∗ ((SS c a (j + 1) ∗ ow c (owed c (17 - j))) -∗ wp frame (wpE (defs₀ (F := F)) Variants.none (c : Thread nD τ) none) Set.univ (k ⟨⟩) Q)
      -∗ wp frame (wpE (defs₀ (F := F)) Variants.none (c : Thread nD τ) none) Set.univ
          (.op (.enqueueDma (oM.slice (Rect.unit (s := S2048x1024) off S128x1024.size inb) (fun _ => rfl))
            (.remote (Dev.tc n : Thread nD τ) (oM.slice (Rect.unit (s := S2048x1024) off S128x1024.size inb') (fun _ => rfl)) (.dma q) hsc) (.dma q') hsrc hdst hsem) k) Q) := by
  have ht : (stepOf j).val - 3 = t := by omega
  have h3 : ¬ (stepOf j).val < 3 := by omega
  rw [show outP c (half0 b t (fwd b c)) 128 (fin PB) = _ from out_pts (n := 128) hoff inb c (fin PB)]
  iintro #HE HS Ho Hs ⟨%fd, Hd⟩ HX Hk
  ihave Hd := (Entails.of_eq (out_pts (n := 128) hoff inb' n fd)) $$ Hd
  iapply (send_any PB K j (X := X) (n := n) (src := oM.slice (Rect.unit (s := S2048x1024) off S128x1024.size inb) (fun _ => rfl))
    (dst := oM.slice (Rect.unit (s := S2048x1024) off S128x1024.size inb') (fun _ => rfl)) (fs := fin PB) (fd := fd) (by rw [hd]; exact hn) (by rw [hd]; exact hq) (by rw [hd]; exact hq')
    (by unfold Nof; rw [if_neg h3]; rfl) hab hb ?_ ?_) $$ HE HS Ho Hs Hd HX Hk
  · rw [hd]; unfold sPay; rw [if_neg h3, ht, out_pts (n := 128) hoff inb]
  · rw [hd]; unfold rPay; rw [if_neg h3, ht, hn, bwd_fwd]
    rw [out_pts (n := 128) hoff inb' (fwd b c) (fin PB)]
    refine BI.sep_mono (P := _) (Entails.of_eq (pointsTo_congr fun i hi => ?_)) hX
    obtain ⟨i, -, rfl⟩ := Finset.mem_map.mp hi
    exact View.write_emb_of_mem (Val := Elt F) _ _ (Finset.mem_univ i)

/-! ## Loads -/

theorem ld_of {cs : CoreSpace} {s : Shape} {e : EltTy} {m : Memref sig .tc cs s e} {r : LoadRect s} {hl : m.view.LoadsAt r}
    {k : (r.shape.Idx → Elt F e) → Prog (TpuEff nD τ sig (Elt F) Λ₀ .tc) α} (S : Finset (Idx (m.view.loc (c : Thread nD τ)))) (f : Buf (Elt F) (m.view.loc (c : Thread nD τ)))
    {P : sProp 𝕄} (hP : P = (m.view.loc (c : Thread nD τ) ↦[S]{fullShare} f)) (hS : m.view.setOn r.set ⊆ S) {w : r.shape.Idx → Elt F e} (hw : m.view.readAt (Elt F) r f = w) :
    P ⊢ iprop((P -∗ wp frame (wpE (defs₀ (F := F)) Variants.none (c : Thread nD τ) none) Set.univ (k w) Q)
      -∗ wp frame (wpE (defs₀ (F := F)) Variants.none (c : Thread nD τ) none) Set.univ (.op (.load m r hl) k) Q) := by
  subst hw hP
  exact wp_load Variants.none (c : Thread nD τ) none Set.univ hS

theorem ld_x {off : Fin 2 → ℕ} {inb : ∀ a, off a + S256x1024.size a ≤ S2048x1024.size a} {hl}
    {k : Vec F S256x1024 .f32 → Prog (TpuEff nD τ sig (Elt F) Λ₀ .tc) α} (o : ℕ) (hoff : off = ![o, 0]) {g : OBuf F} :
    sX c g ⊢ iprop((sX c g -∗ wp frame (wpE (defs₀ (F := F)) Variants.none (c : Thread nD τ) none) Set.univ (k (rdO o g)) Q)
      -∗ wp frame (wpE (defs₀ (F := F)) Variants.none (c : Thread nD τ) none) Set.univ
          (.op (.load (Memref.whole cc0_scratch0 : Memref sig .tc .vmem S2048x1024 .f32) (Rect.unit (s := S2048x1024) off S256x1024.size inb).toLoadRect hl) k) Q) := by
  have e : ((Memref.whole cc0_scratch0 : Memref sig .tc .vmem S2048x1024 .f32)).view.readAt (Elt F) (Rect.unit (s := S2048x1024) off S256x1024.size inb).toLoadRect g = rdO o g :=
    funext fun j => congrArg g (emb_rows (n := 256) hoff inb j)
  exact ld_of (c := c) (m := (Memref.whole cc0_scratch0 : Memref sig .tc .vmem S2048x1024 .f32)) (P := sX c g) Finset.univ g rfl (Finset.subset_univ _) e

def wK (c : Dev nD) (g : OBuf F) : sProp 𝕄 := ((c : Thread nD τ).loc cc0_scratch3) ↦{fullShare} g

theorem ld_k {off : Fin 2 → ℕ} {inb : ∀ a, off a + S512x128.size a ≤ S2048x1024.size a} {hl}
    {k : Vec F S512x128 .f32 → Prog (TpuEff nD τ sig (Elt F) Λ₀ .tc) α} (o h : ℕ) (hoff : off = ![o, 128 * h]) {g : OBuf F} :
    wK c g ⊢ iprop((wK c g -∗ wp frame (wpE (defs₀ (F := F)) Variants.none (c : Thread nD τ) none) Set.univ (k (rdK o h g)) Q)
      -∗ wp frame (wpE (defs₀ (F := F)) Variants.none (c : Thread nD τ) none) Set.univ
          (.op (.load (Memref.whole cc0_scratch3 : Memref sig .tc .vmem S2048x1024 .f32) (Rect.unit (s := S2048x1024) off S512x128.size inb).toLoadRect hl) k) Q) := by
  have e : ((Memref.whole cc0_scratch3 : Memref sig .tc .vmem S2048x1024 .f32)).view.readAt (Elt F) (Rect.unit (s := S2048x1024) off S512x128.size inb).toLoadRect g = rdK o h g :=
    funext fun j => congrArg g (emb_win hoff inb j)
  exact ld_of (c := c) (m := (Memref.whole cc0_scratch3 : Memref sig .tc .vmem S2048x1024 .f32)) (P := wK c g) Finset.univ g rfl (Finset.subset_univ _) e

theorem split_wK (c : Dev nD) (g : OBuf F) : wK c g = bigSep Finset.univ fun j => sK c j g := by
  unfold wK sK
  have h := pointsTo_biUnion (ℓ := (c : Thread nD τ).loc cc0_scratch3) (q := fullShare) (f := g) (Ix := Unit) (Name := ℕ) (U := UU) (Lvl := ℕ) Finset.univ cols cols_disjoint
  rw [cols_cover] at h
  exact h
theorem split_aK (c : Dev nD) (h : S1x2048x8x128.Idx → Elt F .f32) :
    (((c : Thread nD τ).loc main_arg2) ↦{fullShare} h : sProp 𝕄) = bigSep Finset.univ fun j => aK c j h := by
  unfold aK
  have e := pointsTo_biUnion (ℓ := (c : Thread nD τ).loc main_arg2) (q := fullShare) (f := h) (Ix := Unit) (Name := ℕ) (U := UU) (Lvl := ℕ) Finset.univ hd hd_disjoint
  rw [hd_cover] at e
  exact e

def wV (c : Dev nD) (g : OBuf F) : sProp 𝕄 := ((c : Thread nD τ).loc cc0_scratch4) ↦{fullShare} g

theorem ld_v {off : Fin 2 → ℕ} {inb : ∀ a, off a + S512x128.size a ≤ S2048x1024.size a} {hl}
    {k : Vec F S512x128 .f32 → Prog (TpuEff nD τ sig (Elt F) Λ₀ .tc) α} (o h : ℕ) (hoff : off = ![o, 128 * h]) {g : OBuf F} :
    wV c g ⊢ iprop((wV c g -∗ wp frame (wpE (defs₀ (F := F)) Variants.none (c : Thread nD τ) none) Set.univ (k (rdK o h g)) Q)
      -∗ wp frame (wpE (defs₀ (F := F)) Variants.none (c : Thread nD τ) none) Set.univ
          (.op (.load (Memref.whole cc0_scratch4 : Memref sig .tc .vmem S2048x1024 .f32) (Rect.unit (s := S2048x1024) off S512x128.size inb).toLoadRect hl) k) Q) := by
  have e : ((Memref.whole cc0_scratch4 : Memref sig .tc .vmem S2048x1024 .f32)).view.readAt (Elt F) (Rect.unit (s := S2048x1024) off S512x128.size inb).toLoadRect g = rdK o h g :=
    funext fun j => congrArg g (emb_win hoff inb j)
  exact ld_of (c := c) (m := (Memref.whole cc0_scratch4 : Memref sig .tc .vmem S2048x1024 .f32)) (P := wV c g) Finset.univ g rfl (Finset.subset_univ _) e

theorem split_wV (c : Dev nD) (g : OBuf F) : wV c g = bigSep Finset.univ fun j => sV c j g := by
  unfold wV sV
  have h := pointsTo_biUnion (ℓ := (c : Thread nD τ).loc cc0_scratch4) (q := fullShare) (f := g) (Ix := Unit) (Name := ℕ) (U := UU) (Lvl := ℕ) Finset.univ cols cols_disjoint
  rw [cols_cover] at h
  exact h
theorem split_aV (c : Dev nD) (h : S1x2048x8x128.Idx → Elt F .f32) :
    (((c : Thread nD τ).loc main_arg3) ↦{fullShare} h : sProp 𝕄) = bigSep Finset.univ fun j => aV c j h := by
  unfold aV
  have e := pointsTo_biUnion (ℓ := (c : Thread nD τ).loc main_arg3) (q := fullShare) (f := h) (Ix := Unit) (Name := ℕ) (U := UU) (Lvl := ℕ) Finset.univ hd hd_disjoint
  rw [hd_cover] at e
  exact e

theorem ld_wq {inb : ∀ a, (![0, 0] : Fin 2 → ℕ) a + S1024x1024.size a ≤ S1024x1024.size a} {hl}
    {k : Vec F S1024x1024 .f32 → Prog (TpuEff nD τ sig (Elt F) Λ₀ .tc) α} {g : S1024x1024.Idx → Elt F .f32} :
    sWQ c g ⊢ iprop((sWQ c g -∗ wp frame (wpE (defs₀ (F := F)) Variants.none (c : Thread nD τ) none) Set.univ (k g) Q)
      -∗ wp frame (wpE (defs₀ (F := F)) Variants.none (c : Thread nD τ) none) Set.univ
          (.op (.load (Memref.whole cc0_scratch1 : Memref sig .tc .vmem S1024x1024 .f32) (Rect.unit (s := S1024x1024) ![0, 0] S1024x1024.size inb).toLoadRect hl) k) Q) := by
  have e : ((Memref.whole cc0_scratch1 : Memref sig .tc .vmem S1024x1024 .f32)).view.readAt (Elt F) (Rect.unit (s := S1024x1024) ![0, 0] S1024x1024.size inb).toLoadRect g = g :=
    funext fun j => congrArg g (idx2_ext ((unit_emb_val (s := S1024x1024) _ _ inb j 0).trans (Nat.zero_add _)) ((unit_emb_val (s := S1024x1024) _ _ inb j 1).trans (Nat.zero_add _)))
  exact ld_of (c := c) (m := (Memref.whole cc0_scratch1 : Memref sig .tc .vmem S1024x1024 .f32)) (P := sWQ c g) Finset.univ g rfl (Finset.subset_univ _) e

theorem ld_wo {inb : ∀ a, (![0, 0] : Fin 2 → ℕ) a + S1024x1024.size a ≤ S1024x1024.size a} {hl}
    {k : Vec F S1024x1024 .f32 → Prog (TpuEff nD τ sig (Elt F) Λ₀ .tc) α} {g : S1024x1024.Idx → Elt F .f32} :
    sWO c g ⊢ iprop((sWO c g -∗ wp frame (wpE (defs₀ (F := F)) Variants.none (c : Thread nD τ) none) Set.univ (k g) Q)
      -∗ wp frame (wpE (defs₀ (F := F)) Variants.none (c : Thread nD τ) none) Set.univ
          (.op (.load (Memref.whole cc0_scratch2 : Memref sig .tc .vmem S1024x1024 .f32) (Rect.unit (s := S1024x1024) ![0, 0] S1024x1024.size inb).toLoadRect hl) k) Q) := by
  have e : ((Memref.whole cc0_scratch2 : Memref sig .tc .vmem S1024x1024 .f32)).view.readAt (Elt F) (Rect.unit (s := S1024x1024) ![0, 0] S1024x1024.size inb).toLoadRect g = g :=
    funext fun j => congrArg g (idx2_ext ((unit_emb_val (s := S1024x1024) _ _ inb j 0).trans (Nat.zero_add _)) ((unit_emb_val (s := S1024x1024) _ _ inb j 1).trans (Nat.zero_add _)))
  exact ld_of (c := c) (m := (Memref.whole cc0_scratch2 : Memref sig .tc .vmem S1024x1024 .f32)) (P := sWO c g) Finset.univ g rfl (Finset.subset_univ _) e

theorem ld_cw {off : Fin 3 → ℕ} {inb : ∀ a, off a + S1x256x1024.size a ≤ S3x256x1024.size a} {hl}
    {k : Vec F S1x256x1024 .f32 → Prog (TpuEff nD τ sig (Elt F) Λ₀ .tc) α} (s : ℕ) (hoff : off = ![s, 0, 0]) {g : SBuf F} :
    slotP false c s g ⊢ iprop((slotP false c s g -∗ wp frame (wpE (defs₀ (F := F)) Variants.none (c : Thread nD τ) none) Set.univ (k (rdS s g)) Q)
      -∗ wp frame (wpE (defs₀ (F := F)) Variants.none (c : Thread nD τ) none) Set.univ
          (.op (.load cwM (Rect.unit (s := S3x256x1024) off S1x256x1024.size inb).toLoadRect hl) k) Q) := by
  have e : (cwM).view.readAt (Elt F) (Rect.unit (s := S3x256x1024) off S1x256x1024.size inb).toLoadRect g = rdS s g :=
    funext fun j => congrArg g (emb_slot hoff inb j)
  exact ld_of (c := c) (m := cwM) (P := slotP false c s g) (slot s) g rfl (by
      show ((View.whole cc0_scratch5).setOn (Rect.unit (s := S3x256x1024) off S1x256x1024.size inb).set) ⊆ _
      rw [set_slot hoff inb]
      exact fun i hi => by obtain ⟨j, hj, rfl⟩ := Finset.mem_map.mp hi; exact hj) e

theorem ld_ccw {off : Fin 3 → ℕ} {inb : ∀ a, off a + S1x256x1024.size a ≤ S3x256x1024.size a} {hl}
    {k : Vec F S1x256x1024 .f32 → Prog (TpuEff nD τ sig (Elt F) Λ₀ .tc) α} (s : ℕ) (hoff : off = ![s, 0, 0]) {g : SBuf F} :
    slotP true c s g ⊢ iprop((slotP true c s g -∗ wp frame (wpE (defs₀ (F := F)) Variants.none (c : Thread nD τ) none) Set.univ (k (rdS s g)) Q)
      -∗ wp frame (wpE (defs₀ (F := F)) Variants.none (c : Thread nD τ) none) Set.univ
          (.op (.load ccwM (Rect.unit (s := S3x256x1024) off S1x256x1024.size inb).toLoadRect hl) k) Q) := by
  have e : (ccwM).view.readAt (Elt F) (Rect.unit (s := S3x256x1024) off S1x256x1024.size inb).toLoadRect g = rdS s g :=
    funext fun j => congrArg g (emb_slot hoff inb j)
  exact ld_of (c := c) (m := ccwM) (P := slotP true c s g) (slot s) g rfl (by
      show ((View.whole cc0_scratch6).setOn (Rect.unit (s := S3x256x1024) off S1x256x1024.size inb).set) ⊆ _
      rw [set_slot hoff inb]
      exact fun i hi => by obtain ⟨j, hj, rfl⟩ := Finset.mem_map.mp hi; exact hj) e

end Cert.KernelIdealProof

end
-- ==== Proof.KernelIdeal.Chunk.lean ====
/-
One chunk of the output: 256 query rows against a 512-key window, 8 heads, through one device's
share of the weights. The eight places the kernel computes a chunk all store this value.
-/
module

public import proofs.«01_k».proof.Proof.KernelIdeal.Sends

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## The value -/

def scaleC : F .f32 := Named.named κ "scale" 0x3DB504F3#32
def maskC : F .f32 := Named.named κ "mask" 0xCE6E6B28#32

/-- Which (query row, window key) pairs are within 128 of each other, for the queries from row `w`. -/
def bandW (w : BitVec 32) : IVec S256x512 1 :=
  cmpi .sle
    (absi (subi (addi (iota .tc S256x512 32 [0] iota_S256x512_d0_w32) (broadcast S256x512 w))
      (addi (iota .tc S256x512 32 [1] iota_S256x512_d1_w32)
        (broadcast S256x512 (Scalar.minsi 1536#32 (Scalar.maxsi 0#32 (Scalar.subi w 128#32)))))))
    (broadcast S256x512 128#32)

/-- The scores of one head, masked. -/
def scoreG (b : IVec S256x512 1) (q : FVec F S256x128 .f32) (kh : Vec F S512x128 .f32) : FVec F S256x512 .f32 :=
  select b
    (mulf (matmul dot_S256x128_S512x128_S256x512_1_1_0_0_n_n none q kh (constant S256x512 .f32 0x00000000#32)) (broadcast S256x512 scaleC))
    (broadcast S256x512 maskC)
/-- The exponentials of the scores, each row less its maximum. -/
def expG (s : FVec F S256x512 .f32) : FVec F S256x512 .f32 :=
  exp (subf s (broadcastTo S256x512 (shapeCast S256x1 (multiReduction .maximumf [1] S256 s 0xFF800000#32 reduces_S256x512_S256 (.inl rfl) rfl)
    shapeCasts_S256_S256x1) broadcasts_S256x1_S256x512))
/-- Each row over its sum. -/
def normG (e : FVec F S256x512 .f32) : FVec F S256x512 .f32 :=
  divf e (broadcastTo S256x512 (shapeCast S256x1 (multiReduction .add [1] S256 e 0x00000000#32 reduces_S256x512_S256 (.inl rfl) rfl)
    shapeCasts_S256_S256x1) broadcasts_S256x1_S256x512)
/-- One head's output. -/
def headG (b : IVec S256x512 1) (q : FVec F S256x128 .f32) (kh vh : Vec F S512x128 .f32) : FVec F S256x128 .f32 :=
  matmul dot_S256x512_S512x128_S256x128_1_0_0_1_n_n none (normG (expG (scoreG b q kh))) vh (constant S256x128 .f32 0x00000000#32)

def projG (x : Vec F S256x1024 .f32) (wq : Vec F S1024x1024 .f32) : FVec F S256x1024 .f32 :=
  matmul dot_S256x1024_S1024x1024_S256x1024_1_0_0_1_n_n none x wq (constant S256x1024 .f32 0x00000000#32)

def chunkG (b : IVec S256x512 1) (x : Vec F S256x1024 .f32) (wq wo : Vec F S1024x1024 .f32) (k v : ℕ → Vec F S512x128 .f32) : FVec F S256x1024 .f32 :=
  matmul dot_S256x1024_S1024x1024_S256x1024_1_0_0_1_n_n none
    (concatenate S256x1024 1
      [⟨S256x128, headG b (extractStridedSlice S256x128 ![0, 0] (projG x wq) slices_S256x1024_o0_0_S256x128) (k 0) (v 0)⟩,
       ⟨S256x128, headG b (extractStridedSlice S256x128 ![0, 128] (projG x wq) slices_S256x1024_o0_128_S256x128) (k 1) (v 1)⟩,
       ⟨S256x128, headG b (extractStridedSlice S256x128 ![0, 256] (projG x wq) slices_S256x1024_o0_256_S256x128) (k 2) (v 2)⟩,
       ⟨S256x128, headG b (extractStridedSlice S256x128 ![0, 384] (projG x wq) slices_S256x1024_o0_384_S256x128) (k 3) (v 3)⟩,
       ⟨S256x128, headG b (extractStridedSlice S256x128 ![0, 512] (projG x wq) slices_S256x1024_o0_512_S256x128) (k 4) (v 4)⟩,
       ⟨S256x128, headG b (extractStridedSlice S256x128 ![0, 640] (projG x wq) slices_S256x1024_o0_640_S256x128) (k 5) (v 5)⟩,
       ⟨S256x128, headG b (extractStridedSlice S256x128 ![0, 768] (projG x wq) slices_S256x1024_o0_768_S256x128) (k 6) (v 6)⟩,
       ⟨S256x128, headG b (extractStridedSlice S256x128 ![0, 896] (projG x wq) slices_S256x1024_o0_896_S256x128) (k 7) (v 7)⟩]
      concatenates_S256x128_S256x128_S256x128_S256x128_S256x128_S256x128_S256x128_S256x128_S256x1024_d1)
    wo (constant S256x1024 .f32 0x00000000#32)

/-- The first key row of the window of the queries from row `o`. -/
def ks (o : ℕ) : ℕ := min 1536 (o - 128)

def chunkV (I : Ins F) (c : Dev nD) (o : ℕ) : FVec F S256x1024 .f32 :=
  chunkG (bandW (BitVec.ofNat 32 o)) (rdO o (XG I)) (WQ I c) (WO I c) (fun h => rdK (ks o) h (KG I)) (fun h => rdK (ks o) h (VG I))

/-- What device `c` adds to the output: its share of every chunk. -/
def part (I : Dev nD → Ins F) (c : Dev nD) : OBuf F := fun i =>
  chunkV (I c) c (256 * ((i 0).val / 256)) (ix2 ⟨(i 0).val % 256, Nat.mod_lt _ (by decide)⟩ (i 1))

theorem rdO_part (I : Dev nD → Ins F) (c : Dev nD) (b : Bool) (d : Dev nD) : rdO (row0 b d) (part I c) = chunkV (I c) c (row0 b d) := by
  funext j
  have hj : (j 0).val < 256 := idx2_lt0 j
  have he : row0 b d = 256 * (row0 b d / 256) := by revert b d; decide
  have hl := row0_le b d
  generalize row0 b d = o at *
  have hv : (ixO o j 0).val = o + (j 0).val := Nat.mod_eq_of_lt (by omega)
  show chunkV (I c) c (256 * ((ixO o j 0).val / 256)) _ = _
  rw [show 256 * ((ixO o j 0).val / 256) = o by omega]
  refine congrArg _ (idx2_ext ?_ rfl)
  show (ixO o j 0).val % 256 = (j 0).val
  omega

/-- A stored chunk is this value. -/
theorem chunk_eq (I : Dev nD → Ins F) (c : Dev nD) (b : Bool) (d : Dev nD) {w : BitVec 32} (hw : w = BitVec.ofNat 32 (row0 b d)) :
    chunkG (bandW w) (rdO (row0 b d) (XG (I c))) (WQ (I c) c) (WO (I c) c) (fun h => rdK (ks (row0 b d)) h (KG (I c))) (fun h => rdK (ks (row0 b d)) h (VG (I c)))
      = rdO (row0 b d) (part I c) := by
  rw [rdO_part, hw]; rfl

/-! ## The devices and offsets the kernel computes -/

theorem dev1_eq (c : Dev nD) : (⟨k0_dev1 c, k0_dev1_lt c⟩ : Dev nD) = bwd false c := by revert c; decide +kernel
theorem dev2_eq (c : Dev nD) : (⟨k0_dev2 c, k0_dev2_lt c⟩ : Dev nD) = bwd true c := by revert c; decide +kernel

/-- The destinations of the clockwise sends, -/
theorem dev_cw (c : Dev nD) :
    (⟨k0_dev3 c, k0_dev3_lt c⟩ : Dev nD) = fwd false c ∧ (⟨k0_dev5 c, k0_dev5_lt c⟩ : Dev nD) = fwd false c ∧ (⟨k0_dev7 c, k0_dev7_lt c⟩ : Dev nD) = fwd false c ∧
    (⟨k0_dev9 c, k0_dev9_lt c⟩ : Dev nD) = fwd false c ∧ (⟨k0_dev11 c, k0_dev11_lt c⟩ : Dev nD) = fwd false c ∧ (⟨k0_dev13 c, k0_dev13_lt c⟩ : Dev nD) = fwd false c ∧
    (⟨k0_dev15 c, k0_dev15_lt c⟩ : Dev nD) = fwd false c ∧ (⟨k0_dev17 c, k0_dev17_lt c⟩ : Dev nD) = fwd false c ∧ (⟨k0_dev19 c, k0_dev19_lt c⟩ : Dev nD) = fwd false c := by
  revert c; decide +kernel
/-- and of the counter-clockwise ones. -/
theorem dev_ccw (c : Dev nD) :
    (⟨k0_dev4 c, k0_dev4_lt c⟩ : Dev nD) = fwd true c ∧ (⟨k0_dev6 c, k0_dev6_lt c⟩ : Dev nD) = fwd true c ∧ (⟨k0_dev8 c, k0_dev8_lt c⟩ : Dev nD) = fwd true c ∧
    (⟨k0_dev10 c, k0_dev10_lt c⟩ : Dev nD) = fwd true c ∧ (⟨k0_dev12 c, k0_dev12_lt c⟩ : Dev nD) = fwd true c ∧ (⟨k0_dev14 c, k0_dev14_lt c⟩ : Dev nD) = fwd true c ∧
    (⟨k0_dev16 c, k0_dev16_lt c⟩ : Dev nD) = fwd true c ∧ (⟨k0_dev18 c, k0_dev18_lt c⟩ : Dev nD) = fwd true c ∧ (⟨k0_dev20 c, k0_dev20_lt c⟩ : Dev nD) = fwd true c := by
  revert c; decide +kernel

/-- The first clockwise chunk: its rows, and its key windows, -/
theorem rows_a (c : Dev nD) : k0_off3 c = ![row0 false c, 0] ∧ k0_off12 c = ![row0 false c, 0] := by revert c; decide +kernel
theorem wins_a (c : Dev nD) :
    k0_off4 c = ![ks (row0 false c), 128 * 0] ∧ k0_off5 c = ![ks (row0 false c), 128 * 1] ∧ k0_off6 c = ![ks (row0 false c), 128 * 2] ∧
    k0_off7 c = ![ks (row0 false c), 128 * 3] ∧ k0_off8 c = ![ks (row0 false c), 128 * 4] ∧ k0_off9 c = ![ks (row0 false c), 128 * 5] ∧
    k0_off10 c = ![ks (row0 false c), 128 * 6] ∧ k0_off11 c = ![ks (row0 false c), 128 * 7] := by revert c; decide +kernel
/-- the first counter-clockwise chunk, -/
theorem rows_b (c : Dev nD) : k0_off13 c = ![row0 true c, 0] ∧ k0_off22 c = ![row0 true c, 0] := by revert c; decide +kernel
theorem wins_b (c : Dev nD) :
    k0_off14 c = ![ks (row0 true c), 128 * 0] ∧ k0_off15 c = ![ks (row0 true c), 128 * 1] ∧ k0_off16 c = ![ks (row0 true c), 128 * 2] ∧
    k0_off17 c = ![ks (row0 true c), 128 * 3] ∧ k0_off18 c = ![ks (row0 true c), 128 * 4] ∧ k0_off19 c = ![ks (row0 true c), 128 * 5] ∧
    k0_off20 c = ![ks (row0 true c), 128 * 6] ∧ k0_off21 c = ![ks (row0 true c), 128 * 7] := by revert c; decide +kernel
/-- the clockwise chunk of step `s`, -/
theorem rows_cw (c : Dev nD) (s : Fin 3) :
    k0_off23 c (BitVec.ofNat 32 s.val) = ![row0 false (back false s.val c), 0] ∧ k0_off25 c (BitVec.ofNat 32 s.val) = ![row0 false (back false (s.val + 1) c), 0] ∧
    k0_off34 c (BitVec.ofNat 32 s.val) = ![row0 false (back false (s.val + 1) c), 0] := by revert c s; decide +kernel
def oCw (c : Dev nD) (s : ℕ) : ℕ := ks (row0 false (back false (s + 1) c))
theorem wins_cw (c : Dev nD) (s : Fin 3) :
    k0_off26 c (BitVec.ofNat 32 s.val) = ![oCw c s.val, 128 * 0] ∧ k0_off27 c (BitVec.ofNat 32 s.val) = ![oCw c s.val, 128 * 1] ∧
    k0_off28 c (BitVec.ofNat 32 s.val) = ![oCw c s.val, 128 * 2] ∧ k0_off29 c (BitVec.ofNat 32 s.val) = ![oCw c s.val, 128 * 3] ∧
    k0_off30 c (BitVec.ofNat 32 s.val) = ![oCw c s.val, 128 * 4] ∧ k0_off31 c (BitVec.ofNat 32 s.val) = ![oCw c s.val, 128 * 5] ∧
    k0_off32 c (BitVec.ofNat 32 s.val) = ![oCw c s.val, 128 * 6] ∧ k0_off33 c (BitVec.ofNat 32 s.val) = ![oCw c s.val, 128 * 7] := by revert c s; decide +kernel
/-- and the counter-clockwise chunk of step `s`. -/
theorem rows_ccw (c : Dev nD) (s : Fin 3) :
    k0_off24 c (BitVec.ofNat 32 s.val) = ![row0 true (back true s.val c), 0] ∧ k0_off35 c (BitVec.ofNat 32 s.val) = ![row0 true (back true (s.val + 1) c), 0] ∧
    k0_off44 c (BitVec.ofNat 32 s.val) = ![row0 true (back true (s.val + 1) c), 0] := by revert c s; decide +kernel
def oCcw (c : Dev nD) (s : ℕ) : ℕ := ks (row0 true (back true (s + 1) c))
theorem wins_ccw (c : Dev nD) (s : Fin 3) :
    k0_off36 c (BitVec.ofNat 32 s.val) = ![oCcw c s.val, 128 * 0] ∧ k0_off37 c (BitVec.ofNat 32 s.val) = ![oCcw c s.val, 128 * 1] ∧
    k0_off38 c (BitVec.ofNat 32 s.val) = ![oCcw c s.val, 128 * 2] ∧ k0_off39 c (BitVec.ofNat 32 s.val) = ![oCcw c s.val, 128 * 3] ∧
    k0_off40 c (BitVec.ofNat 32 s.val) = ![oCcw c s.val, 128 * 4] ∧ k0_off41 c (BitVec.ofNat 32 s.val) = ![oCcw c s.val, 128 * 5] ∧
    k0_off42 c (BitVec.ofNat 32 s.val) = ![oCcw c s.val, 128 * 6] ∧ k0_off43 c (BitVec.ofNat 32 s.val) = ![oCcw c s.val, 128 * 7] := by revert c s; decide +kernel

/-- The halves the gathering sends. -/
theorem half_cw (c : Dev nD) (s : Fin 3) (t : Fin 2) :
    k0_off45 c (BitVec.ofNat 32 s.val) (BitVec.ofNat 32 (128 * t.val)) = ![half0 false (2 * s.val + t.val) (fwd false c), 0] := by revert c s t; decide +kernel
theorem half_ccw (c : Dev nD) (s : Fin 3) (t : Fin 2) :
    k0_off46 c (BitVec.ofNat 32 s.val) (BitVec.ofNat 32 (128 * t.val)) = ![half0 true (2 * s.val + t.val) (fwd true c), 0] := by revert c s t; decide +kernel

end Cert.KernelIdealProof
end
-- ==== Proof.KernelIdeal.Seq.lean ====
/-
The parts of the kernel on its own buffers, one after the other, and the split of the state the first of them start from.
-/
module

public import proofs.«01_k».proof.Proof.KernelIdeal.Chunk

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- A part of the kernel, on the kernel's own buffers and semaphores. -/
abbrev ap {β : Type 1} (p : ∀ (arg0 : Memref sig .tc .hbm S1x2048x1024 .f32) (harg0 : arg0.IsWhole) (arg1 : Memref sig .tc .hbm S1024x4096 .f32) (harg1 : arg1.IsWhole) (arg2 : Memref sig .tc .hbm S1x2048x8x128 .f32) (harg2 : arg2.IsWhole) (arg3 : Memref sig .tc .hbm S1x2048x8x128 .f32) (harg3 : arg3.IsWhole) (arg4 : Memref sig .tc .hbm S4096x1024 .f32) (harg4 : arg4.IsWhole) (arg5 : Memref sig .tc .vmem S2048x1024 .f32) (harg5 : arg5.IsWhole) (arg6 : Memref sig .tc .vmem S2048x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S2048x1024 .f32) (harg9 : arg9.IsWhole) (arg10 : Memref sig .tc .vmem S2048x1024 .f32) (harg10 : arg10.IsWhole) (arg11 : Memref sig .tc .vmem S3x256x1024 .f32) (harg11 : arg11.IsWhole) (arg12 : Memref sig .tc .vmem S3x256x1024 .f32) (harg12 : arg12.IsWhole) (arg13 : DmaSems sig S3) (arg14 : DmaSems sig S16) (arg15 : DmaSems sig S9) (arg16 : DmaSems sig S9) (arg17 : DmaSems sig S9) (arg18 : DmaSems sig S9), β) : β :=
  p (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12

variable {c : Dev nD} {α β : Type}

/-- A part, and then the rest: what holds after the part is the rest's claim, kept closed. -/
theorem seq {p : Prog (TpuEff nD τ sig (Elt F) Λ₀ .tc) β} {k : β → Prog (TpuEff nD τ sig (Elt F) Λ₀ .tc) α} {Q : α → sProp (MT nD τ sig Unit (Elt F) ℕ UU ℕ)} :
    iprop(∀ Kt : β → sProp 𝕄, ⌜∀ r, wp frame (wpE (defs₀ (F := F)) Variants.none (c : Thread nD τ) none) Set.univ (k r) Q ⊢ Kt r⌝
      -∗ wp frame (wpE (defs₀ (F := F)) Variants.none (c : Thread nD τ) none) Set.univ p Kt)
    ⊢ wp frame (wpE (defs₀ (F := F)) Variants.none (c : Thread nD τ) none) Set.univ (p >>= k) Q := by
  rw [wp_bind]
  iintro H
  iapply H
  ipureintro
  exact fun r => BI.Entails.refl _

/-- The end of a part. -/
theorem seq_ret {k : β → Prog (TpuEff nD τ sig (Elt F) Λ₀ .tc) α} {Q : α → sProp (MT nD τ sig Unit (Elt F) ℕ UU ℕ)} {Kt : β → sProp (MT nD τ sig Unit (Elt F) ℕ UU ℕ)}
    (h : ∀ r, wp frame (wpE (defs₀ (F := F)) Variants.none (c : Thread nD τ) none) Set.univ (k r) Q ⊢ Kt r) (r : β) :
    wp frame (wpE (defs₀ (F := F)) Variants.none (c : Thread nD τ) none) Set.univ (k r) Q
      ⊢ wp frame (wpE (defs₀ (F := F)) Variants.none (c : Thread nD τ) none) Set.univ (.ret r) Kt := by
  rw [wp_ret]
  exact (h r).trans (BI.fupd_intro)

end Cert.KernelIdealProof
end
-- ==== Proof.KernelIdeal.Split.lean ====
/-
Cutting a device's buffers into the pieces that travel, and putting them back together.
-/
module

public import proofs.«01_k».proof.Proof.KernelIdeal.Seq

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## The output's rows -/

theorem mem_rows {o n : ℕ} {i : S2048x1024.Idx} : i ∈ rows o n ↔ o ≤ (i 0).val ∧ (i 0).val < o + n := by
  unfold rows; rw [Finset.mem_filter]; exact ⟨fun h => h.2, fun h => ⟨Finset.mem_univ _, h⟩⟩

/-- Pieces of `n` rows, one per multiple of `n`. -/
theorem rows_cut {J : Type} [Fintype J] [DecidableEq J] {n : ℕ} (hn : 0 < n) (e : J → ℕ) (he : Function.Injective e)
    (hs : ∀ q, q * n < 2048 → ∃ j, e j = q) (c : Dev nD) (g : OBuf F) :
    (((c : Thread nD τ).loc cc0_stg0_0) ↦{fullShare} g : sProp 𝕄) = bigSep Finset.univ fun j => outP c (e j * n) n g := by
  unfold outP
  have h := pointsTo_biUnion (ℓ := (c : Thread nD τ).loc cc0_stg0_0) (q := fullShare) (f := g) (Ix := Unit) (Name := ℕ) (U := UU) (Lvl := ℕ)
    (Finset.univ : Finset J) (fun j => rows (e j * n) n) (by
      intro a _ b _ hab
      rw [Finset.disjoint_left]
      intro i ha hb
      rw [mem_rows] at ha hb
      refine hab (he ?_)
      have h1 : e a < e b + 1 := Nat.lt_of_mul_lt_mul_right (a := n) (by rw [Nat.add_mul]; omega)
      have h2 : e b < e a + 1 := Nat.lt_of_mul_lt_mul_right (a := n) (by rw [Nat.add_mul]; omega)
      omega)
  have hc : (Finset.univ : Finset J).biUnion (fun j => rows (e j * n) n) = Finset.univ := by
    ext i
    simp only [Finset.mem_biUnion, Finset.mem_univ, true_and, iff_true]
    have hi : (i 0).val < 2048 := idx2_lt0 i
    have h3 := Nat.div_add_mod (i 0).val n
    have h4 := Nat.mod_lt (i 0).val hn
    rw [Nat.mul_comm] at h3
    obtain ⟨j, hj⟩ := hs ((i 0).val / n) (by omega)
    refine ⟨j, mem_rows.mpr ?_⟩
    rw [hj]; omega
  rw [hc] at h
  exact h

/-- The output, chunk by chunk. -/
theorem out_chunks (c : Dev nD) (g : OBuf F) :
    (((c : Thread nD τ).loc cc0_stg0_0) ↦{fullShare} g : sProp 𝕄)
      = iprop(outP c (row0 false c) 256 g ∗ outP c (row0 false (back false 1 c)) 256 g ∗ outP c (row0 false (back false 2 c)) 256 g ∗ outP c (row0 false (back false 3 c)) 256 g
        ∗ outP c (row0 true c) 256 g ∗ outP c (row0 true (back true 1 c)) 256 g ∗ outP c (row0 true (back true 2 c)) 256 g ∗ outP c (row0 true (back true 3 c)) 256 g) := by
  rw [rows_cut (J := Bool × Fin 4) (n := 256) (by decide) (fun p => row0 p.1 (back p.1 p.2.val c) / 256) (by revert c; decide)
    (by
      have h : ∀ c : Dev nD, ∀ q < 8, ∃ p : Bool × Fin 4, row0 p.1 (back p.1 p.2.val c) / 256 = q := by decide
      exact fun q hq => h c q (by omega)) c g,
    bigSep_univ_eq_bigSepL [(false, 0), (false, 1), (false, 2), (false, 3), (true, 0), (true, 1), (true, 2), (true, 3)] (by decide) (by decide)]
  have e : ∀ (b : Bool) (d : Dev nD), row0 b d / 256 * 256 = row0 b d := by decide
  simp only [bigSepL_cons_cons, bigSepL_singleton, e]
  rfl

/-- The output, half chunk by half chunk, in the order the gathering moves them. -/
theorem out_halves (c : Dev nD) (g : OBuf F) :
    (((c : Thread nD τ).loc cc0_stg0_0) ↦{fullShare} g : sProp 𝕄)
      = bigSep Finset.univ fun p : Bool × Fin 8 => outP c (half0 p.1 p.2.val (fwd p.1 c)) 128 g := by
  rw [rows_cut (J := Bool × Fin 8) (n := 128) (by decide) (fun p => half0 p.1 p.2.val (fwd p.1 c) / 128) (by revert c; decide)
    (by
      have h : ∀ c : Dev nD, ∀ q < 16, ∃ p : Bool × Fin 8, half0 p.1 p.2.val (fwd p.1 c) / 128 = q := by decide
      exact fun q hq => h c q (by omega)) c g]
  have e : ∀ (b : Bool) (t : Fin 8) (d : Dev nD), half0 b t.val d / 128 * 128 = half0 b t.val d := by decide
  simp only [e]

/-- A chunk, as its two halves. -/
theorem out_two (c : Dev nD) (o : ℕ) (g : OBuf F) : outP c o 256 g ⊢ iprop(outP c o 128 g ∗ outP c (o + 128) 128 g) := by
  unfold outP
  have e : rows o 256 = rows o 128 ∪ rows (o + 128) 128 := by
    ext i; rw [Finset.mem_union, mem_rows, mem_rows, mem_rows]; omega
  rw [e]
  exact (pointsTo_union (by
    rw [Finset.disjoint_left]; intro i ha hb; rw [mem_rows] at ha hb; omega)).1

theorem out_two_any (c : Dev nD) (o : ℕ) : iprop(∃ g, outP (F := F) c o 256 g) ⊢ iprop((∃ g, outP c o 128 g) ∗ ∃ g, outP c (o + 128) 128 g) := by
  iintro ⟨%g, H⟩
  ihave H := (out_two c o g) $$ H
  icases H with ⟨H1, H2⟩
  isplitl [H1]; · iexists g; iexact H1
  iexists g; iexact H2

/-! ## The receive slots -/

theorem slot_cut (b : Bool) (c : Dev nD) (g : SBuf F) : bufP b c g = iprop(slotP b c 0 g ∗ slotP b c 1 g ∗ slotP b c 2 g) := by
  have hd : ∀ t ∈ (Finset.univ : Finset (Fin 3)), ∀ t' ∈ (Finset.univ : Finset (Fin 3)), t ≠ t' → Disjoint (slot t.val) (slot t'.val) := by
    intro t _ t' _ h
    rw [Finset.disjoint_left]
    intro i hi hi'
    rw [slot, Finset.mem_filter] at hi hi'
    exact h (Fin.ext (hi.2.symm.trans hi'.2))
  have hc : (Finset.univ : Finset (Fin 3)).biUnion (fun t => slot t.val) = Finset.univ := by
    ext i
    simp only [Finset.mem_biUnion, Finset.mem_univ, true_and, iff_true]
    exact ⟨⟨(i 0).val, (i 0).isLt⟩, Finset.mem_filter.mpr ⟨Finset.mem_univ _, rfl⟩⟩
  cases b with
  | false =>
    have h := pointsTo_biUnion (ℓ := (c : Thread nD τ).loc cc0_scratch5) (q := fullShare) (f := g) (Ix := Unit) (Name := ℕ) (U := UU) (Lvl := ℕ) _ _ hd
    rw [hc, bigSep_univ_eq_bigSepL [0, 1, 2] (by decide) (by decide)] at h
    exact h
  | true =>
    have h := pointsTo_biUnion (ℓ := (c : Thread nD τ).loc cc0_scratch6) (q := fullShare) (f := g) (Ix := Unit) (Name := ℕ) (U := UU) (Lvl := ℕ) _ _ hd
    rw [hc, bigSep_univ_eq_bigSepL [0, 1, 2] (by decide) (by decide)] at h
    exact h

theorem slot_split (b : Bool) (c : Dev nD) : iprop(∃ f, bufP (F := F) b c f) ⊢ iprop((∃ g, slotP b c 0 g) ∗ (∃ g, slotP b c 1 g) ∗ ∃ g, slotP b c 2 g) := by
  iintro ⟨%f, H⟩
  ihave H := (Entails.of_eq (slot_cut b c f)) $$ H
  icases H with ⟨H1, H2, H3⟩
  isplitl [H1]; · iexists f; iexact H1
  isplitl [H2]; · iexists f; iexact H2
  iexists f; iexact H3

theorem slot_mono (b : Bool) (c : Dev nD) (s : ℕ) {f g : SBuf F} (h : ∀ i, (i 0).val = s → f i = g i) : slotP b c s f = slotP b c s g := by
  cases b <;> exact pointsTo_congr fun i hi => h i (Finset.mem_filter.mp hi).2

/-- Three slots' contents in one buffer. -/
def joined (f₀ f₁ f₂ : SBuf F) : SBuf F := fun i => if (i 0).val = 0 then f₀ i else if (i 0).val = 1 then f₁ i else f₂ i

theorem slot_join (b : Bool) (c : Dev nD) (f₀ f₁ f₂ : SBuf F) : iprop(slotP b c 0 f₀ ∗ slotP b c 1 f₁ ∗ slotP b c 2 f₂) ⊢ iprop(∃ f, bufP b c f) := by
  have h₀ := slot_mono b c 0 (f := f₀) (g := joined f₀ f₁ f₂) fun i hi => by unfold joined; rw [if_pos hi]
  have h₁ := slot_mono b c 1 (f := f₁) (g := joined f₀ f₁ f₂) fun i hi => by unfold joined; rw [if_neg (by rw [hi]; decide), if_pos hi]
  have h₂ := slot_mono b c 2 (f := f₂) (g := joined f₀ f₁ f₂) fun i hi => by
    unfold joined; rw [if_neg (by rw [hi]; decide), if_neg (by rw [hi]; decide)]
  rw [h₀, h₁, h₂, ← slot_cut]
  iintro H
  iexists (joined f₀ f₁ f₂)
  iexact H

/-! ## What a step adds -/

variable (PB : Dev nD → OBuf F)

theorem add_eq (b : Bool) (s : ℕ) (hs : s < 3) (c : Dev nD) (hb : back b s (bwd b c) = back b (s + 1) c) :
    addf (rdO (row0 b (back b (s + 1) c)) (PB c)) (shapeCast S256x1024 (rdS s (slotV PB b s (bwd b c))) shapeCasts_S1x256x1024_S256x1024)
      = rdO (row0 b (back b (s + 1) c)) (acc PB b (s + 1) c) := by
  funext i
  show FloatOps.addf (PB c (ixO _ i)) (acc PB b s (bwd b c) (rowIx b (back b s (bwd b c)) _)) = FloatOps.addf (PB c (ixO _ i)) (acc PB b s (bwd b c) (ixO _ i))
  have e : Shape.reshapeEquiv shapeCasts_S1x256x1024_S256x1024 i = (ix3 z1 (i 0) (i 1) : S1x256x1024.Idx) := squeeze_slot i
  rw [← rowIx_ix3 b (back b (s + 1) c) ⟨s % 3, Nat.mod_lt _ (by decide)⟩ i, ← hb]
  refine congrArg (FloatOps.addf _) (congrArg (fun j : S1x256x1024.Idx => acc PB b s (bwd b c) (rowIx b (back b s (bwd b c)) (ix3 ⟨s % 3, Nat.mod_lt _ (by decide)⟩ (j 1) (j 2)))) e)

theorem back_bwd (b : Bool) (s : ℕ) (hs : s < 3) (c : Dev nD) : back b s (bwd b c) = back b (s + 1) c := by
  have h : ∀ s < 3, back b s (bwd b c) = back b (s + 1) c := by revert b c; decide
  exact h s hs

theorem cast_self (x : Vec F S256x1024 .f32) : shapeCast S256x1024 x shapeCasts_S256x1024_S256x1024 = x := by
  funext i
  show x (Shape.reshapeEquiv _ i) = x i
  refine congrArg x ?_
  exact Shape.reshapeEquiv_eq_of_rowMajor _ rfl

/-- The last step's rows are finished. -/
theorem fin_rows (b : Bool) (c : Dev nD) : outP c (row0 b (fwd b c)) 256 (acc PB b 3 c) = outP c (row0 b (fwd b c)) 256 (fin PB) := by
  unfold outP
  refine pointsTo_congr fun i hi => ?_
  rw [mem_rows] at hi
  have h : ∀ (b : Bool) (c : Dev nD) (r : Fin 256), (decide (1024 ≤ row0 b (fwd b c) + r.val)) = b ∧ (row0 b (fwd b c) + r.val) / 256 % 4 = (fwd b c).val := by decide +kernel
  obtain ⟨h1, h2⟩ := h b c ⟨(i 0).val - row0 b (fwd b c), by omega⟩
  rw [show row0 b (fwd b c) + ((i 0).val - row0 b (fwd b c)) = (i 0).val by omega] at h1 h2
  have e1 : dirOf i = b := h1
  have e2 : chunkOf i = fwd b c := Fin.ext h2
  unfold fin
  rw [e1, e2, bwd_fwd]

end Cert.KernelIdealProof
end
-- ==== Proof.KernelIdeal.Block.lean ====
/-
One chunk's computation: its rows of the input, sixteen windows of keys and values, and the store.
-/
module

public import proofs.«01_k».proof.Proof.KernelIdeal.Split

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable {c : Dev nD} {α : Type} {Q : α → sProp (MT nD τ sig Unit (Elt F) ℕ UU ℕ)}

/-- What a chunk's computation reads: the input rows, and every head's keys and values. -/
def rdy (I : Dev nD → Ins F) (c : Dev nD) : sProp 𝕄 := iprop(sX c (XG (I c)) ∗ wK c (KG (I c)) ∗ wV c (VG (I c)))

theorem block (I : Dev nD → Ins F) (b : Bool) (d : Dev nD) {offx o0 o1 o2 o3 o4 o5 o6 o7 offs : Fin 2 → ℕ}
    (hx : offx = ![row0 b d, 0]) (hs : offs = ![row0 b d, 0])
    (hw : o0 = ![ks (row0 b d), 128 * 0] ∧ o1 = ![ks (row0 b d), 128 * 1] ∧ o2 = ![ks (row0 b d), 128 * 2] ∧ o3 = ![ks (row0 b d), 128 * 3] ∧
      o4 = ![ks (row0 b d), 128 * 4] ∧ o5 = ![ks (row0 b d), 128 * 5] ∧ o6 = ![ks (row0 b d), 128 * 6] ∧ o7 = ![ks (row0 b d), 128 * 7])
    {ix il hlx hlo hst hm} {i0 i1 i2 i3 i4 i5 i6 i7} {a0 a1 a2 a3 a4 a5 a6 a7 b0 b1 b2 b3 b4 b5 b6 b7}
    {W : Vec F S256x1024 .f32 → Vec F S512x128 .f32 → Vec F S512x128 .f32 → Vec F S512x128 .f32 → Vec F S512x128 .f32 → Vec F S512x128 .f32 → Vec F S512x128 .f32
      → Vec F S512x128 .f32 → Vec F S512x128 .f32 → Vec F S512x128 .f32 → Vec F S512x128 .f32 → Vec F S512x128 .f32 → Vec F S512x128 .f32 → Vec F S512x128 .f32
      → Vec F S512x128 .f32 → Vec F S512x128 .f32 → Vec F S512x128 .f32 → Vec F S256x1024 .f32}
    {k : PUnit → Prog (TpuEff nD τ sig (Elt F) Λ₀ .tc) α} (w : BitVec 32) (hwd : w = BitVec.ofNat 32 (row0 b d))
    (hW : W (rdO (row0 b d) (XG (I c)))
        (rdK (ks (row0 b d)) 0 (KG (I c))) (rdK (ks (row0 b d)) 0 (VG (I c))) (rdK (ks (row0 b d)) 1 (KG (I c))) (rdK (ks (row0 b d)) 1 (VG (I c)))
        (rdK (ks (row0 b d)) 2 (KG (I c))) (rdK (ks (row0 b d)) 2 (VG (I c))) (rdK (ks (row0 b d)) 3 (KG (I c))) (rdK (ks (row0 b d)) 3 (VG (I c)))
        (rdK (ks (row0 b d)) 4 (KG (I c))) (rdK (ks (row0 b d)) 4 (VG (I c))) (rdK (ks (row0 b d)) 5 (KG (I c))) (rdK (ks (row0 b d)) 5 (VG (I c)))
        (rdK (ks (row0 b d)) 6 (KG (I c))) (rdK (ks (row0 b d)) 6 (VG (I c))) (rdK (ks (row0 b d)) 7 (KG (I c))) (rdK (ks (row0 b d)) 7 (VG (I c)))
      = chunkG (bandW w) (rdO (row0 b d) (XG (I c))) (WQ (I c) c) (WO (I c) c) (fun h => rdK (ks (row0 b d)) h (KG (I c))) (fun h => rdK (ks (row0 b d)) h (VG (I c)))) :
    rdy I c ⊢ iprop((∃ g, outP c (row0 b d) 256 g)
      -∗ (rdy I c -∗ outP c (row0 b d) 256 (part I c) -∗ wp frame (wpE (defs₀ (F := F)) Variants.none (c : Thread nD τ) none) Set.univ (k ⟨⟩) Q)
      -∗ wp frame (wpE (defs₀ (F := F)) Variants.none (c : Thread nD τ) none) Set.univ
        (.op (.load (Memref.whole cc0_scratch0 : Memref sig .tc .vmem S2048x1024 .f32) (Rect.unit (s := S2048x1024) offx S256x1024.size ix).toLoadRect hlx) fun x =>
         .op (.load (Memref.whole cc0_scratch3 : Memref sig .tc .vmem S2048x1024 .f32) (Rect.unit (s := S2048x1024) o0 S512x128.size i0).toLoadRect a0) fun k0 =>
         .op (.load (Memref.whole cc0_scratch4 : Memref sig .tc .vmem S2048x1024 .f32) (Rect.unit (s := S2048x1024) o0 S512x128.size i0).toLoadRect b0) fun v0 =>
         .op (.load (Memref.whole cc0_scratch3 : Memref sig .tc .vmem S2048x1024 .f32) (Rect.unit (s := S2048x1024) o1 S512x128.size i1).toLoadRect a1) fun k1 =>
         .op (.load (Memref.whole cc0_scratch4 : Memref sig .tc .vmem S2048x1024 .f32) (Rect.unit (s := S2048x1024) o1 S512x128.size i1).toLoadRect b1) fun v1 =>
         .op (.load (Memref.whole cc0_scratch3 : Memref sig .tc .vmem S2048x1024 .f32) (Rect.unit (s := S2048x1024) o2 S512x128.size i2).toLoadRect a2) fun k2 =>
         .op (.load (Memref.whole cc0_scratch4 : Memref sig .tc .vmem S2048x1024 .f32) (Rect.unit (s := S2048x1024) o2 S512x128.size i2).toLoadRect b2) fun v2 =>
         .op (.load (Memref.whole cc0_scratch3 : Memref sig .tc .vmem S2048x1024 .f32) (Rect.unit (s := S2048x1024) o3 S512x128.size i3).toLoadRect a3) fun k3 =>
         .op (.load (Memref.whole cc0_scratch4 : Memref sig .tc .vmem S2048x1024 .f32) (Rect.unit (s := S2048x1024) o3 S512x128.size i3).toLoadRect b3) fun v3 =>
         .op (.load (Memref.whole cc0_scratch3 : Memref sig .tc .vmem S2048x1024 .f32) (Rect.unit (s := S2048x1024) o4 S512x128.size i4).toLoadRect a4) fun k4 =>
         .op (.load (Memref.whole cc0_scratch4 : Memref sig .tc .vmem S2048x1024 .f32) (Rect.unit (s := S2048x1024) o4 S512x128.size i4).toLoadRect b4) fun v4 =>
         .op (.load (Memref.whole cc0_scratch3 : Memref sig .tc .vmem S2048x1024 .f32) (Rect.unit (s := S2048x1024) o5 S512x128.size i5).toLoadRect a5) fun k5 =>
         .op (.load (Memref.whole cc0_scratch4 : Memref sig .tc .vmem S2048x1024 .f32) (Rect.unit (s := S2048x1024) o5 S512x128.size i5).toLoadRect b5) fun v5 =>
         .op (.load (Memref.whole cc0_scratch3 : Memref sig .tc .vmem S2048x1024 .f32) (Rect.unit (s := S2048x1024) o6 S512x128.size i6).toLoadRect a6) fun k6 =>
         .op (.load (Memref.whole cc0_scratch4 : Memref sig .tc .vmem S2048x1024 .f32) (Rect.unit (s := S2048x1024) o6 S512x128.size i6).toLoadRect b6) fun v6 =>
         .op (.load (Memref.whole cc0_scratch3 : Memref sig .tc .vmem S2048x1024 .f32) (Rect.unit (s := S2048x1024) o7 S512x128.size i7).toLoadRect a7) fun k7 =>
         .op (.load (Memref.whole cc0_scratch4 : Memref sig .tc .vmem S2048x1024 .f32) (Rect.unit (s := S2048x1024) o7 S512x128.size i7).toLoadRect b7) fun v7 =>
         .op (.load oM (Rect.unit (s := S2048x1024) offs S256x1024.size il).toLoadRect hlo) fun _ =>
         .op (.store oM (Rect.unit (s := S2048x1024) offs S256x1024.size il) (W x k0 v0 k1 v1 k2 v2 k3 v3 k4 v4 k5 v5 k6 v6 k7 v7) Finset.univ hst hm) k) Q) := by
  obtain ⟨h0, h1, h2, h3, h4, h5, h6, h7⟩ := hw
  unfold rdy
  iintro ⟨HX, HK, HV⟩ ⟨%g, HO⟩ Hk
  iapply (ld_x _ hx) $$ HX; iintro HX
  iapply (ld_k _ 0 h0) $$ HK; iintro HK
  iapply (ld_v _ 0 h0) $$ HV; iintro HV
  iapply (ld_k _ 1 h1) $$ HK; iintro HK
  iapply (ld_v _ 1 h1) $$ HV; iintro HV
  iapply (ld_k _ 2 h2) $$ HK; iintro HK
  iapply (ld_v _ 2 h2) $$ HV; iintro HV
  iapply (ld_k _ 3 h3) $$ HK; iintro HK
  iapply (ld_v _ 3 h3) $$ HV; iintro HV
  iapply (ld_k _ 4 h4) $$ HK; iintro HK
  iapply (ld_v _ 4 h4) $$ HV; iintro HV
  iapply (ld_k _ 5 h5) $$ HK; iintro HK
  iapply (ld_v _ 5 h5) $$ HV; iintro HV
  iapply (ld_k _ 6 h6) $$ HK; iintro HK
  iapply (ld_v _ 6 h6) $$ HV; iintro HV
  iapply (ld_k _ 7 h7) $$ HK; iintro HK
  iapply (ld_v _ 7 h7) $$ HV; iintro HV
  iapply (ld_out _ hs) $$ HO; iintro HO
  iapply (st_out _ hs (part I c) (hW.trans (chunk_eq I c b d hwd))) $$ HO; iintro HO
  iapply Hk $$ [HX HK HV] HO
  isplitl [HX]; · iexact HX
  isplitl [HK]; · iexact HK
  iexact HV

end Cert.KernelIdealProof
end
-- ==== Proof.KernelIdeal.Mid.lean ====
/-
Between the reduce-scatter and the gathering: who holds which rows.
-/
module

public import proofs.«01_k».proof.Proof.KernelIdeal.Block

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (PB : Dev nD → OBuf F)

theorem half_next (b : Bool) (t : Fin 6) (c : Dev nD) : half0 b (t.val + 2) (fwd b c) = half0 b t.val c := by revert b t c; decide

/-- The finished chunk, as the two halves the gathering starts with. -/
theorem fin_two (b : Bool) (c : Dev nD) :
    outP c (row0 b (back b 3 c)) 256 (acc PB b 3 c) ⊢ iprop(outP c (half0 b 0 (fwd b c)) 128 (fin PB) ∗ outP c (half0 b 1 (fwd b c)) 128 (fin PB)) := by
  have e : back b 3 c = fwd b c := by revert b c; decide
  rw [e, fin_rows]
  exact out_two c _ _

theorem ext1 (b : Bool) (c : Dev nD) (g : OBuf F) : outP c (row0 b (back b 0 c)) 256 g ⊢ extra (!b) 1 c := by
  show _ ⊢ iprop(∃ g, outP c (row0 (!!b) c) 256 g)
  rw [Bool.not_not]
  iintro H; iexists g; iexact H
theorem ext2 (b : Bool) (c : Dev nD) (g : OBuf F) : outP c (row0 b (back b 1 c)) 256 g ⊢ extra (!b) 2 c := by
  show _ ⊢ iprop(∃ g, outP c (row0 (!!b) (back (!!b) 1 c)) 256 g)
  rw [Bool.not_not]
  iintro H; iexists g; iexact H
theorem ext34 (b : Bool) (c : Dev nD) (g : OBuf F) : outP c (row0 b (back b 2 c)) 256 g ⊢ iprop(extra (!b) 3 c ∗ extra (!b) 4 c) := by
  show _ ⊢ iprop((∃ g, outP c (half0 (!!b) 4 c) 128 g) ∗ (∃ g, outP c (half0 (!!b) 5 c) 128 g))
  rw [Bool.not_not]
  iintro H
  iapply (out_two_any c (row0 b (back b 2 c)))
  iexists g; iexact H

/-- The rows of the next device that gathering step `t` writes. -/
def dst (b : Bool) (t : ℕ) (c : Dev nD) : sProp 𝕄 := iprop(∃ g, outP (F := F) (fwd b c) (half0 b t (fwd b c)) 128 g)

theorem dst01 (b : Bool) (c : Dev nD) : extra (F := F) (!b) 1 (bwd (!b) c) ⊢ iprop(dst b 0 c ∗ dst b 1 c) := by
  show iprop(∃ g, outP (bwd (!b) c) (row0 (!!b) (bwd (!b) c)) 256 g) ⊢ _
  rw [Bool.not_not, bwd_not]
  exact out_two_any _ _
theorem dst23 (b : Bool) (c : Dev nD) : extra (F := F) (!b) 2 (bwd (!b) c) ⊢ iprop(dst b 2 c ∗ dst b 3 c) := by
  show iprop(∃ g, outP (bwd (!b) c) (row0 (!!b) (back (!!b) 1 (bwd (!b) c))) 256 g) ⊢ _
  rw [Bool.not_not, bwd_not]
  exact out_two_any _ _
theorem dst4 (b : Bool) (c : Dev nD) : extra (F := F) (!b) 3 (bwd (!b) c) ⊢ dst b 4 c := by
  show iprop(∃ g, outP (bwd (!b) c) (half0 (!!b) 4 (bwd (!b) c)) 128 g) ⊢ _
  rw [Bool.not_not, bwd_not]; exact BI.Entails.refl _
theorem dst5 (b : Bool) (c : Dev nD) : extra (F := F) (!b) 4 (bwd (!b) c) ⊢ dst b 5 c := by
  show iprop(∃ g, outP (bwd (!b) c) (half0 (!!b) 5 (bwd (!b) c)) 128 g) ⊢ _
  rw [Bool.not_not, bwd_not]; exact BI.Entails.refl _

/-- A finished half, where gathering step `t` of direction `b` reads it. -/
def hv (b : Bool) (t : ℕ) (c : Dev nD) : sProp 𝕄 := outP c (half0 b t (fwd b c)) 128 (fin PB)

theorem hv_next (b : Bool) (t : Fin 6) (c : Dev nD) : outP c (half0 b t.val c) 128 (fin PB) = hv PB b (t.val + 2) c := by
  unfold hv; rw [half_next]

/-- One direction's rows when the gathering starts. -/
def ag (b : Bool) (c : Dev nD) : sProp 𝕄 :=
  iprop(hv PB b 0 c ∗ hv PB b 1 c ∗ extra b 3 c ∗ extra b 4 c ∗ dst b 0 c ∗ dst b 1 c ∗ dst b 2 c ∗ dst b 3 c)
def mid (c : Dev nD) : sProp 𝕄 := iprop(SS c 6 6 ∗ RR c 6 ∗ ow c (owed c 12) ∗ ag PB false c ∗ ag PB true c)

/-- One direction's rows when it ends. -/
def done (b : Bool) (c : Dev nD) : sProp 𝕄 :=
  iprop(hv PB b 0 c ∗ hv PB b 1 c ∗ hv PB b 2 c ∗ hv PB b 3 c ∗ hv PB b 4 c ∗ hv PB b 5 c ∗ hv PB b 6 c ∗ hv PB b 7 c)

theorem done_out (c : Dev nD) : iprop(done PB false c ∗ done PB true c) ⊢ (((c : Thread nD τ).loc cc0_stg0_0) ↦{fullShare} fin PB : sProp 𝕄) := by
  have e : (bigSep Finset.univ fun p : Bool × Fin 8 => outP c (half0 p.1 p.2.val (fwd p.1 c)) 128 (fin PB))
      = iprop(hv PB false 0 c ∗ hv PB false 1 c ∗ hv PB false 2 c ∗ hv PB false 3 c ∗ hv PB false 4 c ∗ hv PB false 5 c ∗ hv PB false 6 c ∗ hv PB false 7 c ∗ hv PB true 0 c ∗ hv PB true 1 c ∗ hv PB true 2 c ∗ hv PB true 3 c ∗ hv PB true 4 c ∗ hv PB true 5 c ∗ hv PB true 6 c ∗ hv PB true 7 c) :=
    bigSep_univ_eq_bigSepL [(false, 0), (false, 1), (false, 2), (false, 3), (false, 4), (false, 5), (false, 6), (false, 7),
      (true, 0), (true, 1), (true, 2), (true, 3), (true, 4), (true, 5), (true, 6), (true, 7)] (by decide) (by decide) _
  rw [out_halves c (fin PB), e]
  unfold done
  iintro ⟨⟨H0, H1, H2, H3, H4, H5, H6, H7⟩, ⟨K0, K1, K2, K3, K4, K5, K6, K7⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [K0]; · iexact K0
  isplitl [K1]; · iexact K1
  isplitl [K2]; · iexact K2
  isplitl [K3]; · iexact K3
  isplitl [K4]; · iexact K4
  isplitl [K5]; · iexact K5
  isplitl [K6]; · iexact K6
  iexact K7

theorem add_step (b : Bool) (s : ℕ) (hs : s < 3) (c : Dev nD) :
    addf (shapeCast S256x1024 (rdO (row0 b (back b (s + 1) c)) (PB c)) shapeCasts_S256x1024_S256x1024)
        (shapeCast S256x1024 (rdS s (slotV PB b s (bwd b c))) shapeCasts_S1x256x1024_S256x1024)
      = rdO (row0 b (back b (s + 1) c)) (acc PB b (s + 1) c) := by
  rw [cast_self]
  exact add_eq PB b s hs c (back_bwd b s hs c)

theorem sPay_rs (b : Bool) (i : Fin 9) (s : ℕ) (h : i.val = s) (hs : s < 3) (c : Dev nD) : sPay PB b i c = outP c (row0 b (back b s c)) 256 (acc PB b s c) := by
  subst h; unfold sPay; rw [if_pos hs]
theorem rPay_rs (b : Bool) (i : Fin 9) (s : ℕ) (h : i.val = s) (hs : s < 3) (c : Dev nD) :
    rPay PB b i c = iprop(slotP b c s (slotV PB b s (bwd b c)) ∗ extra b i (bwd b c)) := by
  subst h; unfold rPay; rw [if_pos hs]
theorem sPay_ag (b : Bool) (i : Fin 9) (t : ℕ) (h : i.val = 3 + t) (c : Dev nD) : sPay PB b i c = hv PB b t c := by
  unfold sPay hv; rw [if_neg (by omega), show i.val - 3 = t by omega]
theorem rPay_ag (b : Bool) (i : Fin 9) (t : Fin 6) (u : ℕ) (hu : t.val + 2 = u) (h : i.val = 3 + t.val) (c : Dev nD) :
    rPay PB b i c = iprop(hv PB b u c ∗ extra b i (bwd b c)) := by
  subst hu
  unfold rPay; rw [if_neg (by omega), show i.val - 3 = t.val by omega, hv_next]

variable {c : Dev nD} {α : Type} {Q : α → sProp (MT nD τ sig Unit (Elt F) ℕ UU ℕ)}

theorem push_cw (K : Dev nD × Ck → ℕ) {n : Dev nD} (j : ℕ) (hd : dirAt j = false) {s : ℕ} (hs : (stepOf j).val = s) (hs3 : s < 3)
    {off : Fin 2 → ℕ} (hoff : off = ![row0 false (back false s c), 0]) {inb : ∀ a, off a + S256x1024.size a ≤ S2048x1024.size a}
    {offd : Fin 3 → ℕ} (hoffd : offd = ![s, 0, 0]) {inbd : ∀ a, offd a + S1x256x1024.size a ≤ S3x256x1024.size a}
    (hn : n = fwd false c) {q q' : DmaSem sig} (hq : q = sm false false (stepOf j)) (hq' : q' = sm false true (stepOf j))
    {a : ℕ} (hab : a ≤ j) (hb : j < 18) {X : sProp 𝕄} (hX : X ⊢ extra false (stepOf j) c)
    {hsc hsrc hdst hsem} {k : PUnit → Prog (TpuEff nD τ sig (Elt F) Λ₀ .tc) α} :
    env PB K ⊢ iprop(SS c a j -∗ ow c (owed c (17 - j + 1)) -∗ outP c (row0 false (back false s c)) 256 (acc PB false s c)
      -∗ (∃ g, slotP false (fwd false c) s g) -∗ X
      -∗ ((SS c a (j + 1) ∗ ow c (owed c (17 - j))) -∗ wp frame (wpE (defs₀ (F := F)) Variants.none (c : Thread nD τ) none) Set.univ (k ⟨⟩) Q)
      -∗ wp frame (wpE (defs₀ (F := F)) Variants.none (c : Thread nD τ) none) Set.univ
          (.op (.enqueueDma (oM.slice (Rect.unit (s := S2048x1024) off S256x1024.size inb) (fun _ => rfl))
            (.remote (Dev.tc n : Thread nD τ) ((cwM.slice (Rect.unit (s := S3x256x1024) offd S1x256x1024.size inbd) (fun _ => rfl)).squeeze S256x1024 squeezes_S1x256x1024_S256x1024) (.dma q) hsc) (.dma q') hsrc hdst hsem) k) Q) := by
  subst hn
  exact send_cw PB K j hd hs hs3 hoff hoffd rfl hq hq' hab hb hX

theorem push_ccw (K : Dev nD × Ck → ℕ) {n : Dev nD} (j : ℕ) (hd : dirAt j = true) {s : ℕ} (hs : (stepOf j).val = s) (hs3 : s < 3)
    {off : Fin 2 → ℕ} (hoff : off = ![row0 true (back true s c), 0]) {inb : ∀ a, off a + S256x1024.size a ≤ S2048x1024.size a}
    {offd : Fin 3 → ℕ} (hoffd : offd = ![s, 0, 0]) {inbd : ∀ a, offd a + S1x256x1024.size a ≤ S3x256x1024.size a}
    (hn : n = fwd true c) {q q' : DmaSem sig} (hq : q = sm true false (stepOf j)) (hq' : q' = sm true true (stepOf j))
    {a : ℕ} (hab : a ≤ j) (hb : j < 18) {X : sProp 𝕄} (hX : X ⊢ extra true (stepOf j) c)
    {hsc hsrc hdst hsem} {k : PUnit → Prog (TpuEff nD τ sig (Elt F) Λ₀ .tc) α} :
    env PB K ⊢ iprop(SS c a j -∗ ow c (owed c (17 - j + 1)) -∗ outP c (row0 true (back true s c)) 256 (acc PB true s c)
      -∗ (∃ g, slotP true (fwd true c) s g) -∗ X
      -∗ ((SS c a (j + 1) ∗ ow c (owed c (17 - j))) -∗ wp frame (wpE (defs₀ (F := F)) Variants.none (c : Thread nD τ) none) Set.univ (k ⟨⟩) Q)
      -∗ wp frame (wpE (defs₀ (F := F)) Variants.none (c : Thread nD τ) none) Set.univ
          (.op (.enqueueDma (oM.slice (Rect.unit (s := S2048x1024) off S256x1024.size inb) (fun _ => rfl))
            (.remote (Dev.tc n : Thread nD τ) ((ccwM.slice (Rect.unit (s := S3x256x1024) offd S1x256x1024.size inbd) (fun _ => rfl)).squeeze S256x1024 squeezes_S1x256x1024_S256x1024) (.dma q) hsc) (.dma q') hsrc hdst hsem) k) Q) := by
  subst hn
  exact send_ccw PB K j hd hs hs3 hoff hoffd rfl hq hq' hab hb hX

end Cert.KernelIdealProof
end
-- ==== Proof.KernelIdeal.Scatter.lean ====
/-
The kernel's own program: the copies in, the first two chunks, and the reduce-scatter.
-/
module

public import proofs.«01_k».proof.Proof.KernelIdeal.Mid

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- One head's keys before their copy, and its values. -/
def inK (I : Dev nD → Ins F) (c : Dev nD) (j : Fin 8) : sProp (MT nD τ sig Unit (Elt F) ℕ UU ℕ) :=
  iprop(aK c j (I c).k ∗ (∃ f, sK c j f) ∗ semVal ((c : Thread nD τ), .dma (smK j)) 0)
def inV (I : Dev nD → Ins F) (c : Dev nD) (j : Fin 8) : sProp (MT nD τ sig Unit (Elt F) ℕ UU ℕ) :=
  iprop(aV c j (I c).v ∗ (∃ f, sV c j f) ∗ semVal ((c : Thread nD τ), .dma (smV j)) 0)
/-- After the copies: the arguments back, their semaphores at zero. -/
def outK (I : Dev nD → Ins F) (c : Dev nD) (j : Fin 8) : sProp (MT nD τ sig Unit (Elt F) ℕ UU ℕ) :=
  iprop(aK c j (I c).k ∗ semVal ((c : Thread nD τ), .dma (smK j)) 0)
def outV (I : Dev nD → Ins F) (c : Dev nD) (j : Fin 8) : sProp (MT nD τ sig Unit (Elt F) ℕ UU ℕ) :=
  iprop(aV c j (I c).v ∗ semVal ((c : Thread nD τ), .dma (smV j)) 0)

/-- What the rest of the kernel leaves alone. -/
def rest (I : Dev nD → Ins F) (c : Dev nD) : sProp (MT nD τ sig Unit (Elt F) ℕ UU ℕ) :=
  iprop(rdy I c ∗ sWQ c (WQ (I c) c) ∗ sWO c (WO (I c) c) ∗ aX c (I c).x ∗ aWQ c (I c).wq ∗ aWO c (I c).wo ∗ bigSep Finset.univ (outK I c) ∗ bigSep Finset.univ (outV I c)
    ∗ semVal ((c : Thread nD τ), .dma (smW 0)) 0 ∗ semVal ((c : Thread nD τ), .dma (smW 1)) 0 ∗ semVal ((c : Thread nD τ), .dma (smW 2)) 0 ∗ semVal (barC c) 0
    ∗ (∃ f, bufP false c f) ∗ ∃ f, bufP true c f)

variable {c : Dev nD} {α : Type} {Q : α → sProp (MT nD τ sig Unit (Elt F) ℕ UU ℕ)}

set_option maxHeartbeats 4000000 in
/-- The copies in, the first chunks and the reduce-scatter. -/
theorem scatter (I : Dev nD → Ins F) (K : Dev nD × Ck → ℕ) {Q : (Σ' (d0 : Dev nD) (v2 : BitVec 32) (v13 : BitVec 32) (v24 : BitVec 32), BitVec 32) → sProp (MT nD τ sig Unit (Elt F) ℕ UU ℕ)} :
    env (part I) K ⊢ iprop(aX c (I c).x -∗ (∃ f, sX c f) -∗ semVal ((c : Thread nD τ), .dma (smW 2)) 0
      -∗ aWQ c (I c).wq -∗ (∃ f, sWQ c f) -∗ semVal ((c : Thread nD τ), .dma (smW 0)) 0
      -∗ aWO c (I c).wo -∗ (∃ f, sWO c f) -∗ semVal ((c : Thread nD τ), .dma (smW 1)) 0
      -∗ bigSep Finset.univ (inK I c) -∗ bigSep Finset.univ (inV I c)
      -∗ dutyTok ER (barC (bwd false c)) 0 false -∗ dutyTok ER (barC (bwd true c)) 0 true
      -∗ (∃ f, bufP false c f) -∗ (∃ f, bufP true c f) -∗ atPos ER (barC c) 0 ∅ 0 -∗ cred (tallyAt (barC c) () 2)
      -∗ (∃ g, outP c (row0 false c) 256 g) -∗ (∃ g, outP c (row0 false (back false 1 c)) 256 g) -∗ (∃ g, outP c (row0 false (back false 2 c)) 256 g) -∗ (∃ g, outP c (row0 false (back false 3 c)) 256 g)
      -∗ (∃ g, outP c (row0 true c) 256 g) -∗ (∃ g, outP c (row0 true (back true 1 c)) 256 g) -∗ (∃ g, outP c (row0 true (back true 2 c)) 256 g) -∗ (∃ g, outP c (row0 true (back true 3 c)) 256 g)
      -∗ SS c 0 0 -∗ RR c 0 -∗ ow c (O₀ c)
      -∗ (∀ v2 v13 v24 v2245, mid (part I) c -∗ rest I c -∗ Q ⟨c, v2, v13, v24, v2245⟩)
      -∗ wp frame (wpE (defs₀ (F := F)) Variants.none (c : Thread nD τ) none) Set.univ (ap (k0_part92 (F := F))) Q) := by
  rw [eight, eight]
  unfold inK inV
  iintro #HE HaX HsX Hx HaWQ HsWQ Hwq HaWO HsWO Hwo
    ⟨⟨HaK0, HsK0, Hk0⟩, ⟨HaK1, HsK1, Hk1⟩, ⟨HaK2, HsK2, Hk2⟩, ⟨HaK3, HsK3, Hk3⟩, ⟨HaK4, HsK4, Hk4⟩, ⟨HaK5, HsK5, Hk5⟩, ⟨HaK6, HsK6, Hk6⟩, ⟨HaK7, HsK7, Hk7⟩⟩
    ⟨⟨HaV0, HsV0, Hv0⟩, ⟨HaV1, HsV1, Hv1⟩, ⟨HaV2, HsV2, Hv2⟩, ⟨HaV3, HsV3, Hv3⟩, ⟨HaV4, HsV4, Hv4⟩, ⟨HaV5, HsV5, Hv5⟩, ⟨HaV6, HsV6, Hv6⟩, ⟨HaV7, HsV7, Hv7⟩⟩
    Ht0 Ht1 Hb0 Hb1 Hat Hcr Of0 Of1 Of2 Of3 Ot0 Ot1 Ot2 Ot3 HS HV Ho HQ
  rw [k0_part92_eq_skeleton]
  unfold k0_part92_skel
  rw [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  iapply (copy_x (I c) c rfl) $$ HaX HsX Hx; iintro Hx
  iapply (copy_wq (I c) c rfl) $$ HaWQ HsWQ Hwq; iintro Hwq
  iapply (copy_wo (I c) c rfl) $$ HaWO HsWO Hwo; iintro Hwo
  iapply (copy_k (I c) c 0 rfl rfl rfl) $$ HaK0 HsK0 Hk0; iintro Hk0
  iapply (copy_v (I c) c 0 rfl rfl rfl) $$ HaV0 HsV0 Hv0; iintro Hv0
  iapply (copy_k (I c) c 1 rfl rfl rfl) $$ HaK1 HsK1 Hk1; iintro Hk1
  iapply (copy_v (I c) c 1 rfl rfl rfl) $$ HaV1 HsV1 Hv1; iintro Hv1
  iapply (copy_k (I c) c 2 rfl rfl rfl) $$ HaK2 HsK2 Hk2; iintro Hk2
  iapply (copy_v (I c) c 2 rfl rfl rfl) $$ HaV2 HsV2 Hv2; iintro Hv2
  iapply (copy_k (I c) c 3 rfl rfl rfl) $$ HaK3 HsK3 Hk3; iintro Hk3
  iapply (copy_v (I c) c 3 rfl rfl rfl) $$ HaV3 HsV3 Hv3; iintro Hv3
  iapply (copy_k (I c) c 4 rfl rfl rfl) $$ HaK4 HsK4 Hk4; iintro Hk4
  iapply (copy_v (I c) c 4 rfl rfl rfl) $$ HaV4 HsV4 Hv4; iintro Hv4
  iapply (copy_k (I c) c 5 rfl rfl rfl) $$ HaK5 HsK5 Hk5; iintro Hk5
  iapply (copy_v (I c) c 5 rfl rfl rfl) $$ HaV5 HsV5 Hv5; iintro Hv5
  iapply (copy_k (I c) c 6 rfl rfl rfl) $$ HaK6 HsK6 Hk6; iintro Hk6
  iapply (copy_v (I c) c 6 rfl rfl rfl) $$ HaV6 HsV6 Hv6; iintro Hv6
  iapply (copy_k (I c) c 7 rfl rfl rfl) $$ HaK7 HsK7 Hk7; iintro Hk7
  iapply (copy_v (I c) c 7 rfl rfl rfl) $$ HaV7 HsV7 Hv7; iintro Hv7
  iapply (signal_bar (part I) K false (dev1_eq c) rfl rfl (O₂ := O₀ c) (O₁ c) rfl) $$ HE Ht0 Hb0 Ho; iintro Ho
  iapply (signal_bar (part I) K true (dev2_eq c) rfl rfl (O₂ := O₁ c) (owed c 18) rfl) $$ HE Ht1 Hb1 Ho; iintro Ho
  iapply (wait_bar (part I) K rfl rfl) $$ HE Hat Hcr Ho; iintro ⟨Hd0, Hd1, Hbar, Ho⟩
  unfold flX flWQ flWO flK flV
  iapply (wait_in (part I) K (by decide) rfl) $$ HE Hx Ho; iintro ⟨⟨HX, HaX⟩, Hx, Ho⟩
  rw [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold k0_part6_skel k0_part7_skel k0_part8_skel k0_part9_skel k0_part10_skel k0_part11_skel k0_part12_skel k0_part13_skel k0_part14_skel
  simp only [semSignalWord, semWaitWord, Prog.lift, Prog.bind_op, Prog.bind_ret, Prog.pure_eq_ret]
  iapply (wait_in (part I) K (by decide) rfl) $$ HE Hwq Ho; iintro ⟨⟨HWQ, HaWQ⟩, Hwq, Ho⟩
  iapply (wait_in (part I) K (by decide) rfl) $$ HE Hwo Ho; iintro ⟨⟨HWO, HaWO⟩, Hwo, Ho⟩
  iapply (wait_in (part I) K (by decide) rfl) $$ HE Hk0 Ho; iintro ⟨⟨HsK0, HaK0⟩, Hk0, Ho⟩
  iapply (wait_in (part I) K (by decide) rfl) $$ HE Hv0 Ho; iintro ⟨⟨HsV0, HaV0⟩, Hv0, Ho⟩
  iapply (wait_in (part I) K (by decide) rfl) $$ HE Hk1 Ho; iintro ⟨⟨HsK1, HaK1⟩, Hk1, Ho⟩
  iapply (wait_in (part I) K (by decide) rfl) $$ HE Hv1 Ho; iintro ⟨⟨HsV1, HaV1⟩, Hv1, Ho⟩
  iapply (wait_in (part I) K (by decide) rfl) $$ HE Hk2 Ho; iintro ⟨⟨HsK2, HaK2⟩, Hk2, Ho⟩
  iapply (wait_in (part I) K (by decide) rfl) $$ HE Hv2 Ho; iintro ⟨⟨HsV2, HaV2⟩, Hv2, Ho⟩
  iapply (wait_in (part I) K (by decide) rfl) $$ HE Hk3 Ho; iintro ⟨⟨HsK3, HaK3⟩, Hk3, Ho⟩
  iapply (wait_in (part I) K (by decide) rfl) $$ HE Hv3 Ho; iintro ⟨⟨HsV3, HaV3⟩, Hv3, Ho⟩
  iapply (wait_in (part I) K (by decide) rfl) $$ HE Hk4 Ho; iintro ⟨⟨HsK4, HaK4⟩, Hk4, Ho⟩
  iapply (wait_in (part I) K (by decide) rfl) $$ HE Hv4 Ho; iintro ⟨⟨HsV4, HaV4⟩, Hv4, Ho⟩
  iapply (wait_in (part I) K (by decide) rfl) $$ HE Hk5 Ho; iintro ⟨⟨HsK5, HaK5⟩, Hk5, Ho⟩
  iapply (wait_in (part I) K (by decide) rfl) $$ HE Hv5 Ho; iintro ⟨⟨HsV5, HaV5⟩, Hv5, Ho⟩
  iapply (wait_in (part I) K (by decide) rfl) $$ HE Hk6 Ho; iintro ⟨⟨HsK6, HaK6⟩, Hk6, Ho⟩
  iapply (wait_in (part I) K (by decide) rfl) $$ HE Hv6 Ho; iintro ⟨⟨HsV6, HaV6⟩, Hv6, Ho⟩
  iapply (wait_in (part I) K (by decide) rfl) $$ HE Hk7 Ho; iintro ⟨⟨HsK7, HaK7⟩, Hk7, Ho⟩
  iapply (wait_in (part I) K (by decide) rfl) $$ HE Hv7 Ho; iintro ⟨⟨HsV7, HaV7⟩, Hv7, Ho⟩
  iapply (ld_wq) $$ HWQ; iintro HWQ
  iapply (ld_wo) $$ HWO; iintro HWO
  ihave HK := (Entails.of_eq ((split_wK c (KG (I c))).trans (eight _)).symm) $$ [HsK0 HsK1 HsK2 HsK3 HsK4 HsK5 HsK6 HsK7]
  · iframe
  ihave HVV := (Entails.of_eq ((split_wV c (VG (I c))).trans (eight _)).symm) $$ [HsV0 HsV1 HsV2 HsV3 HsV4 HsV5 HsV6 HsV7]
  · iframe
  ihave HR : (rdy I c) $$ [HX HK HVV]
  · unfold rdy; iframe
  icases (slot_split false (fwd false c)) $$ Hd0 with ⟨Df0, Df1, Df2⟩
  icases (slot_split true (fwd true c)) $$ Hd1 with ⟨Dt0, Dt1, Dt2⟩
  iapply (block I false c (rows_a c).1 (rows_a c).2 (wins_a c) _ (by generalize c = d; revert d; decide +kernel) rfl) $$ HR Of0; iintro HR Of0
  rw [k0_part15_eq_skeleton, k0_part16_eq_skeleton, k0_part17_eq_skeleton, k0_part18_eq_skeleton, k0_part19_eq_skeleton]
  unfold k0_part15_skel k0_part16_skel k0_part17_skel k0_part18_skel k0_part19_skel
  simp only [semSignalWord, semWaitWord, Prog.lift, Prog.bind_op, Prog.bind_ret, Prog.pure_eq_ret]
  iapply (block I true c (rows_b c).1 (rows_b c).2 (wins_b c) _ (by generalize c = d; revert d; decide +kernel) rfl) $$ HR Ot0; iintro HR Ot0
  ihave Of0 := (show outP c (row0 false c) 256 (part I c) ⊢ outP c (row0 false (back false 0 c)) 256 (acc (part I) false 0 c) from BI.Entails.refl _) $$ Of0
  ihave Ot0 := (show outP c (row0 true c) 256 (part I c) ⊢ outP c (row0 true (back true 0 c)) 256 (acc (part I) true 0 c) from BI.Entails.refl _) $$ Ot0
  rw [k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
  unfold k0_part20_skel k0_part21_skel k0_part22_skel k0_part23_skel k0_part24_skel k0_part25_skel k0_part26_skel k0_part27_skel k0_part28_skel k0_part29_skel k0_part30_skel k0_part31_skel k0_part32_skel k0_part33_skel
  simp only [semSignalWord, semWaitWord, Prog.lift, Prog.bind_op, Prog.bind_ret, Prog.pure_eq_ret]
  iapply (push_cw (part I) K 0 rfl (s := 0) rfl (by decide) (rows_cw c 0).1 rfl (dev_cw c).1 rfl rfl (a := 0) (by decide) (by decide) (X := iprop(emp)) (BI.Entails.refl _)) $$ HE HS Ho Of0 Df0 []
  · iempintro
  iintro ⟨HS, Ho⟩
  iapply (push_ccw (part I) K 1 rfl (s := 0) rfl (by decide) (rows_ccw c 0).1 rfl (dev_ccw c).1 rfl rfl (a := 0) (by decide) (by decide) (X := iprop(emp)) (BI.Entails.refl _)) $$ HE HS Ho Ot0 Dt0 []
  · iempintro
  iintro ⟨HS, Ho⟩
  iapply (block I false (back false 1 c) (rows_cw c 0).2.1 (rows_cw c 0).2.2 (wins_cw c 0) _ (by generalize c = d; revert d; decide +kernel) rfl) $$ HR Of1; iintro HR Of1
  iapply (block I true (back true 1 c) (rows_ccw c 0).2.1 (rows_ccw c 0).2.2 (wins_ccw c 0) _ (by generalize c = d; revert d; decide +kernel) rfl) $$ HR Ot1; iintro HR Ot1
  iapply (wait_send (part I) K 0 (sPay_rs (part I) false 0 0 rfl (by decide) c) ?_ rfl (by decide) (by decide)) $$ HE HS Ho
  · rfl
  iintro ⟨Pf0, HS, Ho⟩
  ihave Xt1 := (show outP c (row0 false (back false 0 c)) 256 (acc (part I) false 0 c) ⊢ extra true 1 c from ext1 false c _) $$ Pf0
  iapply (wait_recv (part I) K 0 (rPay_rs (part I) false 0 0 rfl (by decide) c) ?_ rfl (by decide) (by decide) (by decide)) $$ HE HV Ho
  · rfl
  iintro ⟨⟨Lf0, -⟩, HV, Ho⟩
  iapply (wait_send (part I) K 1 (sPay_rs (part I) true 0 0 rfl (by decide) c) ?_ rfl (by decide) (by decide)) $$ HE HS Ho
  · rfl
  iintro ⟨Pt0, HS, Ho⟩
  ihave Xf1 := (show outP c (row0 true (back true 0 c)) 256 (acc (part I) true 0 c) ⊢ extra false 1 c from ext1 true c _) $$ Pt0
  iapply (wait_recv (part I) K 1 (rPay_rs (part I) true 0 0 rfl (by decide) c) ?_ rfl (by decide) (by decide) (by decide)) $$ HE HV Ho
  · rfl
  iintro ⟨⟨Lt0, -⟩, HV, Ho⟩
  iapply (ld_out (row0 false (back false 1 c)) (rows_cw c 0).2.2) $$ Of1; iintro Of1
  iapply (ld_cw 0 rfl) $$ Lf0; iintro Lf0
  iapply (ld_out (row0 false (back false 1 c)) (rows_cw c 0).2.2) $$ Of1; iintro Of1
  iapply (st_out (row0 false (back false 1 c)) (rows_cw c 0).2.2 (acc (part I) false 1 c) (add_step (part I) false 0 (by decide) c)) $$ Of1; iintro Of1
  iapply (ld_out (row0 true (back true 1 c)) (rows_ccw c 0).2.2) $$ Ot1; iintro Ot1
  iapply (ld_ccw 0 rfl) $$ Lt0; iintro Lt0
  iapply (ld_out (row0 true (back true 1 c)) (rows_ccw c 0).2.2) $$ Ot1; iintro Ot1
  iapply (st_out (row0 true (back true 1 c)) (rows_ccw c 0).2.2 (acc (part I) true 1 c) (add_step (part I) true 0 (by decide) c)) $$ Ot1; iintro Ot1
  rw [k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
  unfold k0_part34_skel k0_part35_skel k0_part36_skel k0_part37_skel k0_part38_skel k0_part39_skel k0_part40_skel k0_part41_skel k0_part42_skel k0_part43_skel k0_part44_skel k0_part45_skel k0_part46_skel k0_part47_skel
  simp only [semSignalWord, semWaitWord, Prog.lift, Prog.bind_op, Prog.bind_ret, Prog.pure_eq_ret]
  iapply (push_cw (part I) K 2 rfl (s := 1) rfl (by decide) (rows_cw c 1).1 rfl (dev_cw c).2.1 rfl rfl (a := 2) (by decide) (by decide) (X := extra false 1 c) (BI.Entails.refl _)) $$ HE HS Ho Of1 Df1 Xf1; iintro ⟨HS, Ho⟩
  iapply (push_ccw (part I) K 3 rfl (s := 1) rfl (by decide) (rows_ccw c 1).1 rfl (dev_ccw c).2.1 rfl rfl (a := 2) (by decide) (by decide) (X := extra true 1 c) (BI.Entails.refl _)) $$ HE HS Ho Ot1 Dt1 Xt1; iintro ⟨HS, Ho⟩
  iapply (block I false (back false 2 c) (rows_cw c 1).2.1 (rows_cw c 1).2.2 (wins_cw c 1) _ (by generalize c = d; revert d; decide +kernel) rfl) $$ HR Of2; iintro HR Of2
  iapply (block I true (back true 2 c) (rows_ccw c 1).2.1 (rows_ccw c 1).2.2 (wins_ccw c 1) _ (by generalize c = d; revert d; decide +kernel) rfl) $$ HR Ot2; iintro HR Ot2
  iapply (wait_send (part I) K 2 (sPay_rs (part I) false 1 1 rfl (by decide) c) ?_ rfl (by decide) (by decide)) $$ HE HS Ho
  · rfl
  iintro ⟨Pf1, HS, Ho⟩
  ihave Xt2 := (show outP c (row0 false (back false 1 c)) 256 (acc (part I) false 1 c) ⊢ extra true 2 c from ext2 false c _) $$ Pf1
  iapply (wait_recv (part I) K 2 (rPay_rs (part I) false 1 1 rfl (by decide) c) ?_ rfl (by decide) (by decide) (by decide)) $$ HE HV Ho
  · rfl
  iintro ⟨⟨Lf1, E⟩, HV, Ho⟩
  icases (show extra (F := F) false 1 (bwd false c) ⊢ iprop(dst true 0 c ∗ dst true 1 c) from dst01 true c) $$ E with ⟨Gt0, Gt1⟩
  iapply (wait_send (part I) K 3 (sPay_rs (part I) true 1 1 rfl (by decide) c) ?_ rfl (by decide) (by decide)) $$ HE HS Ho
  · rfl
  iintro ⟨Pt1, HS, Ho⟩
  ihave Xf2 := (show outP c (row0 true (back true 1 c)) 256 (acc (part I) true 1 c) ⊢ extra false 2 c from ext2 true c _) $$ Pt1
  iapply (wait_recv (part I) K 3 (rPay_rs (part I) true 1 1 rfl (by decide) c) ?_ rfl (by decide) (by decide) (by decide)) $$ HE HV Ho
  · rfl
  iintro ⟨⟨Lt1, E⟩, HV, Ho⟩
  icases (show extra (F := F) true 1 (bwd true c) ⊢ iprop(dst false 0 c ∗ dst false 1 c) from dst01 false c) $$ E with ⟨Gf0, Gf1⟩
  iapply (ld_out (row0 false (back false 2 c)) (rows_cw c 1).2.2) $$ Of2; iintro Of2
  iapply (ld_cw 1 rfl) $$ Lf1; iintro Lf1
  iapply (ld_out (row0 false (back false 2 c)) (rows_cw c 1).2.2) $$ Of2; iintro Of2
  iapply (st_out (row0 false (back false 2 c)) (rows_cw c 1).2.2 (acc (part I) false 2 c) (add_step (part I) false 1 (by decide) c)) $$ Of2; iintro Of2
  iapply (ld_out (row0 true (back true 2 c)) (rows_ccw c 1).2.2) $$ Ot2; iintro Ot2
  iapply (ld_ccw 1 rfl) $$ Lt1; iintro Lt1
  iapply (ld_out (row0 true (back true 2 c)) (rows_ccw c 1).2.2) $$ Ot2; iintro Ot2
  iapply (st_out (row0 true (back true 2 c)) (rows_ccw c 1).2.2 (acc (part I) true 2 c) (add_step (part I) true 1 (by decide) c)) $$ Ot2; iintro Ot2
  rw [k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
  unfold k0_part48_skel k0_part49_skel k0_part50_skel k0_part51_skel k0_part52_skel k0_part53_skel k0_part54_skel k0_part55_skel k0_part56_skel k0_part57_skel k0_part58_skel k0_part59_skel k0_part60_skel
  simp only [semSignalWord, semWaitWord, Prog.lift, Prog.bind_op, Prog.bind_ret, Prog.pure_eq_ret]
  iapply (push_cw (part I) K 4 rfl (s := 2) rfl (by decide) (rows_cw c 2).1 rfl (dev_cw c).2.2.1 rfl rfl (a := 4) (by decide) (by decide) (X := extra false 2 c) (BI.Entails.refl _)) $$ HE HS Ho Of2 Df2 Xf2; iintro ⟨HS, Ho⟩
  iapply (push_ccw (part I) K 5 rfl (s := 2) rfl (by decide) (rows_ccw c 2).1 rfl (dev_ccw c).2.2.1 rfl rfl (a := 4) (by decide) (by decide) (X := extra true 2 c) (BI.Entails.refl _)) $$ HE HS Ho Ot2 Dt2 Xt2; iintro ⟨HS, Ho⟩
  iapply (block I false (back false 3 c) (rows_cw c 2).2.1 (rows_cw c 2).2.2 (wins_cw c 2) _ (by generalize c = d; revert d; decide +kernel) rfl) $$ HR Of3; iintro HR Of3
  iapply (block I true (back true 3 c) (rows_ccw c 2).2.1 (rows_ccw c 2).2.2 (wins_ccw c 2) _ (by generalize c = d; revert d; decide +kernel) rfl) $$ HR Ot3; iintro HR Ot3
  iapply (wait_send (part I) K 4 (sPay_rs (part I) false 2 2 rfl (by decide) c) ?_ rfl (by decide) (by decide)) $$ HE HS Ho
  · rfl
  iintro ⟨Pf2, HS, Ho⟩
  icases (show outP c (row0 false (back false 2 c)) 256 (acc (part I) false 2 c) ⊢ iprop(extra true 3 c ∗ extra true 4 c) from ext34 false c _) $$ Pf2 with ⟨Xt3, Xt4⟩
  iapply (wait_recv (part I) K 4 (rPay_rs (part I) false 2 2 rfl (by decide) c) ?_ rfl (by decide) (by decide) (by decide)) $$ HE HV Ho
  · rfl
  iintro ⟨⟨Lf2, E⟩, HV, Ho⟩
  icases (show extra (F := F) false 2 (bwd false c) ⊢ iprop(dst true 2 c ∗ dst true 3 c) from dst23 true c) $$ E with ⟨Gt2, Gt3⟩
  iapply (wait_send (part I) K 5 (sPay_rs (part I) true 2 2 rfl (by decide) c) ?_ rfl (by decide) (by decide)) $$ HE HS Ho
  · rfl
  iintro ⟨Pt2, HS, Ho⟩
  icases (show outP c (row0 true (back true 2 c)) 256 (acc (part I) true 2 c) ⊢ iprop(extra false 3 c ∗ extra false 4 c) from ext34 true c _) $$ Pt2 with ⟨Xf3, Xf4⟩
  iapply (wait_recv (part I) K 5 (rPay_rs (part I) true 2 2 rfl (by decide) c) ?_ rfl (by decide) (by decide) (by decide)) $$ HE HV Ho
  · rfl
  iintro ⟨⟨Lt2, E⟩, HV, Ho⟩
  icases (show extra (F := F) true 2 (bwd true c) ⊢ iprop(dst false 2 c ∗ dst false 3 c) from dst23 false c) $$ E with ⟨Gf2, Gf3⟩
  iapply (ld_out (row0 false (back false 3 c)) (rows_cw c 2).2.2) $$ Of3; iintro Of3
  iapply (ld_cw 2 rfl) $$ Lf2; iintro Lf2
  iapply (ld_out (row0 false (back false 3 c)) (rows_cw c 2).2.2) $$ Of3; iintro Of3
  iapply (st_out (row0 false (back false 3 c)) (rows_cw c 2).2.2 (acc (part I) false 3 c) (add_step (part I) false 2 (by decide) c)) $$ Of3; iintro Of3
  iapply (ld_out (row0 true (back true 3 c)) (rows_ccw c 2).2.2) $$ Ot3; iintro Ot3
  iapply (ld_ccw 2 rfl) $$ Lt2; iintro Lt2
  iapply (ld_out (row0 true (back true 3 c)) (rows_ccw c 2).2.2) $$ Ot3; iintro Ot3
  iapply (st_out (row0 true (back true 3 c)) (rows_ccw c 2).2.2 (acc (part I) true 3 c) (add_step (part I) true 2 (by decide) c)) $$ Ot3; iintro Ot3
  icases (fin_two (part I) false c) $$ Of3 with ⟨Hf0, Hf1⟩
  icases (fin_two (part I) true c) $$ Ot3 with ⟨Ht0, Ht1⟩
  ihave Bf := (slot_join false c _ _ _) $$ [Lf0 Lf1 Lf2]
  · iframe
  ihave Bt := (slot_join true c _ _ _) $$ [Lt0 Lt1 Lt2]
  · iframe
  rw [wp_ret]
  imodintro
  iapply HQ $$ [HS HV Ho Hf0 Hf1 Xf3 Xf4 Gf0 Gf1 Gf2 Gf3 Ht0 Ht1 Xt3 Xt4 Gt0 Gt1 Gt2 Gt3]
  · unfold mid ag hv; iframe
  unfold rest
  rw [eight, eight]
  unfold outK outV
  iframe

end Cert.KernelIdealProof
end
-- ==== Proof.KernelIdeal.Gather.lean ====
/-
The gathering: every device passes the finished halves around its two rings.
-/
module

public import proofs.«01_k».proof.Proof.KernelIdeal.Mid

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable {c : Dev nD} {α : Type} {Q : α → sProp (MT nD τ sig Unit (Elt F) ℕ UU ℕ)}

theorem send_hv (PB : Dev nD → OBuf F) (K : Dev nD × Ck → ℕ) {n : Dev nD} (b : Bool) (j : ℕ) (hd : dirAt j = b) {t : ℕ} (hs : (stepOf j).val = 3 + t)
    {off : Fin 2 → ℕ} (hoff : off = ![half0 b t (fwd b c), 0]) {inb inb' : ∀ a, off a + S128x1024.size a ≤ S2048x1024.size a}
    (hn : n = fwd b c) {q q' : DmaSem sig} (hq : q = sm b false (stepOf j)) (hq' : q' = sm b true (stepOf j))
    {a : ℕ} (hab : a ≤ j) (hb : j < 18) {X : sProp 𝕄} (hX : X ⊢ extra b (stepOf j) c)
    {hsc hsrc hdst hsem} {k : PUnit → Prog (TpuEff nD τ sig (Elt F) Λ₀ .tc) α} :
    env PB K ⊢ iprop(SS c a j -∗ ow c (owed c (17 - j + 1)) -∗ hv PB b t c
      -∗ dst b t c -∗ X
      -∗ ((SS c a (j + 1) ∗ ow c (owed c (17 - j))) -∗ wp frame (wpE (defs₀ (F := F)) Variants.none (c : Thread nD τ) none) Set.univ (k ⟨⟩) Q)
      -∗ wp frame (wpE (defs₀ (F := F)) Variants.none (c : Thread nD τ) none) Set.univ
          (.op (.enqueueDma (oM.slice (Rect.unit (s := S2048x1024) off S128x1024.size inb) (fun _ => rfl))
            (.remote (Dev.tc n : Thread nD τ) (oM.slice (Rect.unit (s := S2048x1024) off S128x1024.size inb') (fun _ => rfl)) (.dma q) hsc) (.dma q') hsrc hdst hsem) k) Q) := by
  subst hn
  exact send_ag PB K b j hd hs hoff rfl hq hq' hab hb hX

/-- The gathering, and the waits for the sends that are left. -/
theorem gather (PB : Dev nD → OBuf F) (K : Dev nD × Ck → ℕ) (c : Dev nD) (v2 v13 v24 v2245 : BitVec 32) {Q : PUnit → sProp (MT nD τ sig Unit (Elt F) ℕ UU ℕ)} :
    env PB K ⊢ iprop(mid PB c
      -∗ ((hv PB false 0 c ∗ hv PB true 0 c ∗ hv PB false 1 c ∗ hv PB true 1 c ∗ hv PB false 2 c ∗ hv PB true 2 c ∗ hv PB false 3 c ∗ hv PB true 3 c ∗ hv PB false 4 c
          ∗ hv PB false 6 c ∗ hv PB false 7 c ∗ hv PB true 6 c ∗ hv PB true 7 c ∗ SS c 15 18 ∗ RR c 18 ∗ ow c (owed c 0)) -∗ Q ⟨⟩)
      -∗ wp frame (wpE (defs₀ (F := F)) Variants.none (c : Thread nD τ) none) Set.univ (ap (k0_part93 (F := F)) c v2 v13 v24 v2245) Q) := by
  unfold mid ag
  iintro #HE ⟨HS, HR, Ho, ⟨Hf0, Hf1, Xf0, Xf1, Df0, Df1, Df2, Df3⟩, ⟨Ht0, Ht1, Xt0, Xt1, Dt0, Dt1, Dt2, Dt3⟩⟩ HQ
  rw [k0_part93_eq_skeleton]
  unfold k0_part93_skel
  rw [k0_part61_eq_skeleton, k0_part62_eq_skeleton, k0_part63_eq_skeleton, k0_part64_eq_skeleton, k0_part65_eq_skeleton, k0_part66_eq_skeleton]
  unfold k0_part61_skel k0_part62_skel k0_part63_skel k0_part64_skel k0_part65_skel k0_part66_skel
  simp only [semSignalWord, semWaitWord, Prog.lift, Prog.bind_op, Prog.bind_ret, Prog.pure_eq_ret]
  iapply (send_hv PB K false 6 rfl (t := 0) rfl (half_cw c 0 0) (dev_cw c).2.2.2.1 rfl rfl (a := 6) (by decide) (by decide) (X := extra false 3 c) (BI.Entails.refl _)) $$ HE HS Ho Hf0 Df0 Xf0; iintro ⟨HS, Ho⟩
  iapply (send_hv PB K true 7 rfl (t := 0) rfl (half_ccw c 0 0) (dev_ccw c).2.2.2.1 rfl rfl (a := 6) (by decide) (by decide) (X := extra true 3 c) (BI.Entails.refl _)) $$ HE HS Ho Ht0 Dt0 Xt0; iintro ⟨HS, Ho⟩
  iapply (send_hv PB K false 8 rfl (t := 1) rfl (half_cw c 0 1) (dev_cw c).2.2.2.2.1 rfl rfl (a := 6) (by decide) (by decide) (X := extra false 4 c) (BI.Entails.refl _)) $$ HE HS Ho Hf1 Df1 Xf1; iintro ⟨HS, Ho⟩
  iapply (send_hv PB K true 9 rfl (t := 1) rfl (half_ccw c 0 1) (dev_ccw c).2.2.2.2.1 rfl rfl (a := 6) (by decide) (by decide) (X := extra true 4 c) (BI.Entails.refl _)) $$ HE HS Ho Ht1 Dt1 Xt1; iintro ⟨HS, Ho⟩
  rw [k0_part67_eq_skeleton, k0_part68_eq_skeleton, k0_part69_eq_skeleton, k0_part70_eq_skeleton, k0_part71_eq_skeleton]
  unfold k0_part67_skel k0_part68_skel k0_part69_skel k0_part70_skel k0_part71_skel
  simp only [semSignalWord, semWaitWord, Prog.lift, Prog.bind_op, Prog.bind_ret, Prog.pure_eq_ret]
  iapply (wait_recv PB K 6 (rPay_ag PB false 3 0 2 rfl rfl c) ?_ rfl (by decide) (by decide) (by decide)) $$ HE HR Ho
  · rfl
  iintro ⟨⟨Hf2, E⟩, HR, Ho⟩
  ihave Dt4 := (show extra (F := F) false 3 (bwd false c) ⊢ dst true 4 c from dst4 true c) $$ E
  iapply (wait_recv PB K 7 (rPay_ag PB true 3 0 2 rfl rfl c) ?_ rfl (by decide) (by decide) (by decide)) $$ HE HR Ho
  · rfl
  iintro ⟨⟨Ht2, E⟩, HR, Ho⟩
  ihave Df4 := (show extra (F := F) true 3 (bwd true c) ⊢ dst false 4 c from dst4 false c) $$ E
  iapply (send_hv PB K false 10 rfl (t := 2) rfl (half_cw c 1 0) (dev_cw c).2.2.2.2.2.1 rfl rfl (a := 6) (by decide) (by decide) (X := iprop(emp)) (BI.Entails.refl _)) $$ HE HS Ho Hf2 Df2 []
  · iempintro
  iintro ⟨HS, Ho⟩
  iapply (send_hv PB K true 11 rfl (t := 2) rfl (half_ccw c 1 0) (dev_ccw c).2.2.2.2.2.1 rfl rfl (a := 6) (by decide) (by decide) (X := iprop(emp)) (BI.Entails.refl _)) $$ HE HS Ho Ht2 Dt2 []
  · iempintro
  iintro ⟨HS, Ho⟩
  rw [k0_part72_eq_skeleton, k0_part73_eq_skeleton, k0_part74_eq_skeleton, k0_part75_eq_skeleton, k0_part76_eq_skeleton]
  unfold k0_part72_skel k0_part73_skel k0_part74_skel k0_part75_skel k0_part76_skel
  simp only [semSignalWord, semWaitWord, Prog.lift, Prog.bind_op, Prog.bind_ret, Prog.pure_eq_ret]
  iapply (wait_recv PB K 8 (rPay_ag PB false 4 1 3 rfl rfl c) ?_ rfl (by decide) (by decide) (by decide)) $$ HE HR Ho
  · rfl
  iintro ⟨⟨Hf3, E⟩, HR, Ho⟩
  ihave Dt5 := (show extra (F := F) false 4 (bwd false c) ⊢ dst true 5 c from dst5 true c) $$ E
  iapply (wait_recv PB K 9 (rPay_ag PB true 4 1 3 rfl rfl c) ?_ rfl (by decide) (by decide) (by decide)) $$ HE HR Ho
  · rfl
  iintro ⟨⟨Ht3, E⟩, HR, Ho⟩
  ihave Df5 := (show extra (F := F) true 4 (bwd true c) ⊢ dst false 5 c from dst5 false c) $$ E
  iapply (send_hv PB K false 12 rfl (t := 3) rfl (half_cw c 1 1) (dev_cw c).2.2.2.2.2.2.1 rfl rfl (a := 6) (by decide) (by decide) (X := iprop(emp)) (BI.Entails.refl _)) $$ HE HS Ho Hf3 Df3 []
  · iempintro
  iintro ⟨HS, Ho⟩
  iapply (send_hv PB K true 13 rfl (t := 3) rfl (half_ccw c 1 1) (dev_ccw c).2.2.2.2.2.2.1 rfl rfl (a := 6) (by decide) (by decide) (X := iprop(emp)) (BI.Entails.refl _)) $$ HE HS Ho Ht3 Dt3 []
  · iempintro
  iintro ⟨HS, Ho⟩
  rw [k0_part77_eq_skeleton, k0_part78_eq_skeleton, k0_part79_eq_skeleton, k0_part80_eq_skeleton, k0_part81_eq_skeleton]
  unfold k0_part77_skel k0_part78_skel k0_part79_skel k0_part80_skel k0_part81_skel
  simp only [semSignalWord, semWaitWord, Prog.lift, Prog.bind_op, Prog.bind_ret, Prog.pure_eq_ret]
  iapply (wait_recv PB K 10 (rPay_ag PB false 5 2 4 rfl rfl c) ?_ rfl (by decide) (by decide) (by decide)) $$ HE HR Ho
  · rfl
  iintro ⟨⟨Hf4, -⟩, HR, Ho⟩
  iapply (wait_recv PB K 11 (rPay_ag PB true 5 2 4 rfl rfl c) ?_ rfl (by decide) (by decide) (by decide)) $$ HE HR Ho
  · rfl
  iintro ⟨⟨Ht4, -⟩, HR, Ho⟩
  iapply (send_hv PB K false 14 rfl (t := 4) rfl (half_cw c 2 0) (dev_cw c).2.2.2.2.2.2.2.1 rfl rfl (a := 6) (by decide) (by decide) (X := iprop(emp)) (BI.Entails.refl _)) $$ HE HS Ho Hf4 Df4 []
  · iempintro
  iintro ⟨HS, Ho⟩
  iapply (send_hv PB K true 15 rfl (t := 4) rfl (half_ccw c 2 0) (dev_ccw c).2.2.2.2.2.2.2.1 rfl rfl (a := 6) (by decide) (by decide) (X := iprop(emp)) (BI.Entails.refl _)) $$ HE HS Ho Ht4 Dt4 []
  · iempintro
  iintro ⟨HS, Ho⟩
  rw [k0_part82_eq_skeleton, k0_part83_eq_skeleton, k0_part84_eq_skeleton, k0_part85_eq_skeleton, k0_part86_eq_skeleton]
  unfold k0_part82_skel k0_part83_skel k0_part84_skel k0_part85_skel k0_part86_skel
  simp only [semSignalWord, semWaitWord, Prog.lift, Prog.bind_op, Prog.bind_ret, Prog.pure_eq_ret]
  iapply (wait_recv PB K 12 (rPay_ag PB false 6 3 5 rfl rfl c) ?_ rfl (by decide) (by decide) (by decide)) $$ HE HR Ho
  · rfl
  iintro ⟨⟨Hf5, -⟩, HR, Ho⟩
  iapply (wait_recv PB K 13 (rPay_ag PB true 6 3 5 rfl rfl c) ?_ rfl (by decide) (by decide) (by decide)) $$ HE HR Ho
  · rfl
  iintro ⟨⟨Ht5, -⟩, HR, Ho⟩
  iapply (send_hv PB K false 16 rfl (t := 5) rfl (half_cw c 2 1) (dev_cw c).2.2.2.2.2.2.2.2 rfl rfl (a := 6) (by decide) (by decide) (X := iprop(emp)) (BI.Entails.refl _)) $$ HE HS Ho Hf5 Df5 []
  · iempintro
  iintro ⟨HS, Ho⟩
  iapply (send_hv PB K true 17 rfl (t := 5) rfl (half_ccw c 2 1) (dev_ccw c).2.2.2.2.2.2.2.2 rfl rfl (a := 6) (by decide) (by decide) (X := iprop(emp)) (BI.Entails.refl _)) $$ HE HS Ho Ht5 Dt5 []
  · iempintro
  iintro ⟨HS, Ho⟩
  rw [k0_part87_eq_skeleton, k0_part88_eq_skeleton, k0_part89_eq_skeleton, k0_part90_eq_skeleton, k0_part91_eq_skeleton]
  unfold k0_part87_skel k0_part88_skel k0_part89_skel k0_part90_skel k0_part91_skel
  simp only [semSignalWord, semWaitWord, Prog.lift, Prog.bind_op, Prog.bind_ret, Prog.pure_eq_ret]
  iapply (wait_recv PB K 14 (rPay_ag PB false 7 4 6 rfl rfl c) ?_ rfl (by decide) (by decide) (by decide)) $$ HE HR Ho
  · rfl
  iintro ⟨⟨Hf6, -⟩, HR, Ho⟩
  iapply (wait_recv PB K 15 (rPay_ag PB true 7 4 6 rfl rfl c) ?_ rfl (by decide) (by decide) (by decide)) $$ HE HR Ho
  · rfl
  iintro ⟨⟨Ht6, -⟩, HR, Ho⟩
  iapply (wait_recv PB K 16 (rPay_ag PB false 8 5 7 rfl rfl c) ?_ rfl (by decide) (by decide) (by decide)) $$ HE HR Ho
  · rfl
  iintro ⟨⟨Hf7, -⟩, HR, Ho⟩
  iapply (wait_recv PB K 17 (rPay_ag PB true 8 5 7 rfl rfl c) ?_ rfl (by decide) (by decide) (by decide)) $$ HE HR Ho
  · rfl
  iintro ⟨⟨Ht7, -⟩, HR, Ho⟩
  iapply (wait_send PB K 6 (sPay_ag PB false 3 0 rfl c) ?_ rfl (by decide) (by decide)) $$ HE HS Ho
  · rfl
  iintro ⟨Hf0, HS, Ho⟩
  iapply (wait_send PB K 7 (sPay_ag PB true 3 0 rfl c) ?_ rfl (by decide) (by decide)) $$ HE HS Ho
  · rfl
  iintro ⟨Ht0, HS, Ho⟩
  iapply (wait_send PB K 8 (sPay_ag PB false 4 1 rfl c) ?_ rfl (by decide) (by decide)) $$ HE HS Ho
  · rfl
  iintro ⟨Hf1, HS, Ho⟩
  iapply (wait_send PB K 9 (sPay_ag PB true 4 1 rfl c) ?_ rfl (by decide) (by decide)) $$ HE HS Ho
  · rfl
  iintro ⟨Ht1, HS, Ho⟩
  iapply (wait_send PB K 10 (sPay_ag PB false 5 2 rfl c) ?_ rfl (by decide) (by decide)) $$ HE HS Ho
  · rfl
  iintro ⟨Hf2, HS, Ho⟩
  iapply (wait_send PB K 11 (sPay_ag PB true 5 2 rfl c) ?_ rfl (by decide) (by decide)) $$ HE HS Ho
  · rfl
  iintro ⟨Ht2, HS, Ho⟩
  iapply (wait_send PB K 12 (sPay_ag PB false 6 3 rfl c) ?_ rfl (by decide) (by decide)) $$ HE HS Ho
  · rfl
  iintro ⟨Hf3, HS, Ho⟩
  iapply (wait_send PB K 13 (sPay_ag PB true 6 3 rfl c) ?_ rfl (by decide) (by decide)) $$ HE HS Ho
  · rfl
  iintro ⟨Ht3, HS, Ho⟩
  iapply (wait_send PB K 14 (sPay_ag PB false 7 4 rfl c) ?_ rfl (by decide) (by decide)) $$ HE HS Ho
  · rfl
  iintro ⟨Hf4, HS, Ho⟩
  rw [wp_ret]
  imodintro
  iapply HQ
  iframe

end Cert.KernelIdealProof
end
-- ==== Proof.KernelIdeal.Body.lean ====
/-
The whole body of the kernel on one device: the two halves and the three last waits.
-/
module

public import proofs.«01_k».proof.Proof.KernelIdeal.Scatter
public import proofs.«01_k».proof.Proof.KernelIdeal.Gather

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ
/-- The arguments, whole. -/
def args (I : Dev nD → Ins F) (c : Dev nD) : sProp 𝕄 :=
  iprop(aX c (I c).x ∗ (((c : Thread nD τ).loc main_arg1) ↦{fullShare} (I c).wq) ∗ (((c : Thread nD τ).loc main_arg2) ↦{fullShare} (I c).k)
    ∗ (((c : Thread nD τ).loc main_arg3) ↦{fullShare} (I c).v) ∗ (((c : Thread nD τ).loc main_arg4) ↦{fullShare} (I c).wo))
/-- The scratch buffers, at some contents. -/
def scr (c : Dev nD) : sProp 𝕄 :=
  iprop((∃ f, sX c f) ∗ (∃ f, sWQ c f) ∗ (∃ f, sWO c f) ∗ (∃ f, wK c f) ∗ (∃ f, wV c f) ∗ (∃ f, bufP false c f) ∗ (∃ f, bufP true c f))
/-- The local copies' semaphores. -/
def semsL (c : Dev nD) : sProp 𝕄 :=
  iprop((semVal ((c : Thread nD τ), .dma (smW 0)) 0 ∗ semVal ((c : Thread nD τ), .dma (smW 1)) 0 ∗ semVal ((c : Thread nD τ), .dma (smW 2)) 0)
    ∗ (bigSep Finset.univ fun j : Fin 8 => semVal ((c : Thread nD τ), .dma (smK j)) 0) ∗ bigSep Finset.univ fun j : Fin 8 => semVal ((c : Thread nD τ), .dma (smV j)) 0)
/-- The exchange's positions, tokens and credits. -/
def ghost (c : Dev nD) : sProp 𝕄 :=
  iprop(dutyTok ER (barC (bwd false c)) 0 false ∗ dutyTok ER (barC (bwd true c)) 0 true ∗ atPos ER (barC c) 0 ∅ 0 ∗ cred (tallyAt (barC c) () 2)
    ∗ SS c 0 0 ∗ RR c 0)
/-- The exchange's semaphores back at zero. -/
def allz (c : Dev nD) : sProp 𝕄 := iprop(semVal (barC c) 0 ∗ SS c 18 18 ∗ RR c 18)

theorem take_wq (c : Dev nD) (h : S1024x4096.Idx → Elt F .f32) :
    (((c : Thread nD τ).loc main_arg1) ↦{fullShare} h : sProp 𝕄) ⊢ iprop(aWQ c h ∗ (aWQ c h -∗ ((c : Thread nD τ).loc main_arg1) ↦{fullShare} h)) := by
  unfold aWQ
  have hd := Finset.disjoint_sdiff (s := (Rect.unit (s := S1024x4096) (k0_off1 c) S1024x1024.size (k0_off1_inb c)).set) (t := Finset.univ)
  have e : (Rect.unit (s := S1024x4096) (k0_off1 c) S1024x1024.size (k0_off1_inb c)).set ∪ (Finset.univ \ (Rect.unit (s := S1024x4096) (k0_off1 c) S1024x1024.size (k0_off1_inb c)).set) = Finset.univ :=
    Finset.union_sdiff_of_subset (Finset.subset_univ _)
  have h1 := pointsTo_union (ℓ := (c : Thread nD τ).loc main_arg1) (q := fullShare) (f := h) (Ix := Unit) (Name := ℕ) (U := UU) (Lvl := ℕ) hd
  rw [e] at h1
  refine h1.1.trans ?_
  iintro ⟨H1, H2⟩
  isplitl [H1]; · iexact H1
  iintro H1
  iapply h1.2
  isplitl [H1] <;> iassumption
theorem take_wo (c : Dev nD) (h : S4096x1024.Idx → Elt F .f32) :
    (((c : Thread nD τ).loc main_arg4) ↦{fullShare} h : sProp 𝕄) ⊢ iprop(aWO c h ∗ (aWO c h -∗ ((c : Thread nD τ).loc main_arg4) ↦{fullShare} h)) := by
  unfold aWO
  have hd := Finset.disjoint_sdiff (s := (Rect.unit (s := S4096x1024) (k0_off2 c) S1024x1024.size (k0_off2_inb c)).set) (t := Finset.univ)
  have e : (Rect.unit (s := S4096x1024) (k0_off2 c) S1024x1024.size (k0_off2_inb c)).set ∪ (Finset.univ \ (Rect.unit (s := S4096x1024) (k0_off2 c) S1024x1024.size (k0_off2_inb c)).set) = Finset.univ :=
    Finset.union_sdiff_of_subset (Finset.subset_univ _)
  have h1 := pointsTo_union (ℓ := (c : Thread nD τ).loc main_arg4) (q := fullShare) (f := h) (Ix := Unit) (Name := ℕ) (U := UU) (Lvl := ℕ) hd
  rw [e] at h1
  refine h1.1.trans ?_
  iintro ⟨H1, H2⟩
  isplitl [H1]; · iexact H1
  iintro H1
  iapply h1.2
  isplitl [H1] <;> iassumption

theorem pack3 {J : Type} [DecidableEq J] [Fintype J] (A B C : J → sProp 𝕄) :
    iprop(bigSep Finset.univ A ∗ bigSep Finset.univ B ∗ bigSep Finset.univ C) ⊢ bigSep Finset.univ fun j => iprop(A j ∗ B j ∗ C j) := by
  rw [bigSep_sep', bigSep_sep']

/-- What the copies in need of head `j`, for all heads. -/
theorem ins_K (I : Dev nD → Ins F) (c : Dev nD) :
    iprop((((c : Thread nD τ).loc main_arg2) ↦{fullShare} (I c).k) ∗ (∃ f, wK c f) ∗ bigSep Finset.univ fun j : Fin 8 => semVal ((c : Thread nD τ), .dma (smK j)) 0)
      ⊢ bigSep Finset.univ (inK I c) := by
  rw [split_aK]
  iintro ⟨Ha, ⟨%f, Hs⟩, Hz⟩
  ihave Hs := (Entails.of_eq (split_wK c f)) $$ Hs
  ihave Hs' := (show (bigSep Finset.univ fun j => sK c j f : sProp 𝕄) ⊢ bigSep Finset.univ fun j => iprop(∃ f, sK c j f) from
    bigSep_mono fun j _ => (show (sK c j f : sProp 𝕄) ⊢ iprop(∃ f, sK c j f) from by iintro H; iexists f; iexact H)) $$ Hs
  unfold inK
  rw [bigSep_sep', bigSep_sep']
  iframe
theorem ins_V (I : Dev nD → Ins F) (c : Dev nD) :
    iprop((((c : Thread nD τ).loc main_arg3) ↦{fullShare} (I c).v) ∗ (∃ f, wV c f) ∗ bigSep Finset.univ fun j : Fin 8 => semVal ((c : Thread nD τ), .dma (smV j)) 0)
      ⊢ bigSep Finset.univ (inV I c) := by
  rw [split_aV]
  iintro ⟨Ha, ⟨%f, Hs⟩, Hz⟩
  ihave Hs := (Entails.of_eq (split_wV c f)) $$ Hs
  ihave Hs' := (show (bigSep Finset.univ fun j => sV c j f : sProp 𝕄) ⊢ bigSep Finset.univ fun j => iprop(∃ f, sV c j f) from
    bigSep_mono fun j _ => (show (sV c j f : sProp 𝕄) ⊢ iprop(∃ f, sV c j f) from by iintro H; iexists f; iexact H)) $$ Hs
  unfold inV
  rw [bigSep_sep', bigSep_sep']
  iframe
theorem outs_K (I : Dev nD → Ins F) (c : Dev nD) : bigSep Finset.univ (outK I c)
      ⊢ iprop((((c : Thread nD τ).loc main_arg2) ↦{fullShare} (I c).k) ∗ bigSep Finset.univ fun j : Fin 8 => semVal ((c : Thread nD τ), .dma (smK j)) 0) := by
  rw [split_aK]; unfold outK; rw [bigSep_sep']
theorem outs_V (I : Dev nD → Ins F) (c : Dev nD) : bigSep Finset.univ (outV I c)
      ⊢ iprop((((c : Thread nD τ).loc main_arg3) ↦{fullShare} (I c).v) ∗ bigSep Finset.univ fun j : Fin 8 => semVal ((c : Thread nD τ), .dma (smV j)) 0) := by
  rw [split_aV]; unfold outV; rw [bigSep_sep']

theorem rest_out (I : Dev nD → Ins F) (c : Dev nD) :
    rest I c ⊢ iprop((aWQ c (I c).wq -∗ ((c : Thread nD τ).loc main_arg1) ↦{fullShare} (I c).wq) -∗ (aWO c (I c).wo -∗ ((c : Thread nD τ).loc main_arg4) ↦{fullShare} (I c).wo)
      -∗ (args I c ∗ scr c ∗ semsL c ∗ semVal (barC c) 0)) := by
  unfold rest rdy args scr semsL
  iintro ⟨⟨HX, HK, HV⟩, HWQ, HWO, HaX, HaWQ, HaWO, HoK, HoV, Hw0, Hw1, Hw2, Hb, HB0, HB1⟩ Hq Ho
  icases (outs_K I c) $$ HoK with ⟨HaK, HzK⟩
  icases (outs_V I c) $$ HoV with ⟨HaV, HzV⟩
  ihave HaWQ := Hq $$ HaWQ
  ihave HaWO := Ho $$ HaWO
  isplitl [HaX HaWQ HaK HaV HaWO]
  · iframe
  isplitl [HX HWQ HWO HK HV HB0 HB1]
  · isplitl [HX]; · iexists _; iexact HX
    isplitl [HWQ]; · iexists _; iexact HWQ
    isplitl [HWO]; · iexists _; iexact HWO
    isplitl [HK]; · iexists _; iexact HK
    isplitl [HV]; · iexists _; iexact HV
    isplitl [HB0] <;> iassumption
  iframe

theorem chunks_any (c : Dev nD) (g : OBuf F) :
    (((c : Thread nD τ).loc cc0_stg0_0) ↦{fullShare} g : sProp 𝕄)
      ⊢ iprop((∃ g, outP c (row0 false c) 256 g) ∗ (∃ g, outP c (row0 false (back false 1 c)) 256 g) ∗ (∃ g, outP c (row0 false (back false 2 c)) 256 g) ∗ (∃ g, outP c (row0 false (back false 3 c)) 256 g)
        ∗ (∃ g, outP c (row0 true c) 256 g) ∗ (∃ g, outP c (row0 true (back true 1 c)) 256 g) ∗ (∃ g, outP c (row0 true (back true 2 c)) 256 g) ∗ ∃ g, outP c (row0 true (back true 3 c)) 256 g) := by
  rw [out_chunks]
  iintro ⟨H0, H1, H2, H3, H4, H5, H6, H7⟩
  isplitl [H0]; · iexists g; iexact H0
  isplitl [H1]; · iexists g; iexact H1
  isplitl [H2]; · iexists g; iexact H2
  isplitl [H3]; · iexists g; iexact H3
  isplitl [H4]; · iexists g; iexact H4
  isplitl [H5]; · iexists g; iexact H5
  isplitl [H6]; · iexists g; iexact H6
  iexists g; iexact H7

set_option maxHeartbeats 4000000 in
/-- The body on device `c`. -/
theorem body_run (I : Dev nD → Ins F) (K : Dev nD × Ck → ℕ) (c : Dev nD) (g : OBuf F) {Q : PUnit → sProp (MT nD τ sig Unit (Elt F) ℕ UU ℕ)} :
    env (part I) K ⊢ iprop(args I c -∗ scr c -∗ semsL c -∗ ghost c -∗ (((c : Thread nD τ).loc cc0_stg0_0) ↦{fullShare} g) -∗ ow c (O₀ c)
      -∗ ((args I c ∗ scr c ∗ semsL c ∗ allz c ∗ (((c : Thread nD τ).loc cc0_stg0_0) ↦{fullShare} fin (part I)) ∗ ow c (owed c 0)) -∗ Q ⟨⟩)
      -∗ wp frame (wpE (defs₀ (F := F)) Variants.none (c : Thread nD τ) none) Set.univ (ap (cc0__fused_body (F := F))) Q) := by
  rw [cc0__fused_body_eq_skeleton]
  unfold cc0__fused_body_skel args scr semsL ghost
  rw [wp_bind]
  iintro #HE ⟨HaX, HaWQ, HaK, HaV, HaWO⟩ ⟨HsX, HsWQ, HsWO, HsK, HsV, HB0, HB1⟩ ⟨⟨Hw0, Hw1, Hw2⟩, HzK, HzV⟩ ⟨Ht0, Ht1, Hat, Hcr, HS, HR⟩ Hout Ho HQ
  icases (take_wq c (I c).wq) $$ HaWQ with ⟨HaWQ, Hq⟩
  icases (take_wo c (I c).wo) $$ HaWO with ⟨HaWO, Hoo⟩
  ihave HK := (ins_K I c) $$ [HaK HsK HzK]
  · iframe
  ihave HV := (ins_V I c) $$ [HaV HsV HzV]
  · iframe
  icases (chunks_any c g) $$ Hout with ⟨O0, O1, O2, O3, P0, P1, P2, P3⟩
  iapply (scatter I K (c := c)) $$ HE HaX HsX Hw2 HaWQ HsWQ Hw0 HaWO HsWO Hw1 HK HV Ht0 Ht1 HB0 HB1 Hat Hcr O0 O1 O2 O3 P0 P1 P2 P3 HS HR Ho
  iintro %v2 %v13 %v24 %v2245 Hmid Hrest
  rw [wp_bind]
  iapply (gather (part I) K c v2 v13 v24 v2245) $$ HE Hmid
  iintro ⟨Hf0, Ht0, Hf1, Ht1, Hf2, Ht2, Hf3, Ht3, Hf4, Hf6, Hf7, Ht6, Ht7, HS, HR, Ho⟩
  simp only [Prog.lift, Prog.bind_op, Prog.bind_ret, Prog.pure_eq_ret]
  iapply (wait_send (part I) K 15 (sPay_ag (part I) true 7 4 rfl c) ?_ rfl (by decide) (by decide)) $$ HE HS Ho
  · rfl
  iintro ⟨Ht4, HS, Ho⟩
  iapply (wait_send (part I) K 16 (sPay_ag (part I) false 8 5 rfl c) ?_ rfl (by decide) (by decide)) $$ HE HS Ho
  · rfl
  iintro ⟨Hf5, HS, Ho⟩
  iapply (wait_send (part I) K 17 (sPay_ag (part I) true 8 5 rfl c) ?_ rfl (by decide) (by decide)) $$ HE HS Ho
  · rfl
  iintro ⟨Ht5, HS, Ho⟩
  ihave Hall := (done_out (part I) c) $$ [Hf0 Ht0 Hf1 Ht1 Hf2 Ht2 Hf3 Ht3 Hf4 Ht4 Hf5 Ht5 Hf6 Hf7 Ht6 Ht7]
  · unfold done; iframe
  ihave Hr := (rest_out I c) $$ Hrest Hq Hoo
  icases Hr with ⟨Ha, Hs, Hz, Hb⟩
  rw [wp_ret]
  imodintro
  iapply HQ
  unfold args scr semsL allz
  iframe

end Cert.KernelIdealProof
end
-- ==== Proof.KernelIdeal.Launch.lean ====
/-
The launch: what the run starts from is dealt to the devices, each runs its body, and what is left is read back.
-/
module

public import proofs.«01_k».proof.Proof.KernelIdeal.Body
public import Idealize.ShloMosaic.Lib.Pipeline.CollectiveSegs
public import Idealize.ShloMosaic.Lib.Quiescent

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ
variable (m : (ℓ : Loc nD τ sig) → Buf (Elt F) ℓ) (ρ : Dev nD → PrngReg)

abbrev s₀ : MemSt nD τ sig (Elt F) := ⟨m, 0, ρ⟩
/-- The devices' arguments. -/
def I (c : Dev nD) : Ins F :=
  ⟨m ((c : Thread nD τ).loc main_arg0), m ((c : Thread nD τ).loc main_arg1), m ((c : Thread nD τ).loc main_arg2), m ((c : Thread nD τ).loc main_arg3),
    m ((c : Thread nD τ).loc main_arg4)⟩

/-! ## Big separating conjunctions over the index types used here -/

abbrev Xk : Type := Bool × Bool × Fin 9

theorem sep_option {J : Type} [Fintype J] [DecidableEq J] (Φ : Option J → sProp (MT nD τ sig Unit (Elt F) ℕ UU ℕ)) :
    bigSep Finset.univ Φ = iprop(Φ none ∗ bigSep Finset.univ fun j => Φ (some j)) := by
  rw [show (Finset.univ : Finset (Option J)) = insert none (Finset.univ.map Function.Embedding.some) from by
    ext x; cases x <;> simp, bigSep_insert (by simp), bigSep_map]
  rfl

theorem sep_bool (Φ : Bool → sProp (MT nD τ sig Unit (Elt F) ℕ UU ℕ)) : bigSep Finset.univ Φ = iprop(Φ false ∗ Φ true) :=
  bigSep_univ_eq_bigSepL [false, true] (by decide) (by decide) Φ
theorem sep_fin3 (Φ : Fin 3 → sProp (MT nD τ sig Unit (Elt F) ℕ UU ℕ)) : bigSep Finset.univ Φ = iprop(Φ 0 ∗ Φ 1 ∗ Φ 2) :=
  bigSep_univ_eq_bigSepL [0, 1, 2] (by decide) (by decide) Φ

def xk (r : Bool) (j : ℕ) : Xk := (dirAt j, r, stepOf j)
theorem xk_injOn (r : Bool) : Set.InjOn (xk r) ↑(Finset.Ico 0 18) := by
  have h : ∀ a ∈ Finset.Ico 0 18, ∀ b ∈ Finset.Ico 0 18, dirAt a = dirAt b → stepOf a = stepOf b → a = b := by decide
  intro a ha b hb e
  exact h a (Finset.mem_coe.mp ha) b (Finset.mem_coe.mp hb) (congrArg Prod.fst e) (congrArg (fun x : Xk => x.2.2) e)
theorem sep_xk (Φ : Xk → sProp (MT nD τ sig Unit (Elt F) ℕ UU ℕ)) :
    bigSep Finset.univ Φ = iprop((bigSep (Finset.Ico 0 18) fun j => Φ (xk false j)) ∗ bigSep (Finset.Ico 0 18) fun j => Φ (xk true j)) := by
  have hu : (Finset.univ : Finset Xk) = (Finset.Ico 0 18).image (xk false) ∪ (Finset.Ico 0 18).image (xk true) := by decide
  have hd : Disjoint ((Finset.Ico 0 18).image (xk false)) ((Finset.Ico 0 18).image (xk true)) := by decide
  rw [hu, bigSep_union hd, bigSep_image_of_injOn (xk_injOn false), bigSep_image_of_injOn (xk_injOn true)]
  rfl

theorem sep_swap (t : Finset ℕ) (Φ : Dev nD → ℕ → sProp (MT nD τ sig Unit (Elt F) ℕ UU ℕ)) :
    (bigSep Finset.univ fun c => bigSep t (Φ c)) = bigSep t fun j => bigSep Finset.univ fun c => Φ c j := by
  induction t using Finset.induction_on with
  | empty => simp only [bigSep_empty]; exact bigSep_emp_const _
  | insert j t hj ih =>
    rw [bigSep_insert hj, ← ih]
    exact (bigSep_congr fun c _ => bigSep_insert hj).trans (bigSep_sep' _ _ _)

/-! ## The kernel's own semaphores -/

abbrev OS : Type := Fin 3 ⊕ (Fin 8 ⊕ (Fin 8 ⊕ Xk))
def osem : OS → SemLoc sig
  | .inl j => .dma (smW j)
  | .inr (.inl j) => .dma (smK j)
  | .inr (.inr (.inl j)) => .dma (smV j)
  | .inr (.inr (.inr x)) => csem (some x)

theorem ownSemFacts : Pipeline.OwnSemFacts cfg0.spec osem := by decide +kernel

theorem ownSems0_eq (c : Dev nD) : (Pipeline.ownSems0 (Ix := Unit) (Name := ℕ) (U := UU) (Lvl := ℕ) (Val := Elt F) (τ := τ) osem c : sProp 𝕄)
    = iprop((semVal ((c : Thread nD τ), .dma (smW 0)) 0 ∗ semVal ((c : Thread nD τ), .dma (smW 1)) 0 ∗ semVal ((c : Thread nD τ), .dma (smW 2)) 0)
      ∗ (bigSep Finset.univ fun j : Fin 8 => semVal ((c : Thread nD τ), .dma (smK j)) 0) ∗ (bigSep Finset.univ fun j : Fin 8 => semVal ((c : Thread nD τ), .dma (smV j)) 0)
      ∗ bigSep Finset.univ fun x : Xk => semVal (cell (some x) c) 0) := by
  unfold Pipeline.ownSems0
  rw [bigSep_univ_sum, bigSep_univ_sum, bigSep_univ_sum, sep_fin3]
  rfl
theorem unscopedSems0_eq (c : Dev nD) : (unscopedSems0 c : sProp 𝕄) = semVal (barC c) 0 := by
  unfold unscopedSems0; rw [bigSep_eq_bigSepL_of_eq [SemLoc.reg barS] (by decide) (by decide)]; rfl

/-! ## The ghost state dealt -/

theorem cell_inj {k k' : Ck} {c d : Dev nD} (h : cell k c = cell k' d) : k = k' ∧ c = d :=
  ⟨csem_inj (congrArg Prod.snd h), congrArg (fun g : GSem nD τ sig => g.1.1) h⟩

def cellOf' (p : Dev nD × Ck) : GSem nD τ sig := cell p.2 p.1
theorem cellOf'_inj : Function.Injective cellOf' := fun p q h => Prod.ext (cell_inj h).2 (cell_inj h).1
def rCells : Finset (GSem nD τ sig) := Finset.univ.map ⟨cellOf', cellOf'_inj⟩

def tokOf (p : Dev nD × (Bool ⊕ Xk)) : GSem nD τ sig × ℕ × Bool := match p.2 with
  | .inl b => (barC p.1, 0, b)
  | .inr x => (cell (some x) p.1, 0, false)
theorem tokOf_inj : Function.Injective tokOf := by
  rintro ⟨c, k⟩ ⟨d, k'⟩ h
  rcases k with b | x <;> rcases k' with b' | x'
  · have h1 := cell_inj (congrArg Prod.fst h)
    have h2 : b = b' := congrArg (fun t : GSem nD τ sig × ℕ × Bool => t.2.2) h
    exact Prod.ext h1.2 (congrArg Sum.inl h2)
  · exact absurd (cell_inj (congrArg Prod.fst h)).1 (by simp)
  · exact absurd (cell_inj (congrArg Prod.fst h)).1 (by simp)
  · have h1 := cell_inj (congrArg Prod.fst h)
    exact Prod.ext h1.2 (congrArg Sum.inr (Option.some.inj h1.1))
def rToks : Finset (GSem nD τ sig × ℕ × Bool) := Finset.univ.map ⟨tokOf, tokOf_inj⟩

def u₀ : UU :=
  (initOf (Pipeline.cells cfgs cellOf_inj) (Pipeline.launchToks cfgs cellOf_inj), (initOf rCells rToks, (1 : Counters)))

theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The duty tokens of device `c`'s own cells. -/
def toks (c : Dev nD) : sProp 𝕄 :=
  iprop((dutyTok ER (barC c) 0 false ∗ dutyTok ER (barC c) 0 true)
    ∗ (bigSep (Finset.Ico 0 18) fun j => dutyTok ER (jS j c) 0 false) ∗ bigSep (Finset.Ico 0 18) fun j => dutyTok ER (jR j c) 0 false)
/-- The tokens of the duties device `c` pays. -/
def payToks (c : Dev nD) : sProp 𝕄 :=
  iprop((dutyTok ER (barC (bwd false c)) 0 false ∗ dutyTok ER (barC (bwd true c)) 0 true)
    ∗ (bigSep (Finset.Ico 0 18) fun j => dutyTok ER (jS j c) 0 false) ∗ bigSep (Finset.Ico 0 18) fun j => dutyTok ER (jR j (fwd (dirAt j) c)) 0 false)
/-- The positions of device `c`'s own cells. -/
def poss (c : Dev nD) : sProp 𝕄 := bigSep Finset.univ fun k : Ck => atPos ER (cell k c) 0 ∅ 0

def G (c : Dev nD) : sProp 𝕄 :=
  iprop((bigSep Finset.univ fun k : Ck => roundState ER (Rd (part (I m))) (cell k c) 0)
    ∗ (poss c ∗ bigSep Finset.univ fun k : Ck => reached ER (cell k c) 0) ∗ toks c)
def G' (c : Dev nD) : sProp 𝕄 := iprop(∃ K, recs (part (I m)) K ∗ (semsL c ∗ poss c) ∗ payToks c)

theorem fund_ring : BI.own (ER (initOf rCells rToks)) ⊢ (|==> bigSep Finset.univ (G m) : sProp 𝕄) := by
  have hX (Φ : GSem nD τ sig → sProp 𝕄) : bigSep rCells Φ = bigSep Finset.univ fun c : Dev nD => bigSep Finset.univ fun k : Ck => Φ (cell k c) := by
    unfold rCells; rw [bigSep_map, bigSep_univ_prod]; rfl
  have hT : bigSep rToks (fun x => (dutyTok ER x.1 x.2.1 x.2.2 : sProp 𝕄)) = bigSep Finset.univ fun c : Dev nD => toks c := by
    unfold rToks; rw [bigSep_map, bigSep_univ_prod]
    exact bigSep_congr fun c _ => by unfold toks; rw [bigSep_univ_sum, sep_bool, sep_xk]; rfl
  iintro HX
  imod (Rounds.fund ER (Rd (part (I m))) rCells rToks) $$ HX with ⟨Hst, Hr, Hat, Htok⟩
  imodintro
  ihave Hst' := (Entails.of_eq (hX fun g => roundState ER (Rd (part (I m))) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G poss; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Ck => iprop(∃ κ : ℕ, cellInv ER (Rd (part (I m))) κ (cell k c)))
          ∗ (bigSep Finset.univ fun k : Ck => reached ER (cell k c) 0) ∗ (semsL c ∗ poss c) ∗ toks c) := by
  unfold G
  rw [ownSems0_eq, unscopedSems0_eq]
  iintro ⟨⟨Hw, HK, HV, Hx⟩, Hb, Hst, ⟨Hat, Hr⟩, Htok⟩
  ihave Hv := (show iprop(semVal (barC c) 0 ∗ bigSep Finset.univ fun x : Xk => semVal (cell (some x) c) 0) ⊢ (bigSep Finset.univ fun k : Ck => semVal (cell k c) 0 : sProp 𝕄) from
    Entails.of_eq (sep_option (fun k : Ck => (semVal (cell k c) 0 : sProp 𝕄))).symm) $$ [Hb Hx]
  · isplitl [Hb] <;> iassumption
  imod (show iprop((bigSep Finset.univ fun k : Ck => semVal (cell k c) 0) ∗ bigSep Finset.univ fun k : Ck => roundState ER (Rd (part (I m))) (cell k c) 0)
      ⊢ (|={Set.univ}=> bigSep Finset.univ fun k : Ck => iprop(∃ κ : ℕ, cellInv ER (Rd (part (I m))) κ (cell k c)) : sProp 𝕄) from by
        rw [← bigSep_sep']
        exact (bigSep_mono fun k _ => (Rounds.body_intro ER (Rd (part (I m))) (cell k c)).trans inv_alloc).trans (bigSep_fupd _ _)) $$ [Hv Hst] with Hinv
  · isplitl [Hv] <;> iassumption
  imodintro
  unfold semsL
  isplitl [Hinv]; · iexact Hinv
  iframe

theorem toks_around : (bigSep Finset.univ fun c : Dev nD => (toks c : sProp 𝕄)) ⊢ bigSep Finset.univ fun c : Dev nD => payToks c := by
  have hr : (bigSep Finset.univ fun c : Dev nD => bigSep (Finset.Ico 0 18) fun j => (dutyTok ER (jR j c) 0 false : sProp 𝕄))
      = bigSep Finset.univ fun c : Dev nD => bigSep (Finset.Ico 0 18) fun j => (dutyTok ER (jR j (fwd (dirAt j) c)) 0 false : sProp 𝕄) := by
    rw [sep_swap, sep_swap (Finset.Ico 0 18) fun (c : Dev nD) j => (dutyTok ER (jR j (fwd (dirAt j) c)) 0 false : sProp 𝕄)]
    exact bigSep_congr fun j _ => bigSep_univ_equiv (ring (dirAt j)) (fun c : Dev nD => (dutyTok ER (jR j c) 0 false : sProp 𝕄))
  unfold toks payToks
  rw [bigSep_sep', bigSep_sep', bigSep_sep', bigSep_sep', bigSep_sep', bigSep_sep', hr,
    bigSep_univ_equiv (ring false).symm (fun c : Dev nD => (dutyTok ER (barC c) 0 false : sProp 𝕄)),
    bigSep_univ_equiv (ring true).symm (fun c : Dev nD => (dutyTok ER (barC c) 0 true : sProp 𝕄))]
  exact Entails.of_eq rfl

theorem sep_with_persistent {J : Type} [DecidableEq J] {S : Finset J} {R : sProp (MT nD τ sig Unit (Elt F) ℕ UU ℕ)} [BI.Persistent R]
    {Φ Ψ : J → sProp (MT nD τ sig Unit (Elt F) ℕ UU ℕ)} (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Ck => iprop(∃ κ : ℕ, cellInv ER (Rd (part (I m))) κ (cell k c)))
          ∗ (bigSep Finset.univ fun k : Ck => reached ER (cell k c) 0) ∗ (semsL c ∗ poss c) ∗ toks c) : sProp 𝕄)
      ⊢ bigSep Finset.univ (G' m) := by
  rw [bigSep_sep', bigSep_sep', bigSep_sep', ← bigSep_univ_prod (fun p : Dev nD × Ck => iprop(∃ κ : ℕ, cellInv ER (Rd (part (I m))) κ (cell p.2 p.1))),
    ← bigSep_univ_prod (fun p : Dev nD × Ck => (reached ER (cell p.2 p.1) 0 : sProp 𝕄))]
  iintro ⟨HI, #HR, Hat, Htok⟩
  ihave HK := (BI.bigSep_exists_pi Finset.univ (fun (p : Dev nD × Ck) (κ : ℕ) => (cellInv ER (Rd (part (I m))) κ (cell p.2 p.1) : sProp 𝕄))) $$ HI
  icases HK with ⟨%K, #HI⟩
  ihave Htk := (toks_around (F := F)) $$ Htok
  iapply (sep_with_persistent (R := recs (part (I m)) K) (Φ := fun c : Dev nD => iprop((semsL c ∗ poss c) ∗ payToks c)) fun c _ =>
    (show iprop(recs (part (I m)) K ∗ (semsL c ∗ poss c) ∗ payToks c) ⊢ (G' m c : sProp 𝕄) from by
      unfold G'; iintro H; iexists K; iexact H))
  isplitr
  · unfold recs; isplitl; · iexact HI
    iexact HR
  · iapply (Entails.of_eq (bigSep_sep' Finset.univ (fun c : Dev nD => (iprop(semsL c ∗ poss c) : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem tally_at (k k' : Ck) (c d : Dev nD) (n : ℕ) :
    (tallyAt (cell k d) () n : CellTallies nD τ sig Unit) (cell k' c) () = if k' = k ∧ c = d then n else 0 := by
  rw [tallyAt_apply]
  by_cases h : k' = k ∧ c = d
  · rw [if_pos h, if_pos ⟨by rw [h.1, h.2], rfl⟩]
  · rw [if_neg h, if_neg fun e => h (cell_inj e.1)]

theorem owed_bar0 (d c : Dev nD) (n : ℕ) : owed d n (barC c) () = 0 := by
  induction n with
  | zero => rfl
  | succ n ih =>
    show (owed d n + _ : CellTallies nD τ sig Unit) (barC c) () = 0
    rw [Pi.add_apply, Finsupp.add_apply, ih, tally_at, if_neg fun e => by simp at e]
theorem owed_bar (d c : Dev nD) : O₀ d (barC c) () = (if d = fwd true c then 1 else 0) + (if d = fwd false c then 1 else 0) := by
  unfold O₀ O₁
  rw [Pi.add_apply, Finsupp.add_apply, Pi.add_apply, Finsupp.add_apply, tally_at, tally_at, owed_bar0, Nat.zero_add]
  congr 1 <;> revert c d <;> decide
theorem xk_iff {j k : ℕ} (hj : j < 18) (hk : k < 18) : (xk true j = xk true k) ↔ j = k :=
  ⟨fun h => xk_injOn true (by simpa using hj) (by simpa using hk) h, fun h => h ▸ rfl⟩
theorem eq_fwd (b : Bool) (c d : Dev nD) : (c = fwd b d) ↔ d = bwd b c := by revert b c d; decide
theorem owed_recv0 (d c : Dev nD) (j : ℕ) (hj : j < 18) (n : ℕ) (hn : n ≤ 18) :
    owed d n (jR j c) () = if 17 - j < n ∧ d = bwd (dirAt j) c then Nof (stepOf j) else 0 := by
  induction n with
  | zero => rw [if_neg (by omega)]; rfl
  | succ n ih =>
    show (owed d n + _ : CellTallies nD τ sig Unit) (jR j c) () = _
    rw [Pi.add_apply, Finsupp.add_apply, ih (by omega), tally_at]
    by_cases h : j = 17 - n
    · subst h
      rw [if_neg (by omega : ¬(17 - (17 - n) < n ∧ _)), Nat.zero_add]
      refine if_congr ?_ rfl rfl
      rw [eq_fwd]
      exact ⟨fun e => ⟨by omega, e.2⟩, fun e => ⟨rfl, e.2⟩⟩
    · rw [if_neg (fun e : some (dirAt j, true, stepOf j) = some (dirAt (17 - n), true, stepOf (17 - n)) ∧ c = fwd (dirAt (17 - n)) d =>
        h ((xk_iff hj (by omega)).mp (Option.some.inj e.1))), Nat.add_zero]
      refine if_congr ?_ rfl rfl
      exact and_congr_left fun _ => by omega
theorem owed_recv (d c : Dev nD) (j : ℕ) (hj : j < 18) : O₀ d (jR j c) () = if d = bwd (dirAt j) c then Nof (stepOf j) else 0 := by
  unfold O₀ O₁
  rw [Pi.add_apply, Finsupp.add_apply, Pi.add_apply, Finsupp.add_apply, tally_at, tally_at, owed_recv0 d c j hj 18 (Nat.le_refl _),
    if_neg (c := (_ = (none : Ck) ∧ _)) fun e => by simp at e, if_neg (c := (_ = (none : Ck) ∧ _)) fun e => by simp at e, Nat.add_zero]
  exact if_congr ⟨fun e => e.2, fun e => ⟨by omega, e⟩⟩ rfl rfl

theorem launch_bar (c : Dev nD) :
    tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (fwd true c) fun _ => 1, Finset.sum_ite_eq' Finset.univ (fwd false c) fun _ => 1, if_pos (Finset.mem_univ _), if_pos (Finset.mem_univ _)]
theorem launch_recv (c : Dev nD) (j : ℕ) (hj : j < 18) :
    tallyOn (jR j c) (launchCredit (Pipeline.owing O₀) 0 (jR j c)) = (tallyAt (jR j c) () (Nof (stepOf j)) : CellTallies nD τ sig Unit) := by
  unfold tallyAt; refine congrArg _ (Finsupp.ext fun u => ?_); cases u
  rw [Pipeline.launchCredit_owing, Finsupp.single_eq_same, Finset.sum_congr rfl fun d _ => owed_recv d c j hj,
    Finset.sum_ite_eq' Finset.univ (bwd (dirAt j) c) fun _ => Nof (stepOf j), if_pos (Finset.mem_univ _)]

theorem creds (c : Dev nD) :
    (Pipeline.launchCred O₀ c : sProp 𝕄) ⊢ iprop(cred (tallyAt (barC c) () 2) ∗ bigSep (Finset.Ico 0 18) fun j => cred (tallyAt (jR j c) () (Nof (stepOf j)))) := by
  unfold Pipeline.launchCred
  refine (bigSep_subset (Finset.subset_univ (Finset.univ.map ⟨csem, csem_inj⟩))).trans ?_
  rw [bigSep_map, sep_option, sep_xk]
  show iprop(cred (tallyOn (barC c) (launchCredit (Pipeline.owing O₀) 0 (barC c)))
      ∗ (bigSep (Finset.Ico 0 18) fun j => cred (tallyOn (jS j c) (launchCredit (Pipeline.owing O₀) 0 (jS j c))))
      ∗ bigSep (Finset.Ico 0 18) fun j => cred (tallyOn (jR j c) (launchCredit (Pipeline.owing O₀) 0 (jR j c))))
    ⊢ (iprop(cred (tallyAt (barC c) () 2) ∗ bigSep (Finset.Ico 0 18) fun j => cred (tallyAt (jR j c) () (Nof (stepOf j)))) : sProp 𝕄)
  iintro ⟨H1, -, H2⟩
  isplitl [H1]
  · iapply (Entails.of_eq (congrArg (fun t => (cred t : sProp 𝕄)) (launch_bar c))) $$ H1
  · iapply (show (bigSep (Finset.Ico 0 18) fun j => cred (tallyOn (jR j c) (launchCredit (Pipeline.owing O₀) 0 (jR j c))))
      ⊢ (bigSep (Finset.Ico 0 18) fun j => cred (tallyAt (jR j c) () (Nof (stepOf j))) : sProp 𝕄) from
      bigSep_mono fun j hj => Entails.of_eq (congrArg (fun t => (cred t : sProp 𝕄)) (launch_recv c j (Finset.mem_Ico.mp hj).2))) $$ H2

/-! ## The proof data -/

abbrev 𝒱₀ : Variants := Variants.none
theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What device `c` starts from. -/
def start (c : Dev nD) : sProp 𝕄 := iprop((∃ K, env (part (I m)) K) ∗ args (I m) c ∗ semsL c ∗ ghost c)
def Φ₀ (c : Dev nD) : sProp 𝕄 := iprop(start m c ∗ scr c)
/-- What it ends with. -/
def Φ₁ (c : Dev nD) : sProp 𝕄 := iprop(args (I m) c ∗ scr c ∗ semsL c ∗ allz c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => fin (part (I m))
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev stg (c : Dev nD) (X : OBuf F) : sProp (MT nD τ sig Unit (Elt F) ℕ UU ℕ) :=
  iprop(∃ f : Buf (Elt F) ((c : Thread nD τ).loc cc0_stg0_0), ⌜f = X⌝ ∗ (((c : Thread nD τ).loc cc0_stg0_0) ↦{fullShare} f))
def bodyPre (c : Dev nD) : sProp 𝕄 :=
  iprop(Φ₀ m c ∗ (dats m ρ 0 c).owesAt () t₀.castSucc ∗ (∃ d, stg c ((dats m ρ 0 c).before (0 : Fin 1) t₀ d)))
def bodyPost (c : Dev nD) : sProp 𝕄 :=
  iprop(Φ₁ m c ∗ (dats m ρ 0 c).owesAt () t₀.succ ∗ stg c (fin (part (I m))))

set_option maxRecDepth 40000 in
set_option maxHeartbeats 1000000 in
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ wp frame (wpE (defs₀ (F := F)) 𝒱₀ (c : Thread nD τ) none) Set.univ (ap (cc0__fused_body (F := F))) (fun _ => bodyPost m ρ c)
  unfold bodyPre Φ₀ start Dat.owesAt Pipeline.owesWithin
  iintro ⟨⟨⟨⟨%K, #HE⟩, Ha, Hz, Hg⟩, Hs⟩, ⟨%W, -, Ho⟩, ⟨%d, %f, -, Hf⟩⟩
  iapply (body_run (I m) K c f) $$ HE Ha Hs Hz Hg Hf [Ho]
  · unfold ow; iexists W; iexact Ho
  iintro ⟨Ha, Hs, Hz, Hg, Hf, Ho⟩
  unfold bodyPost Φ₁ Dat.owesAt Pipeline.owesWithin ow
  icases Ho with ⟨%W', Ho⟩
  isplitl [Ha Hs Hz Hg]
  · iframe
  isplitl [Ho]
  · iexists W'
    isplitr; · ipureintro; exact fun _ _ => Or.inl trivial
    iexact Ho
  iexists _; isplitr; · (ipureintro; rfl)
  iexact Hf

/-! ## The launch's side conditions -/

theorem share_eq (c : Dev nD) (w : Fin cfg0.W) : (dats m ρ 0 c).share w = fullShare := by unfold Dat.share; split <;> rfl

theorem ghost_intro (c : Dev nD) :
    iprop(poss c ∗ payToks c ∗ cred (tallyAt (barC c) () 2) ∗ bigSep (Finset.Ico 0 18) fun j => cred (tallyAt (jR j c) () (Nof (stepOf j)))) ⊢ (ghost c : sProp 𝕄) := by
  unfold poss payToks ghost SS RR
  rw [sep_option, sep_xk]
  have h1 : iprop((bigSep (Finset.Ico 0 18) fun j => (atPos ER (jS j c) 0 ∅ 0 : sProp 𝕄)) ∗ (bigSep (Finset.Ico 0 18) fun j => (dutyTok ER (jS j c) 0 false : sProp 𝕄))
      ∗ bigSep (Finset.Ico 0 18) fun j => (dutyTok ER (jR j (fwd (dirAt j) c)) 0 false : sProp 𝕄)) ⊢ bigSep (Finset.Ico 0 18) (tkt c) := by
    unfold tkt; rw [bigSep_sep', bigSep_sep']
  have h2 : iprop((bigSep (Finset.Ico 0 18) fun j => (atPos ER (jR j c) 0 ∅ 0 : sProp 𝕄)) ∗ bigSep (Finset.Ico 0 18) fun j => (cred (tallyAt (jR j c) () (Nof (stepOf j))) : sProp 𝕄))
      ⊢ bigSep (Finset.Ico 0 18) (awaited c) := by
    unfold awaited; rw [bigSep_sep']
  have h3 (Φ : ℕ → sProp 𝕄) : ⊢ bigSep (Finset.Ico 0 0) Φ := by
    rw [show Finset.Ico 0 0 = ∅ from rfl, bigSep_empty]
    iempintro
  iintro ⟨⟨HaB, HaS, HaR⟩, ⟨⟨Ht0, Ht1⟩, HtS, HtR⟩, Hb, Hc⟩
  ihave HS := h1 $$ [HaS HtS HtR]
  · isplitl [HaS]; · iexact HaS
    isplitl [HtS] <;> iassumption
  ihave HR := h2 $$ [HaR Hc]
  · isplitl [HaR]; · iexact HaR
    iexact Hc
  isplitl [Ht0]; · iexact Ht0
  isplitl [Ht1]; · iexact Ht1
  isplitl [HaB]; · iexact HaB
  isplitl [Hb]; · iexact Hb
  isplitl [HS]
  · isplitr; · iapply (h3 _)
    isplitr; · iapply (h3 _)
    iexact HS
  isplitr; · iapply (h3 _)
  iexact HR

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G'
  iintro ⟨Ha, Hlev, Hcr, -, ⟨%K, HR, ⟨Hz, Hp⟩, Ht⟩⟩
  icases (creds (F := F) c) $$ Hcr with ⟨H1, HN⟩
  imodintro
  isplitl
  · isplitl [HR Hlev]
    · iexists K; unfold env; isplitl [HR]; · iexact HR
      iexact Hlev
    isplitl [Ha]; · unfold args aX; iexact Ha
    isplitl [Hz]; · iexact Hz
    iapply (ghost_intro c)
    isplitl [Hp]; · iexact Hp
    isplitl [Ht]; · iexact Ht
    isplitl [H1] <;> iassumption
  · iempintro

theorem scr_eq (c : Dev nD) : (Pipeline.scopedRest cfg0.spec c : sProp 𝕄) = scr c := by
  rw [scopedRest0_eq]; rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scr_eq]
  unfold Φ₀
  iintro ⟨Hs, -, Hr⟩
  isplitl [Hs] <;> iassumption

theorem phi1_exit (c : Dev nD) :
    (dats m ρ 0 c).Φ (Fin.last cfg0.N) ⊢ iprop((unscopedSems0 c ∗ args (I m) c) ∗ Pipeline.ownSems0 osem c ∗ Pipeline.scopedRest cfg0.spec c) := by
  rw [show (dats m ρ 0 c).Φ (Fin.last cfg0.N) = Φ₁ m c from rfl, scr_eq, ownSems0_eq, unscopedSems0_eq, sep_xk]
  unfold Φ₁ semsL allz SS RR
  iintro ⟨Ha, Hs, ⟨Hw, HK, HV⟩, Hb, ⟨HS, -, -⟩, ⟨HR, -⟩⟩
  isplitl [Hb Ha]
  · isplitl [Hb] <;> iassumption
  isplitr [Hs]
  · isplitl [Hw]; · iexact Hw
    isplitl [HK]; · iexact HK
    isplitl [HV]; · iexact HV
    isplitl [HS]; · iexact HS
    iexact HR
  iexact Hs

theorem waits (c : Dev nD) : (levAts L lv : sProp 𝕄) ⊢ Pipeline.cellsWaits cfgs (dats m ρ) () 0 c :=
  Pipeline.cellsWaits_intro cfgs (dats m ρ) () 0 c fun w s t => by
    have hs : lev (.dma ((cfg0.win w).sem s)) = 0 := by fin_cases w <;> fin_cases s <;> rfl
    rcases t with ⟨_ | _, ht⟩
    · exact mayWait₀ c _ hs
    · show (levAts L lv : sProp 𝕄) ⊢ MayWait (c : Thread nD τ) _ () 0
      rw [MayWait_zero]; iintro -; iempintro

/-! ## The run -/

def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)

theorem read_end (c : Dev nD) (s' : Phys nD τ sig (Elt F)) :
    iprop((unscopedSems0 c ∗ args (I m) c) ∗ emp ∗ SI s') ⊢ (|={Set.univ}=> iprop(⌜QY m c s'.mem⌝ ∗ SI s') : sProp 𝕄) := by
  unfold args aX
  iintro ⟨⟨Hu, H0, H1, H2, H3, H4⟩, -, HSI⟩
  imod (Pipeline.unscopedSems0_read (X := unscopedSems0 c) (c := c) fupd_intro s') $$ [Hu HSI] with ⟨%hu, HSI⟩
  · isplitl [Hu] <;> iassumption
  icombine HSI H0 gives %h0
  icombine HSI H1 gives %h1
  icombine HSI H2 gives %h2
  icombine HSI H3 gives %h3
  icombine HSI H4 gives %h4
  imodintro
  isplitr
  · ipureintro
    exact ⟨hu, Buf.eq_of_forall_mem_univ h0, Buf.eq_of_forall_mem_univ h1, Buf.eq_of_forall_mem_univ h2, Buf.eq_of_forall_mem_univ h3, Buf.eq_of_forall_mem_univ h4⟩
  iexact HSI

set_option maxRecDepth 100000 in
/-- Every run ends, with each device's result at `fin` of the devices' partial results, its arguments unchanged, and every semaphore at zero. -/
theorem run_main : θ_run defs (onTc (τ := τ) (main (F := F))) (s₀ m ρ)
    (fun r => (∀ c : Dev nD, (∀ w : Fin cfg0.W, r.2.mem ((cfg0.win w).arr.view.loc (c : Thread nD τ)) = (dats m ρ 0 c).arrAt w cfg0.N) ∧ QY m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_split _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => iprop(unscopedSems0 c ∗ args (I m) c)) (Z := fun _ => iprop(emp))
    (hX := start_intro m ρ) (hin := phi0_intro m ρ) (hout := phi1_exit m ρ)
    (QY := QY m)
    (hY := read_end m)
    (hQ := fun _ h hs => ⟨fun c => ⟨(h c).1, (h c).2.2⟩, sem_eq_zero hs fun c => (h c).2.2.1⟩)

theorem arr_end (c : Dev nD) : (dats m ρ 0 c).arrAt (0 : Fin 1) cfg0.N = fin (part (I m)) := by
  rw [show cfg0.N = (t₀ : Fin cfg0.N).val + 1 from rfl, (dats m ρ 0 c).arrAt_succ (0 : Fin 1) t₀]
  rw [show (cfg0.win (0 : Fin 1)).flush t₀ = true from by decide, if_pos rfl]
  exact (show ∀ f : OBuf F, f = (win0_0.blk t₀).view.read (Elt F) f from fun f =>
    (Memref.read_access_unit_zero (Elt F) main_v1 (funext fun a => by fin_cases a <;> decide) (fun a => by fin_cases a <;> decide) f).symm) _ |>.trans
    (View.read_write_univ _ _)

/-- What every run leaves: the result, the arguments, the semaphores. -/
theorem run_out : θ_run defs (onTc (τ := τ) (main (F := F))) (s₀ m ρ)
    (fun r => (∀ c : Dev nD, r.2.mem ((c : Thread nD τ).loc main_v1) = fin (part (I m))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c => ⟨((h.1 c).1 (0 : Fin 1)).trans (arr_end m ρ c), (h.1 c).2.2⟩, h.2⟩) (run_main m ρ)

end Cert.KernelIdealProof
end
-- ==== Proof.Value.Consts.lean ====
/-
The float constants that the programs spell, as extended reals.
-/
module

public import Idealize.ShloMosaic.PureOps.Ideal
public import Idealize.ShloMosaic.Lib.IdealHost

@[expose] public section

namespace Cert.Value

open Idealize.ShloMosaic

theorem ofBits_neg_inf : Ideal.ofBits .f32 0xFF800000#32 = (⊥ : EReal) := by simp [Ideal.ofBits, Ideal.ieee]
theorem ofBits_inf : Ideal.ofBits .f32 0x7F800000#32 = (⊤ : EReal) := by simp [Ideal.ofBits, Ideal.ieee]
theorem ofBits_128 : Ideal.ofBits .f32 0x43000000#32 = ((128 : ℝ) : EReal) := by
  simp [Ideal.ofBits, Ideal.ieee, -EReal.coe_mul]; norm_num

/-- Dividing by the root of 128 multiplies by its inverse. -/
theorem div_root (x : EReal) : Ideal.div x (Ideal.sqrt (Ideal.ofBits .f32 0x43000000#32)) = x * (((Real.sqrt 128)⁻¹ : ℝ) : EReal) := by
  have h : Real.sqrt 128 ≠ 0 := by positivity
  rw [ofBits_128, Ideal.sqrt_coe, if_neg (by norm_num), Ideal.div, if_neg (by exact_mod_cast h), EReal.coe_inv]

end Cert.Value
-- ==== Proof.Value.Window.lean ====
/-
One row of attention over the extended reals: a weight that the mask sends to minus infinity is exactly 0, so a row's sum
over all keys is its sum over any window that holds every key the mask keeps.
-/
module

public import Idealize.ShloMosaic.PureOps.Ideal
public import Idealize.ShloMosaic.Lib.IdealHost

@[expose] public section

noncomputable section

namespace Cert.Value

open Idealize.ShloMosaic

/-! ## Finite extended reals -/

def Real' (x : EReal) : Prop := ∃ r : ℝ, x = (r : EReal)

theorem Real'.add {x y : EReal} (hx : Real' x) (hy : Real' y) : Real' (x + y) := by
  obtain ⟨a, rfl⟩ := hx; obtain ⟨b, rfl⟩ := hy; exact ⟨a + b, (EReal.coe_add a b).symm⟩
theorem Real'.mul {x y : EReal} (hx : Real' x) (hy : Real' y) : Real' (x * y) := by
  obtain ⟨a, rfl⟩ := hx; obtain ⟨b, rfl⟩ := hy; exact ⟨a * b, (EReal.coe_mul a b).symm⟩
theorem Real'.sum {ι : Type} (S : Finset ι) {f : ι → EReal} (h : ∀ i, Real' (f i)) : Real' (∑ i ∈ S, f i) := by
  classical
  induction S using Finset.induction_on with
  | empty => exact ⟨0, by simp⟩
  | insert a S ha ih => rw [Finset.sum_insert ha]; exact (h a).add ih
theorem Real'.ne_bot {x : EReal} (hx : Real' x) : x ≠ ⊥ := by obtain ⟨a, rfl⟩ := hx; exact EReal.coe_ne_bot a
theorem Real'.ne_top {x : EReal} (hx : Real' x) : x ≠ ⊤ := by obtain ⟨a, rfl⟩ := hx; exact EReal.coe_ne_top a

/-! ## A row's weights -/

/-- The largest score, -/
def top {n : ℕ} (s : Fin n → EReal) : EReal := Finset.univ.sup s
/-- what a key counts before the row is normalised, -/
def wt {n : ℕ} (s : Fin n → EReal) (j : Fin n) : EReal := Ideal.exp (s j - top s)
/-- the row's output against values `v`. -/
def row {n : ℕ} (s v : Fin n → EReal) : EReal := ∑ j, Ideal.div (wt s j) (∑ i, wt s i) * v j

theorem exp_nonneg (x : EReal) : 0 ≤ Ideal.exp x := by
  induction x using EReal.rec with
  | bot => simp
  | top => simp
  | coe r => rw [Ideal.exp_coe]; exact_mod_cast (Real.exp_pos r).le

theorem bot_sub' (x : EReal) : (⊥ : EReal) - x = ⊥ := by rw [sub_eq_add_neg, EReal.bot_add]

theorem wt_bot {n : ℕ} {s : Fin n → EReal} {j : Fin n} (h : s j = ⊥) : wt s j = 0 := by
  rw [wt, h, bot_sub', Ideal.exp_bot]

/-- A row with a finite score, and none infinite upwards, has a sum that is not 0. -/
theorem sum_wt_ne {n : ℕ} {s : Fin n → EReal} (ht : ∀ j, s j ≠ ⊤) {j₀ : Fin n} (h₀ : s j₀ ≠ ⊥) : (∑ i, wt s i) ≠ 0 := by
  obtain ⟨j, -, hj⟩ := Finset.exists_mem_eq_sup Finset.univ ⟨j₀, Finset.mem_univ _⟩ s
  have hb : s j ≠ ⊥ := fun h => h₀ (le_bot_iff.1 (h ▸ hj ▸ Finset.le_sup (f := s) (Finset.mem_univ j₀)))
  have h1 : wt s j = 1 := by
    rw [wt, top, hj, EReal.sub_self (ht j) hb]
    exact (Ideal.exp_coe 0).trans (by simp)
  have : (1 : EReal) ≤ ∑ i, wt s i := h1 ▸ Finset.single_le_sum (f := wt s) (fun i _ => exp_nonneg _) (Finset.mem_univ j)
  exact fun h => absurd (h ▸ this) (by simp)

/-- The keys outside a window count nothing where the mask sends them to minus infinity. -/
theorem row_window {n k : ℕ} (e : Fin k ↪ Fin n) {s v : Fin n → EReal} (hout : ∀ j, j ∉ Set.range e → s j = ⊥)
    (ht : ∀ j, s j ≠ ⊤) {j₀ : Fin n} (h₀ : s j₀ ≠ ⊥) : row s v = row (fun j => s (e j)) (fun j => v (e j)) := by
  have htop : top (fun j => s (e j)) = top s := by
    refine le_antisymm (Finset.sup_le fun j _ => Finset.le_sup (f := s) (Finset.mem_univ _)) (Finset.sup_le fun j _ => ?_)
    by_cases h : j ∈ Set.range e
    · obtain ⟨i, rfl⟩ := h; exact Finset.le_sup (f := fun j => s (e j)) (Finset.mem_univ i)
    · rw [hout j h]; exact bot_le
  have hwt : ∀ j, wt (fun j => s (e j)) j = wt s (e j) := fun j => by rw [wt, htop, wt]
  have hsum : ∀ f : Fin n → EReal, (∀ j, j ∉ Set.range e → f j = 0) → ∑ j, f j = ∑ j, f (e j) := fun f hf => by
    rw [← Finset.sum_map Finset.univ e f]
    refine (Finset.sum_subset (Finset.subset_univ _) fun j _ hj => hf j fun ⟨i, hi⟩ => hj ?_).symm
    exact hi ▸ Finset.mem_map_of_mem e (Finset.mem_univ i)
  have hS : (∑ i, wt (fun j => s (e j)) i) = ∑ i, wt s i := by
    rw [hsum (wt s) fun j h => wt_bot (hout j h)]
    exact Finset.sum_congr rfl fun j _ => hwt j
  rw [row, row, hS, hsum]
  · exact Finset.sum_congr rfl fun j _ => by rw [hwt]
  · intro j h
    rw [wt_bot (hout j h), Ideal.zero_div (sum_wt_ne ht h₀), zero_mul]

/-! ## The masked scores -/

/-- A masked score: the scaled product inside the band, minus infinity outside. -/
def sc (P : Prop) [Decidable P] (x : EReal) : EReal := if P then x * (((Real.sqrt 128)⁻¹ : ℝ) : EReal) else ⊥

theorem sc_congr {P Q : Prop} [Decidable P] [Decidable Q] (h : P ↔ Q) {x y : EReal} (hx : x = y) : sc P x = sc Q y := by
  subst hx; unfold sc; simp only [h]

/-- Rows within 128 of each other. -/
abbrev Near (i j : ℕ) : Prop := i ≤ j + 128 ∧ j ≤ i + 128

/-! ## The output, as one formula of the whole arrays -/

variable (X : Fin 2048 → Fin 1024 → EReal) (W : Fin 1024 → Fin 4096 → EReal) (K V : Fin 2048 → Fin 32 → Fin 128 → EReal)
  (O : Fin 4096 → Fin 1024 → EReal)

def hdOf (L : Fin 4096) : Fin 32 := ⟨L.val / 128, by omega⟩
def clOf (L : Fin 4096) : Fin 128 := ⟨L.val % 128, Nat.mod_lt _ (by decide)⟩

/-- The score of query row `i` against key row `j`, head `H`. -/
def score (i : Fin 2048) (H : Fin 32) (j : Fin 2048) : EReal :=
  sc (Near i.val j.val) (∑ e : Fin 128, (∑ t : Fin 1024, X i t * W t ⟨H.val * 128 + e.val, by omega⟩) * K j H e)
/-- What column `L` of the attention's output adds to the result. -/
def term (i : Fin 2048) (e : Fin 1024) (L : Fin 4096) : EReal :=
  row (score X W K i (hdOf L)) (fun j => V j (hdOf L) (clOf L)) * O L e

/-- The keys from row `w`, 512 of them. -/
def win {w : ℕ} (hw : w ≤ 1536) : Fin 512 ↪ Fin 2048 :=
  ⟨fun j => ⟨w + j.val, by omega⟩, fun a b h => Fin.ext (by have := congrArg Fin.val h; simp only at this; omega)⟩

/-- A window that holds the band suffices. -/
theorem term_window (hX : ∀ i t, Real' (X i t)) (hW : ∀ t l, Real' (W t l)) (hK : ∀ j h e, Real' (K j h e)) (i : Fin 2048) (e : Fin 1024)
    (L : Fin 4096) {w : ℕ} (hw : w ≤ 1536) (hc : ∀ j : Fin 2048, Near i.val j.val → w ≤ j.val ∧ j.val < w + 512) :
    term X W K V O i e L = row (fun j => score X W K i (hdOf L) (win hw j)) (fun j => V (win hw j) (hdOf L) (clOf L)) * O L e := by
  have hr : ∀ j, Real' ((∑ e : Fin 128, (∑ t : Fin 1024, X i t * W t ⟨(hdOf L).val * 128 + e.val, by omega⟩) * K j (hdOf L) e)
      * (((Real.sqrt 128)⁻¹ : ℝ) : EReal)) := fun j =>
    (Real'.sum _ fun e => (Real'.sum _ fun t => (hX i t).mul (hW t _)).mul (hK j _ e)).mul ⟨_, rfl⟩
  rw [term, row_window (win hw) (j₀ := i)]
  · intro j hj
    refine if_neg fun hn => hj ⟨⟨j.val - w, ?_⟩, Fin.ext ?_⟩
    · have := hc j hn; omega
    · have := hc j hn; show w + (j.val - w) = j.val; omega
  · intro j
    unfold score sc
    split
    · exact (hr j).ne_top
    · exact bot_ne_top
  · unfold score sc
    rw [if_pos ⟨by omega, by omega⟩]
    exact (hr i).ne_bot

end Cert.Value
end
-- ==== Proof.Value.Band.lean ====
/-
The band as the programs compute it, on 32-bit words.
-/
module

public import proofs.«01_k».proof.Proof.Value.Window
public import Idealize.ShloMosaic.PureOps.Float

@[expose] public section

namespace Cert.Value

open Idealize.ShloMosaic

theorem absi_sub {a b : ℕ} (ha : a < 4096) (hb : b < 4096) :
    IntOp.absi (BitVec.ofNat 32 a - BitVec.ofNat 32 b) = BitVec.ofNat 32 (if b ≤ a then a - b else b - a) := by
  unfold IntOp.absi
  split
  · have h : (BitVec.ofNat 32 a - BitVec.ofNat 32 b).toNat = (2 ^ 32 - b + a) % 2 ^ 32 := by
      rw [BitVec.toNat_sub, BitVec.toNat_ofNat, BitVec.toNat_ofNat]; omega
    rename_i hm
    rw [BitVec.msb_eq_decide, h, decide_eq_true_iff] at hm
    rw [if_neg (by omega)]
    apply BitVec.eq_of_toNat_eq
    rw [BitVec.toNat_neg, h, BitVec.toNat_ofNat]
    omega
  · have h : (BitVec.ofNat 32 a - BitVec.ofNat 32 b).toNat = (2 ^ 32 - b + a) % 2 ^ 32 := by
      rw [BitVec.toNat_sub, BitVec.toNat_ofNat, BitVec.toNat_ofNat]; omega
    rename_i hm
    rw [BitVec.msb_eq_decide, h, decide_eq_true_iff] at hm
    rw [if_pos (by omega)]
    apply BitVec.eq_of_toNat_eq
    rw [h, BitVec.toNat_ofNat]
    omega

/-- Two rows' words are within 128 of each other exactly when the rows are. -/
theorem near_word {a b : ℕ} (ha : a < 4096) (hb : b < 4096) :
    IntOp.cmpi .sle (IntOp.absi (BitVec.ofNat 32 a - BitVec.ofNat 32 b)) 128#32 = 1#1 ↔ Near a b := by
  rw [absi_sub ha hb]
  have h : ∀ n, n < 4096 → (IntOp.cmpi .sle (BitVec.ofNat 32 n) 128#32 = 1#1 ↔ n ≤ 128) := fun n hn => by
    have hi : (BitVec.ofNat 32 n).toInt = n := by
      rw [BitVec.toInt_eq_toNat_of_lt (by rw [BitVec.toNat_ofNat]; omega), BitVec.toNat_ofNat]; omega
    unfold IntOp.cmpi
    simp only [BitVec.sle, hi]
    have : (128#32).toInt = 128 := by decide
    rw [this]
    by_cases hh : n ≤ 128
    · simp [hh]
    · simp [hh]
  rw [h _ (by split <;> omega)]
  unfold Near
  split <;> omega

end Cert.Value
-- ==== Proof.Value.KChunk.lean ====
/-
What one chunk of the kernel holds at an index, over the extended reals.
-/
module

public import proofs.«01_k».proof.Proof.KernelIdeal.Chunk
public import proofs.«01_k».proof.Proof.Value.Consts
public import proofs.«01_k».proof.Proof.Value.Band
public import Idealize.ShloMosaic.Lib.Pointwise

@[expose] public section

noncomputable section

namespace Cert.Value

open Cert.KernelIdeal Cert.KernelIdeal.Gen Cert.KernelIdealProof
open Idealize.ShloMosaic

theorem scaleC_eq : scaleC (F := Ideal) = (((Real.sqrt 128)⁻¹ : ℝ) : EReal) := IdealRules.named_const.ideal_named_scalar _ _ _ _ rfl
theorem maskC_eq : maskC (F := Ideal) = (⊥ : EReal) := IdealRules.named_const.ideal_named_scalar _ _ _ _ rfl

theorem select_eq (b : BitVec 1) (x y : EReal) : Scalar.select b x y = if b = 1#1 then x else y := by
  unfold Scalar.select
  split <;> simp_all

set_option maxRecDepth 16384 in
/-- One head at a row and a column. -/
theorem headG_apply (b : IVec S256x512 1) (q : FVec Ideal S256x128 .f32) (kh vh : Vec Ideal S512x128 .f32) (r : Fin 256) (d : Fin 128) :
    headG (F := Ideal) b q kh vh (ix2 r d)
      = row (fun j : Fin 512 => sc (b (ix2 r j) = 1#1) (∑ e : Fin 128, q (ix2 r e) * kh (ix2 j e))) (fun j => vh (ix2 j d)) := by
  pointwise [headG, normG, expG, scoreG]
  simp only [ofBits_neg_inf, scaleC_eq, maskC_eq, select_eq]
  rfl

set_option maxRecDepth 16384 in
theorem projG_apply (x : Vec Ideal S256x1024 .f32) (wq : Vec Ideal S1024x1024 .f32) (r : Fin 256) (l : Fin 1024) :
    projG (F := Ideal) x wq (ix2 r l) = ∑ t : Fin 1024, x (ix2 r t) * wq (ix2 t l) := by
  pointwise [projG]

/-- Column `l` of the attention's output: head `l / 128`, its column `l % 128`. -/
def headV (b : IVec S256x512 1) (p : FVec Ideal S256x1024 .f32) (k v : ℕ → Vec Ideal S512x128 .f32) (r : Fin 256) (l : Fin 1024) : EReal :=
  row (fun j : Fin 512 => sc (b (ix2 r j) = 1#1) (∑ e : Fin 128, p (ix2 r ⟨128 * (l.val / 128) + e.val, by omega⟩) * k (l.val / 128) (ix2 j e)))
    (fun j => v (l.val / 128) (ix2 j ⟨l.val % 128, Nat.mod_lt _ (by decide)⟩))

theorem piece (b : IVec S256x512 1) (p : FVec Ideal S256x1024 .f32) (k v : ℕ → Vec Ideal S512x128 .f32) (r : Fin 256) (l : Fin 1024)
    {h o : ℕ} (hl : l.val / 128 = h) (ho : o = 128 * h) (pf) {d : Fin 128} (hd : d.val = l.val % 128) :
    headG (F := Ideal) b (extractStridedSlice S256x128 ![0, o] p pf) (k h) (v h) (ix2 r d) = headV b p k v r l := by
  subst hl
  obtain rfl : d = ⟨l.val % 128, Nat.mod_lt _ (by decide)⟩ := Fin.ext hd
  rw [headG_apply, headV]
  refine congrArg (fun s => row s _) (funext fun j => congrArg _ (Finset.sum_congr rfl fun e _ => ?_))
  refine congrArg (· * _) (congrArg p ?_)
  funext a
  refine Fin.ext ?_
  match a with
  | ⟨0, _⟩ => exact Nat.zero_add _
  | ⟨1, _⟩ => exact congrArg (· + e.val) ho

theorem either {c : Prop} [Decidable c] {x : c → EReal} {y : ¬c → EReal} {z : EReal} (hx : ∀ h, x h = z) (hy : ∀ h, y h = z) : dite c x y = z := by
  split
  · exact hx _
  · exact hy _

set_option maxRecDepth 16384 in
theorem chunkG_apply (b : IVec S256x512 1) (x : Vec Ideal S256x1024 .f32) (wq wo : Vec Ideal S1024x1024 .f32) (k v : ℕ → Vec Ideal S512x128 .f32)
    (r : Fin 256) (e : Fin 1024) :
    chunkG (F := Ideal) b x wq wo k v (ix2 r e) = ∑ l : Fin 1024, headV b (projG x wq) k v r l * wo (ix2 l e) := by
  pointwise [chunkG]
  refine Finset.sum_congr rfl fun l _ => congrArg (· * _) ?_
  have hl := l.isLt
  generalize projG x wq = p
  refine either (fun h0 => ?_) fun h0 => either (fun h1 => ?_) fun h1 => either (fun h2 => ?_) fun h2 => either (fun h3 => ?_) fun h3 =>
    either (fun h4 => ?_) fun h4 => either (fun h5 => ?_) fun h5 => either (fun h6 => ?_) fun h6 => ?_
  all_goals
    refine piece b p k v r l ?_ ?_ _ ?_
    · omega
    · decide
    · show _ = l.val % 128
      simp only
      omega

end Cert.Value
end
-- ==== Proof.Value.KPart.lean ====
/-
What a device adds to the output, and the sum of the four devices, as terms of the whole arrays.
-/
module

public import proofs.«01_k».proof.Proof.Value.KChunk

@[expose] public section

noncomputable section

namespace Cert.Value

open Cert.KernelIdeal Cert.KernelIdeal.Gen Cert.KernelIdealProof
open Idealize.ShloMosaic

set_option maxRecDepth 16384

theorem band_apply (t : Fin 8) (r : Fin 256) (j : Fin 512) :
    bandW (BitVec.ofNat 32 (256 * t.val)) (ix2 r j) = 1#1 ↔ Near (256 * t.val + r.val) (ks (256 * t.val) + j.val) := by
  have hk : Scalar.minsi 1536#32 (Scalar.maxsi 0#32 (Scalar.subi (BitVec.ofNat 32 (256 * t.val)) 128#32)) = BitVec.ofNat 32 (ks (256 * t.val)) := by
    revert t; decide
  have hle : ks (256 * t.val) ≤ 1536 := Nat.min_le_left _ _
  pointwise [bandW]
  rw [hk]
  have ha : ∀ a b : ℕ, IntOp.addi (BitVec.ofNat 32 a) (BitVec.ofNat 32 b) = BitVec.ofNat 32 (b + a) := fun a b => by
    rw [Nat.add_comm]; exact (BitVec.ofNat_add a b).symm
  rw [ha, ha]
  exact near_word (by omega) (by omega)

variable {I : Ins Ideal}

theorem rdO_x {o : ℕ} {r : Fin 256} {i : Fin 2048} (hi : i.val = o + r.val) (t : Fin 1024) :
    rdO o (XG I) (ix2 r t) = I.x (ix3 0 i t) :=
  congrArg I.x (idx3_ext rfl (show (o + r.val) % 2048 = i.val by omega) rfl)

theorem head_ix {w h : ℕ} {j : Fin 512} {k : Fin 2048} (hk : k.val = w + j.val) (hh : h < 8) (e : Fin 128) :
    headIx (ixK w h (ix2 j e)) = ix4 0 k ⟨h, hh⟩ e :=
  idx4_ext rfl (show (w + j.val) % 2048 = k.val by omega) (show (128 * h + e.val) % 1024 / 128 = h by omega)
    (show (128 * h + e.val) % 1024 % 128 = e.val by omega)

variable (X : Fin 2048 → Fin 1024 → EReal) (W : Fin 1024 → Fin 4096 → EReal) (K V : Fin 2048 → Fin 32 → Fin 128 → EReal)
  (O : Fin 4096 → Fin 1024 → EReal)

/-- A device's arguments are its parts of the whole arrays. -/
structure Cut (I : Ins Ideal) (c : Dev nD) : Prop where
  x : ∀ i t, I.x (ix3 0 i t) = X i t
  wq : ∀ t l, I.wq (ix2 t l) = W t l
  k : ∀ j (h : Fin 8) e, I.k (ix4 0 j h e) = K j ⟨8 * c.val + h.val, by have : c.val < 4 := c.isLt; omega⟩ e
  v : ∀ j (h : Fin 8) e, I.v (ix4 0 j h e) = V j ⟨8 * c.val + h.val, by have : c.val < 4 := c.isLt; omega⟩ e
  wo : ∀ l e, I.wo (ix2 l e) = O l e

/-- Column `l` of device `c`'s heads, among all heads' columns. -/
def colOf (c : Dev nD) (l : Fin 1024) : Fin 4096 := ⟨1024 * c.val + l.val, by have : c.val < 4 := c.isLt; omega⟩

variable {X W K V O}

/-- A device's share at an index. -/
theorem part_apply {J : Dev nD → Ins Ideal} {c : Dev nD} (hJ : Cut X W K V O (J c) c)
    (hX : ∀ i t, Real' (X i t)) (hW : ∀ t l, Real' (W t l)) (hK : ∀ j h e, Real' (K j h e)) (i : Fin 2048) (e : Fin 1024) :
    part J c (ix2 i e) = ∑ l : Fin 1024, term X W K V O i e (colOf c l) := by
  have hc : c.val < 4 := c.isLt
  obtain ⟨t, ht⟩ : ∃ t : Fin 8, t.val = i.val / 256 := ⟨⟨i.val / 256, by omega⟩, rfl⟩
  obtain ⟨r, hr⟩ : ∃ r : Fin 256, r.val = i.val % 256 := ⟨⟨i.val % 256, Nat.mod_lt _ (by decide)⟩, rfl⟩
  have h0 : part J c (ix2 i e) = chunkV (J c) c (256 * t.val) (ix2 r e) := by
    show chunkV (J c) c (256 * (i.val / 256)) _ = _
    rw [ht]
    exact congrArg _ (idx2_ext hr.symm rfl)
  have hi : i.val = 256 * t.val + r.val := by omega
  have hw : ks (256 * t.val) ≤ 1536 := Nat.min_le_left _ _
  rw [h0, chunkV, chunkG_apply]
  refine Finset.sum_congr rfl fun l _ => ?_
  rw [term_window X W K V O hX hW hK i e (colOf c l) hw
    (fun j hj => by unfold Near ks at *; have := j.isLt; have := t.isLt; constructor <;> omega)]
  have hl8 : l.val / 128 < 8 := by omega
  have hH : hdOf (colOf c l) = ⟨8 * c.val + l.val / 128, by omega⟩ := Fin.ext (show (1024 * c.val + l.val) / 128 = 8 * c.val + l.val / 128 by omega)
  have hC : clOf (colOf c l) = ⟨l.val % 128, Nat.mod_lt _ (by decide)⟩ := Fin.ext (show (1024 * c.val + l.val) % 128 = l.val % 128 by omega)
  have hO : WO (J c) c (ix2 l e) = O (colOf c l) e :=
    (congrArg (J c).wo (idx2_ext rfl rfl)).trans (hJ.wo (colOf c l) e)
  have hQ : ∀ t' : Fin 1024, ∀ l' : Fin 1024, WQ (J c) c (ix2 t' l') = W t' (colOf c l') := fun t' l' =>
    (congrArg (J c).wq (idx2_ext rfl rfl)).trans (hJ.wq t' (colOf c l'))
  have hKr : ∀ (j : Fin 512) (e' : Fin 128), rdK (ks (256 * t.val)) (l.val / 128) (KG (J c)) (ix2 j e') = K (win hw j) (hdOf (colOf c l)) e' := fun j e' => by
    rw [hH]
    exact (congrArg (J c).k (head_ix (k := win hw j) rfl hl8 e')).trans (hJ.k _ ⟨_, hl8⟩ e')
  have hVr : ∀ (j : Fin 512) (e' : Fin 128), rdK (ks (256 * t.val)) (l.val / 128) (VG (J c)) (ix2 j e') = V (win hw j) (hdOf (colOf c l)) e' := fun j e' => by
    rw [hH]
    exact (congrArg (J c).v (head_ix (k := win hw j) rfl hl8 e')).trans (hJ.v _ ⟨_, hl8⟩ e')
  rw [hO, headV]
  refine congrArg (· * _) (congrArg₂ row (funext fun j => ?_) (funext fun j => ?_))
  · refine sc_congr ((band_apply t r j).trans (by rw [← hi]; rfl)) (Finset.sum_congr rfl fun d _ => ?_)
    rw [hKr, projG_apply]
    refine congrArg (· * _) (Finset.sum_congr rfl fun t' _ => ?_)
    rw [rdO_x hi, hJ.x, hQ]
    refine congrArg (fun L => X i t' * W t' L) (Fin.ext ?_)
    rw [hH]
    show 1024 * c.val + (128 * (l.val / 128) + d.val) = (8 * c.val + l.val / 128) * 128 + d.val
    omega
  · exact (hVr j _).trans (by rw [hC])

/-- The ring's sum, in whatever order a chunk takes the devices, is the sum over all of them. -/
theorem acc_sum (p : Dev nD → OBuf Ideal) (b : Bool) (d : Dev nD) (i : S2048x1024.Idx) :
    @Eq EReal (acc p b 3 d i) (∑ c : Dev nD, (show EReal from p c i)) := by
  show (p d i : EReal) + ((p (bwd b d) i : EReal) + ((p (bwd b (bwd b d)) i : EReal) + (p (bwd b (bwd b (bwd b d))) i : EReal))) = _
  have hs : ∀ f : Dev nD → EReal, ∑ c : Dev nD, f c = f 0 + (f 1 + (f 2 + f 3)) := fun f => by
    rw [show (∑ c : Dev nD, f c) = ∑ c : Fin 4, f c from rfl, Fin.sum_univ_four, add_assoc, add_assoc]
  rw [hs]
  have key : ∀ f : Fin 4 → EReal, ∀ b : Bool, ∀ d : Fin 4,
      f d + (f (bwd b d) + (f (bwd b (bwd b d)) + f (bwd b (bwd b (bwd b d))))) = f 0 + (f 1 + (f 2 + f 3)) := fun f b d => by
    have hb : ∀ b : Bool, ∀ d : Fin 4, (d = 0 ∧ (b, bwd b d, bwd b (bwd b d), bwd b (bwd b (bwd b d))) = (true, (1 : Fin 4), (2 : Fin 4), (3 : Fin 4))) ∨
        (d = 1 ∧ (b, bwd b d, bwd b (bwd b d), bwd b (bwd b (bwd b d))) = (true, (2 : Fin 4), (3 : Fin 4), (0 : Fin 4))) ∨
        (d = 2 ∧ (b, bwd b d, bwd b (bwd b d), bwd b (bwd b (bwd b d))) = (true, (3 : Fin 4), (0 : Fin 4), (1 : Fin 4))) ∨
        (d = 3 ∧ (b, bwd b d, bwd b (bwd b d), bwd b (bwd b (bwd b d))) = (true, (0 : Fin 4), (1 : Fin 4), (2 : Fin 4))) ∨
        (d = 0 ∧ (b, bwd b d, bwd b (bwd b d), bwd b (bwd b (bwd b d))) = (false, (3 : Fin 4), (2 : Fin 4), (1 : Fin 4))) ∨
        (d = 1 ∧ (b, bwd b d, bwd b (bwd b d), bwd b (bwd b (bwd b d))) = (false, (0 : Fin 4), (3 : Fin 4), (2 : Fin 4))) ∨
        (d = 2 ∧ (b, bwd b d, bwd b (bwd b d), bwd b (bwd b (bwd b d))) = (false, (1 : Fin 4), (0 : Fin 4), (3 : Fin 4))) ∨
        (d = 3 ∧ (b, bwd b d, bwd b (bwd b d), bwd b (bwd b (bwd b d))) = (false, (2 : Fin 4), (1 : Fin 4), (0 : Fin 4))) := by decide
    rcases hb b d with ⟨h, hh⟩ | ⟨h, hh⟩ | ⟨h, hh⟩ | ⟨h, hh⟩ | ⟨h, hh⟩ | ⟨h, hh⟩ | ⟨h, hh⟩ | ⟨h, hh⟩ <;>
      (obtain ⟨-, h1, h2, h3⟩ : b = _ ∧ bwd b d = _ ∧ bwd b (bwd b d) = _ ∧ bwd b (bwd b (bwd b d)) = _ := by simpa only [Prod.mk.injEq] using hh
       rw [h3, h2, h1, h] <;> ac_rfl)
  exact key (fun c => p c i) b d

/-- The finished output at an index: the sum over every head's columns. -/
theorem fin_apply {J : Dev nD → Ins Ideal} (hJ : ∀ c, Cut X W K V O (J c) c)
    (hX : ∀ i t, Real' (X i t)) (hW : ∀ t l, Real' (W t l)) (hK : ∀ j h e, Real' (K j h e)) (i : Fin 2048) (e : Fin 1024) :
    @Eq EReal (fin (part J) (ix2 i e)) (∑ L : Fin 4096, term X W K V O i e L) := by
  refine (acc_sum (part J) _ _ _).trans ?_
  refine (Finset.sum_congr rfl fun c _ => part_apply (hJ c) hX hW hK i e).trans ?_
  rw [← Fintype.sum_prod_type' (f := fun (c : Dev nD) (l : Fin 1024) => term X W K V O i e (colOf c l))]
  refine Fintype.sum_equiv (finProdFinEquiv (m := 4) (n := 1024)) _ _ fun x => congrArg _ (Fin.ext ?_)
  show 1024 * x.1.val + x.2.val = x.2.val + 1024 * x.1.val
  omega

end Cert.Value
end
-- ==== Proof.Value.Ref.lean ====
/-
What the reference computes at an index, over the extended reals.
-/
module

public import proofs.«01_k».proof.Proof.Gen.ReferenceIdeal
public import proofs.«01_k».proof.Proof.Gen.ReferenceIdeal.Run
public import proofs.«01_k».proof.Proof.Value.Consts
public import proofs.«01_k».proof.Proof.Value.Band
public import Idealize.ShloMosaic.Lib.Pointwise
public import Idealize.ShloMosaic.Lib.Routing.OpsOrder

@[expose] public section

noncomputable section

namespace Cert.Value

open Idealize.ShloMosaic
open Cert.ReferenceIdeal Cert.ReferenceIdeal.Gen Cert.ReferenceIdeal.Value

/-- Every row keeps a key: its own. -/
theorem keep (i : Fin 2048) :
    Finset.fold IntOp.ori (0#1) (fun j : Fin 2048 => IntOp.cmpi .sle (IntOp.absi (IntOp.subi (BitVec.ofNat 32 i.val) (BitVec.ofNat 32 j.val))) 128#32)
      Finset.univ = 1#1 :=
  (Routing.fold_ori _ _).2 ⟨i, Finset.mem_univ _, (near_word (by omega) (by omega)).2 ⟨by omega, by omega⟩⟩

theorem select_one {α : Type} (x y : α) : Scalar.select 1#1 x y = x := rfl

theorem select_near (i j : Fin 2048) (x : EReal) :
    Scalar.select (IntOp.cmpi .sle (IntOp.absi (IntOp.subi (BitVec.ofNat 32 i.val) (BitVec.ofNat 32 j.val))) 128#32)
      (x * (((Real.sqrt 128)⁻¹ : ℝ) : EReal)) ⊥ = sc (Near i.val j.val) x := by
  have h := near_word (a := i.val) (b := j.val) (by omega) (by omega)
  unfold sc
  split
  · rename_i hn
    have h1 : IntOp.cmpi .sle (IntOp.absi (IntOp.subi (BitVec.ofNat 32 i.val) (BitVec.ofNat 32 j.val))) 128#32 = 1#1 := h.2 hn
    rw [h1]; rfl
  · rename_i hn
    have h1 : IntOp.cmpi .sle (IntOp.absi (IntOp.subi (BitVec.ofNat 32 i.val) (BitVec.ofNat 32 j.val))) 128#32 = 0#1 :=
      (BitVec.eq_zero_or_eq_one _).resolve_right fun h' => hn (h.1 h')
    rw [h1]; rfl

theorem const_inf : id (constant (F := Ideal) S_ .f32 0xFF800000#32) ix0 = (⊥ : EReal) := ofBits_neg_inf

theorem fold_top {n : ℕ} (s : Fin n → EReal) : Finset.fold max ⊥ s Finset.univ = top s := rfl

/-! ## The stages -/

def qT (x : FVec Ideal S1x2048x1024 .f32) (w : FVec Ideal S1024x4096 .f32) : FVec Ideal S1x2048x32x128 .f32 :=
  shapeCast S1x2048x32x128 (Host.dotGeneral dot_S1x2048x1024_S1024x4096_S1x2048x4096_2_0_01_1_n_n none x w) shapeCasts_S1x2048x4096_S1x2048x32x128
def bandT : IVec S2048x2048 1 :=
  cmpi .sle (absi (subi (broadcastInDim S2048x2048 ![0, 1] bcast_S2048x1_S2048x2048_0_1 (broadcastInDim S2048x1 ![0] bcast_S2048_S2048x1_0 (iotaInDim S2048 32 0)))
    (broadcastInDim S2048x2048 ![0, 1] bcast_S1x2048_S2048x2048_0_1 (broadcastInDim S1x2048 ![1] bcast_S2048_S1x2048_1 (iotaInDim S2048 32 0)))))
    (broadcastInDim S2048x2048 ![] bcast_S_S2048x2048 (constantI S_ 32 128#32))
def keepT : IVec S2048 1 := Host.reduce IntOp.ori bandT (constantI S_ 1 0#1) reducesTo_S2048x2048_S2048_d1 h_S_
def scoreT (q k : FVec Ideal S1x2048x32x128 .f32) : FVec Ideal S1x32x2048x2048 .f32 :=
  select (broadcastInDim S1x32x2048x2048 ![0, 1, 2, 3] bcast_S1x1x2048x2048_S1x32x2048x2048_0_1_2_3
      (broadcastInDim S1x1x2048x2048 ![2, 3] bcast_S2048x2048_S1x1x2048x2048_2_3 bandT))
    (Host.divf (Host.dotGeneral dot_S1x2048x32x128_S1x2048x32x128_S1x32x2048x2048_3_3_1_1_02_02 none q k)
      (broadcastInDim S1x32x2048x2048 ![] bcast_S_S1x32x2048x2048 (Host.sqrt (constant S_ .f32 0x43000000#32))))
    (broadcastInDim S1x32x2048x2048 ![] bcast_S_S1x32x2048x2048 (id (constant S_ .f32 0xFF800000#32)))
def expT (s : FVec Ideal S1x32x2048x2048 .f32) : FVec Ideal S1x32x2048x2048 .f32 :=
  Host.exp (subf s (broadcastInDim S1x32x2048x2048 ![0, 1, 2, 3] bcast_S1x32x2048x1_S1x32x2048x2048_0_1_2_3
    (broadcastInDim S1x32x2048x1 ![0, 1, 2] bcast_S1x32x2048_S1x32x2048x1_0_1_2
      (Host.reduce FloatOps.maximumf s (constant S_ .f32 0xFF800000#32) reducesTo_S1x32x2048x2048_S1x32x2048_d3 h_S_))))
def normT (kp : IVec S2048 1) (e : FVec Ideal S1x32x2048x2048 .f32) : FVec Ideal S1x32x2048x2048 .f32 :=
  select (broadcastInDim S1x32x2048x2048 ![0, 1, 2, 3] bcast_S1x1x2048x1_S1x32x2048x2048_0_1_2_3 (broadcastInDim S1x1x2048x1 ![2] bcast_S2048_S1x1x2048x1_2 kp))
    (Host.divf e (broadcastInDim S1x32x2048x2048 ![0, 1, 2, 3] bcast_S1x32x2048x1_S1x32x2048x2048_0_1_2_3
      (select (broadcastInDim S1x32x2048x1 ![0, 1, 2, 3] bcast_S1x1x2048x1_S1x32x2048x1_0_1_2_3 (broadcastInDim S1x1x2048x1 ![2] bcast_S2048_S1x1x2048x1_2 kp))
        (broadcastInDim S1x32x2048x1 ![0, 1, 2] bcast_S1x32x2048_S1x32x2048x1_0_1_2
          (Host.reduceAdd e (constant S_ .f32 0x00000000#32) reducesTo_S1x32x2048x2048_S1x32x2048_d3 h_S_))
        (broadcastInDim S1x32x2048x1 ![] bcast_S_S1x32x2048x1 (id (constant S_ .f32 0x3F800000#32))))))
    (broadcastInDim S1x32x2048x2048 ![] bcast_S_S1x32x2048x2048 (id (constant S_ .f32 0x00000000#32)))
def ctxT (w : FVec Ideal S1x32x2048x2048 .f32) (v : FVec Ideal S1x2048x32x128 .f32) : FVec Ideal S1x2048x32x128 .f32 :=
  transpose S1x2048x32x128 [0, 3, 1, 2] (Host.dotGeneral dot_S1x2048x32x128_S1x32x2048x2048_S1x32x128x2048_1_3_3_2_02_01 none v w)
    transposes_S1x32x128x2048_S1x2048x32x128_0_3_1_2
def outT (z : FVec Ideal S1x2048x32x128 .f32) (wo : FVec Ideal S4096x1024 .f32) : FVec Ideal S2048x1024 .f32 :=
  shapeCast S2048x1024 (Host.dotGeneral dot_S1x2048x4096_S4096x1024_S1x2048x1024_2_0_01_1_n_n none
    (shapeCast S1x2048x4096 z shapeCasts_S1x2048x32x128_S1x2048x4096) wo) shapeCasts_S1x2048x1024_S2048x1024

set_option maxRecDepth 16384

theorem qT_apply (x : FVec Ideal S1x2048x1024 .f32) (w : FVec Ideal S1024x4096 .f32) (i : Fin 2048) (h : Fin 32) (e : Fin 128) :
    qT x w (ix4 0 i h e) = ∑ t : Fin 1024, x (ix3 0 i t) * w (ix2 t ⟨h.val * 128 + e.val, by omega⟩) := by
  pointwise [qT]

theorem bandT_apply (i j : Fin 2048) :
    bandT (ix2 i j) = IntOp.cmpi .sle (IntOp.absi (IntOp.subi (BitVec.ofNat 32 i.val) (BitVec.ofNat 32 j.val))) 128#32 := by
  pointwise [bandT]

theorem keepT_apply (i : Fin 2048) : keepT (ix1 i) = 1#1 := by
  pointwise [keepT]
  simp only [bandT_apply]
  exact keep i

theorem scoreT_apply (q k : FVec Ideal S1x2048x32x128 .f32) (h : Fin 32) (i j : Fin 2048) :
    scoreT q k (ix4 0 h i j) = sc (Near i.val j.val) (∑ e : Fin 128, q (ix4 0 i h e) * k (ix4 0 j h e)) := by
  pointwise [scoreT]
  simp only [bandT_apply, const_inf, div_root, select_near]

theorem expT_apply (s : FVec Ideal S1x32x2048x2048 .f32) (h : Fin 32) (i j : Fin 2048) :
    expT s (ix4 0 h i j) = wt (fun j => s (ix4 0 h i j)) j := by
  pointwise [expT]
  simp only [ofBits_neg_inf, fold_top]
  rfl

theorem normT_apply (kp : IVec S2048 1) (hk : ∀ i : Fin 2048, kp (ix1 i) = 1#1) (e : FVec Ideal S1x32x2048x2048 .f32) (h : Fin 32) (i j : Fin 2048) :
    normT kp e (ix4 0 h i j) = Ideal.div (e (ix4 0 h i j)) (∑ k : Fin 2048, e (ix4 0 h i k)) := by
  pointwise [normT]
  simp only [hk, select_one]

theorem ctxT_apply (w : FVec Ideal S1x32x2048x2048 .f32) (v : FVec Ideal S1x2048x32x128 .f32) (i : Fin 2048) (h : Fin 32) (d : Fin 128) :
    ctxT w v (ix4 0 i h d) = ∑ j : Fin 2048, v (ix4 0 j h d) * w (ix4 0 h i j) := by
  pointwise [ctxT]

theorem outT_apply (z : FVec Ideal S1x2048x32x128 .f32) (wo : FVec Ideal S4096x1024 .f32) (i : Fin 2048) (e : Fin 1024) :
    outT z wo (ix2 i e) = ∑ L : Fin 4096, z (ix4 0 i (hdOf L) (clOf L)) * wo (ix2 L e) := by
  pointwise [outT, hdOf, clOf]

theorem all_apply (x : FVec Ideal S1x2048x1024 .f32) (w : FVec Ideal S1024x4096 .f32) (k v : FVec Ideal S1x2048x32x128 .f32) (wo : FVec Ideal S4096x1024 .f32)
    (i : Fin 2048) (e : Fin 1024) :
    outT (ctxT (normT keepT (expT (scoreT (qT x w) k))) v) wo (ix2 i e)
      = ∑ L : Fin 4096, term (fun i t => x (ix3 0 i t)) (fun t l => w (ix2 t l)) (fun j h e => k (ix4 0 j h e)) (fun j h e => v (ix4 0 j h e)) (fun l e => wo (ix2 l e)) i e L := by
  simp only [outT_apply, ctxT_apply, normT_apply keepT keepT_apply, expT_apply, scoreT_apply, qT_apply]
  refine Finset.sum_congr rfl fun L _ => ?_
  rw [term, row]
  refine congrArg (· * _) (Finset.sum_congr rfl fun j _ => ?_)
  exact mul_comm _ _

variable (m : (ℓ : Loc nD τ sig) → Buf (Elt Ideal) ℓ)

/-! The reference's arguments, by their coordinates. -/
def rX (i : Fin 2048) (t : Fin 1024) : EReal := m ((0 : Dev nD).tc.loc main_arg0) (ix3 0 i t)
def rW (t : Fin 1024) (l : Fin 4096) : EReal := m ((0 : Dev nD).tc.loc main_arg1) (ix2 t l)
def rK (j : Fin 2048) (h : Fin 32) (e : Fin 128) : EReal := m ((0 : Dev nD).tc.loc main_arg2) (ix4 0 j h e)
def rV (j : Fin 2048) (h : Fin 32) (e : Fin 128) : EReal := m ((0 : Dev nD).tc.loc main_arg3) (ix4 0 j h e)
def rO (l : Fin 4096) (e : Fin 1024) : EReal := m ((0 : Dev nD).tc.loc main_arg4) (ix2 l e)

/-- The reference's result at row `i`, column `e`. -/
theorem ref_apply (i : Fin 2048) (e : Fin 1024) :
    @Eq EReal (res_main_v36 (F := Ideal) m 0 (ix2 i e)) (∑ L : Fin 4096, term (rX m) (rW m) (rK m) (rV m) (rO m) i e L) :=
  all_apply _ _ _ _ _ i e

end Cert.Value
end
-- ==== Proof.Value.Main.lean ====
/-
The kernel's output and the reference's are the same array, given finite `x`, `Wq` and keys.
-/
module

public import proofs.«01_k».proof.Defs
public import proofs.«01_k».proof.Proof.Value.KPart
public import proofs.«01_k».proof.Proof.Value.Ref
public import proofs.«01_k».proof.Proof.KernelIdeal.Launch

@[expose] public section

noncomputable section

namespace Cert.Value

open Idealize.ShloMosaic

/-! ## The precondition -/

theorem pre_facts_kernel : Cert.Pre_finite_KernelIdeal.Facts := ⟨by decide, by decide, by decide⟩
theorem pre_facts_reference : Cert.Pre_finite_ReferenceIdeal.Facts := ⟨by decide, by decide, by decide⟩

/-- A value whose magnitude is below infinity is a real. -/
theorem real_of_lt (x : EReal) (h : Ideal.cmp .olt (max x (-x)) (Ideal.ofBits .f32 0x7F800000#32) = 1#1) : Real' x := by
  have hlt : max x (-x) < ⊤ := ofBits_inf ▸ (Ideal.cmp_olt_eq_one (x := max x (-x)) (y := Ideal.ofBits .f32 0x7F800000#32)).1 h
  induction x with
  | bot => simp at hlt
  | top => simp at hlt
  | coe r => exact ⟨r, rfl⟩

section
open Cert.KernelIdeal
variable {m : (ℓ : Loc Cert.KernelIdeal.nD Cert.KernelIdeal.τ Cert.KernelIdeal.sig) → Buf (Elt Ideal) ℓ}
  [Cert.Pre_finite_KernelIdeal.Facts] (h : Cert.Pre_KernelIdeal_finite_KernelIdeal m) (c : Dev Cert.KernelIdeal.nD)
include h

theorem real_x (i : S1x2048x1024.Idx) : Real' (m (c.tc.loc main_arg0) i) := real_of_lt _ (congrFun (h c).1 i)
theorem real_wq (i : S1024x4096.Idx) : Real' (m (c.tc.loc main_arg1) i) := real_of_lt _ (congrFun (h c).2.1 i)
theorem real_k (i : S1x2048x8x128.Idx) : Real' (m (c.tc.loc main_arg2) i) := real_of_lt _ (congrFun (h c).2.2 i)

end

/-! ## The two results -/

section
variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}

/-- The kernel's devices hold the reference's arrays: `x`, `Wq`, `Wo` whole, keys and values by blocks of heads. -/
def Holds (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
    m (c.tc.loc Cert.KernelIdeal.main_arg0) = m' ((0 : Dev Cert.ReferenceIdeal.nD).tc.loc Cert.ReferenceIdeal.main_arg0)
    ∧ m (c.tc.loc Cert.KernelIdeal.main_arg1) = m' ((0 : Dev Cert.ReferenceIdeal.nD).tc.loc Cert.ReferenceIdeal.main_arg1)
    ∧ m (c.tc.loc Cert.KernelIdeal.main_arg2) = Layout.block ⟨4, ![1, 2048, 8, 128]⟩ ⟨4, ![1, 2048, 32, 128]⟩ 2 4 c (m' ((0 : Dev Cert.ReferenceIdeal.nD).tc.loc Cert.ReferenceIdeal.main_arg2))
    ∧ m (c.tc.loc Cert.KernelIdeal.main_arg3) = Layout.block ⟨4, ![1, 2048, 8, 128]⟩ ⟨4, ![1, 2048, 32, 128]⟩ 2 4 c (m' ((0 : Dev Cert.ReferenceIdeal.nD).tc.loc Cert.ReferenceIdeal.main_arg3))
    ∧ m (c.tc.loc Cert.KernelIdeal.main_arg4) = m' ((0 : Dev Cert.ReferenceIdeal.nD).tc.loc Cert.ReferenceIdeal.main_arg4)

/-- Where a block of heads lies among all the heads. -/
theorem block_ix (c : Fin 4) (v : (⟨4, ![1, 2048, 32, 128]⟩ : Shape).Idx → EReal) (j : Fin 2048) (h : Fin 8) (e : Fin 128) (H : Fin 32) (hH : H.val = 8 * c.val + h.val)
    (ht : Layout.Tiles ⟨4, ![1, 2048, 8, 128]⟩ ⟨4, ![1, 2048, 32, 128]⟩ 2 4) :
    Layout.block ⟨4, ![1, 2048, 8, 128]⟩ ⟨4, ![1, 2048, 32, 128]⟩ 2 4 c v ht (ix4 0 j h e) = v (ix4 0 j H e) :=
  congrArg v (Cert.KernelIdealProof.idx4_ext rfl rfl ((show c.val * 8 + h.val = H.val by omega)) rfl)

theorem cut (hm : Holds m m') (c : Dev Cert.KernelIdeal.nD) :
    Cut (rX m') (rW m') (rK m') (rV m') (rO m') (Cert.KernelIdealProof.I m c) c where
  x i t := congrFun (hm c).1 _
  wq t l := congrFun (hm c).2.1 _
  k j h e := (congrFun (hm c).2.2.1 _).trans (block_ix c _ j h e _ rfl _)
  v j h e := (congrFun (hm c).2.2.2.1 _).trans (block_ix c _ j h e _ rfl _)
  wo l e := congrFun (hm c).2.2.2.2 _

theorem real_eq {x y : EReal} (h : x = y) (hx : Real' x) : Real' y := h ▸ hx

theorem results [Cert.Pre_finite_KernelIdeal.Facts] (h : Cert.Pre_KernelIdeal_finite_KernelIdeal m) (hm : Holds m m') :
    (Cert.KernelIdealProof.fin (Cert.KernelIdealProof.part (Cert.KernelIdealProof.I m)) : (⟨2, ![2048, 1024]⟩ : Shape).Idx → EReal) =
      Cert.ReferenceIdeal.Value.res_main_v36 (F := Ideal) m' 0 := by
  funext i
  rw [eq_ix2 i]
  refine (fin_apply (cut hm) ?_ ?_ ?_ (i 0) (i 1)).trans (ref_apply m' (i 0) (i 1)).symm
  · intro i t
    exact real_eq (congrFun (hm 0).1 (ix3 0 i t)) (real_x h 0 (ix3 0 i t))
  · intro t l
    exact real_eq (congrFun (hm 0).2.1 (ix2 t l)) (real_wq h 0 (ix2 t l))
  · intro j H e
    have hc : H.val / 8 < 4 := by omega
    have hh : H.val % 8 < 8 := Nat.mod_lt _ (by decide)
    have hb := (congrFun (hm (⟨H.val / 8, hc⟩ : Fin 4)).2.2.1 (ix4 0 j ⟨H.val % 8, hh⟩ e)).trans
      (block_ix (⟨H.val / 8, hc⟩ : Fin 4) _ j ⟨H.val % 8, hh⟩ e H (by show H.val = 8 * (H.val / 8) + H.val % 8; omega) _)
    exact real_eq hb (real_k h (⟨H.val / 8, hc⟩ : Fin 4) (ix4 0 j ⟨H.val % 8, hh⟩ e))

end

end Cert.Value
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value.Main
public import Idealize.ShloMosaic.Adequacy
public import Idealize.ShloMosaic.Init

@[expose] public section

noncomputable section

namespace Cert.Proof

open Idealize.ShloMosaic Idealize.SL.Sem Cert.Kernel

/-- Every run of the idealized kernel ends with every device holding the reference's result. -/
theorem same : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Value.pre_facts_kernel) :=
  fun m g m' g' hp hm => by
    haveI := Cert.Value.pre_facts_kernel
    refine ⟨Cert.ReferenceIdeal.Value.res_main_v36 (F := Ideal) m' 0, ?_, ?_⟩
    · exact (θ_run _ _ _).mono (fun _ h c => ⟨(h.1 c).1.trans (Cert.Value.results hp hm), (h.1 c).2⟩)
        (Cert.KernelIdealProof.run_out (F := Ideal) m g)
    · exact (θ_run _ _ _).mono (fun _ h => h 0) (Cert.ReferenceIdeal.Value.run (F := Ideal) m' g')

theorem frame_kernel : Cert.quiescent_KernelIdeal (hKernelIdeal := Cert.KernelIdeal.Gen.facts) :=
  fun m g _ => (θ_run _ _ _).mono (fun _ h => ⟨fun c => (h.1 c).2, h.2⟩) (Cert.KernelIdealProof.run_out (F := Ideal) m g)

theorem frame_reference : Cert.quiescent_ReferenceIdeal (hReferenceIdeal := Cert.ReferenceIdeal.Gen.facts) :=
  fun m g _ => (θ_run _ _ _).mono (fun r h => ⟨fun c => (h c).2, sem_eq_zero_of_no_sems (by decide) r.2⟩)
    (Cert.ReferenceIdeal.Value.run (F := Ideal) m g)

theorem claim : Cert.Claim := ⟨Cert.Kernel.Gen.facts, Cert.KernelIdeal.Gen.facts, Cert.ReferenceIdeal.Gen.facts,
  Cert.Value.pre_facts_kernel, Cert.Value.pre_facts_reference,
  fun m g _ => (θ_run _ _ _).mono (fun _ h => ⟨fun c => (h.1 c).2, h.2⟩) (Cert.KernelProof.run_out (F := Bits) m g),
  frame_kernel, fun m g _ => frame_kernel m g trivial,
  frame_reference, fun m g _ => frame_reference m g trivial,
  ⟨IdealRules.named_const.statement Cert.KernelIdeal.κ "scale" .f32 0x3DB504F3#32 (((Real.sqrt 128)⁻¹ : ℝ) : EReal) rfl,
    IdealRules.named_const.statement Cert.KernelIdeal.κ "mask" .f32 0xCE6E6B28#32 ⊥ rfl⟩,
  same⟩

end Cert.Proof

end
